-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v31)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v31) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v72) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x8192x2048 : Shape := ⟨3, ![2, 8192, 2048]⟩
abbrev S4x128 : Shape := ⟨2, ![4, 128]⟩
abbrev S256 : Shape := ⟨1, ![256]⟩
abbrev S_ : Shape := ⟨0, ![]⟩

class Facts : Prop where
  bcast_S_S2x8192x2048 : S_.BroadcastsInDim S2x8192x2048 (![] : Fin 0 → Fin S2x8192x2048.rank)
  bcast_S_S4x128 : S_.BroadcastsInDim S4x128 (![] : Fin 0 → Fin S4x128.rank)
  reducesTo_S4x128_S_d0_1 : S4x128.ReducesTo [0, 1] S_
  h_S_ : 0 < S_.numel

variable [Facts]

def fn {F : FTy → Type} [FloatOps F] (main_arg0 : FVec F S2x8192x2048 .f32) (main_arg1 : FVec F S2x8192x2048 .f32) (main_arg2 : FVec F S2x8192x2048 .f32) (main_arg3 : FVec F S2x8192x2048 .f32) (main_arg4 : FVec F S4x128 .f32) (main_arg5 : FVec F S256 .f32) : IVec S2x8192x2048 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_v3 : FVec F S2x8192x2048 .f32 := Host.absf main_arg1
  let main_cst_0 : FVec F S_ .f32 := constant S_ .f32 0x7F800000#32
  let main_v4 : FVec F S2x8192x2048 .f32 := broadcastInDim S2x8192x2048 ![] bcast_S_S2x8192x2048 main_cst_0
  let main_v5 : IVec S2x8192x2048 1 := cmpf .olt main_v3 main_v4
  let main_v6 : IVec S2x8192x2048 1 := andi main_v2 main_v5
  let main_v7 : FVec F S2x8192x2048 .f32 := Host.absf main_arg2
  let main_cst_1 : FVec F S_ .f32 := constant S_ .f32 0x7F800000#32
  let main_v8 : FVec F S2x8192x2048 .f32 := broadcastInDim S2x8192x2048 ![] bcast_S_S2x8192x2048 main_cst_1
  let main_v9 : IVec S2x8192x2048 1 := cmpf .olt main_v7 main_v8
  let main_v10 : IVec S2x8192x2048 1 := andi main_v6 main_v9
  let main_v11 : FVec F S4x128 .f32 := Host.absf main_arg4
  let main_cst_2 : FVec F S_ .f32 := constant S_ .f32 0x7F800000#32
  let main_v12 : FVec F S4x128 .f32 := broadcastInDim S4x128 ![] bcast_S_S4x128 main_cst_2
  let main_v13 : IVec S4x128 1 := cmpf .olt main_v11 main_v12
  let main_c : IVec S_ 1 := constantI S_ 1 1#1
  let main_v14 : IVec S_ 1 := (fun x v => Host.reduce IntOp.andi x v reducesTo_S4x128_S_d0_1 h_S_) main_v13 main_c
  let main_v15 : IVec S2x8192x2048 1 := broadcastInDim S2x8192x2048 ![] bcast_S_S2x8192x2048 main_v14
  let main_v16 : IVec S2x8192x2048 1 := andi main_v10 main_v15
  main_v16
-- ==== Kernel.lean ====
abbrev S2x8192x2048 : Shape := ⟨3, ![2, 8192, 2048]⟩
abbrev S4x128 : Shape := ⟨2, ![4, 128]⟩
abbrev S256 : Shape := ⟨1, ![256]⟩
abbrev S_ : Shape := ⟨0, ![]⟩
abbrev S2x8192x8192 : Shape := ⟨3, ![2, 8192, 8192]⟩
abbrev S1x256 : Shape := ⟨2, ![1, 256]⟩
abbrev S1x8192x256 : Shape := ⟨3, ![1, 8192, 256]⟩
abbrev S1x512x256 : Shape := ⟨3, ![1, 512, 256]⟩
abbrev S16x272x512 : Shape := ⟨3, ![16, 272, 512]⟩
abbrev S2x272x512 : Shape := ⟨3, ![2, 272, 512]⟩
abbrev S2x2x512x512 : Shape := ⟨4, ![2, 2, 512, 512]⟩
abbrev S512x256 : Shape := ⟨2, ![512, 256]⟩
abbrev S256x512 : Shape := ⟨2, ![256, 512]⟩
abbrev S1x256x512 : Shape := ⟨3, ![1, 256, 512]⟩
abbrev S16x512 : Shape := ⟨2, ![16, 512]⟩
abbrev S1x16x512 : Shape := ⟨3, ![1, 16, 512]⟩
abbrev S1x512x128 : Shape := ⟨3, ![1, 512, 128]⟩
abbrev S512x128 : Shape := ⟨2, ![512, 128]⟩
abbrev S512x512 : Shape := ⟨2, ![512, 512]⟩
abbrev S1x1x512x512 : Shape := ⟨4, ![1, 1, 512, 512]⟩
abbrev S1x512 : Shape := ⟨2, ![1, 512]⟩
abbrev S512 : Shape := ⟨1, ![512]⟩
abbrev S1x272x512 : Shape := ⟨3, ![1, 272, 512]⟩
abbrev S272x512 : Shape := ⟨2, ![272, 512]⟩
abbrev S1x128 : Shape := ⟨2, ![1, 128]⟩
abbrev S1 : Shape := ⟨1, ![1]⟩
abbrev S1x1 : Shape := ⟨2, ![1, 1]⟩
abbrev S1x1x512 : Shape := ⟨3, ![1, 1, 512]⟩
abbrev S512x1 : Shape := ⟨2, ![512, 1]⟩

abbrev nBuf : Space → Nat
  | .hbm => 17
  | .vmem => 16
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S2x8192x2048, .f32⟩
  | .hbm, ⟨3, _⟩ => ⟨S2x8192x2048, .f32⟩
  | .hbm, ⟨4, _⟩ => ⟨S4x128, .f32⟩
  | .hbm, ⟨5, _⟩ => ⟨S256, .f32⟩
  | .hbm, ⟨6, _⟩ => ⟨S_, .f32⟩
  | .hbm, ⟨7, _⟩ => ⟨S2x8192x2048, .f32⟩
  | .hbm, ⟨8, _⟩ => ⟨S2x8192x2048, .f32⟩
  | .hbm, ⟨9, _⟩ => ⟨S_, .f32⟩
  | .hbm, ⟨10, _⟩ => ⟨S_, .f32⟩
  | .hbm, ⟨11, _⟩ => ⟨S2x8192x2048, .f32⟩
  | .hbm, ⟨12, _⟩ => ⟨S2x8192x2048, .f32⟩
  | .hbm, ⟨13, _⟩ => ⟨S2x8192x8192, .f32⟩
  | .hbm, ⟨14, _⟩ => ⟨S2x8192x8192, .bf16⟩
  | .hbm, ⟨15, _⟩ => ⟨S1x256, .f32⟩
  | .hbm, ⟨16, _⟩ => ⟨S2x8192x2048, .bf16⟩
  | .local _ .vmem, ⟨0, _⟩ => ⟨S4x128, .f32⟩
  | .local _ .vmem, ⟨1, _⟩ => ⟨S1x256, .f32⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x8192x256, .bf16⟩
  | .local _ .vmem, ⟨7, _⟩ => ⟨S1x8192x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S16x272x512, .bf16⟩
  | .local _ .vmem, ⟨13, _⟩ => ⟨S2x272x512, .f32⟩
  | .local _ .vmem, ⟨14, _⟩ => ⟨S2x2x512x512, .f32⟩
  | .local _ .vmem, ⟨15, _⟩ => ⟨S2x2x512x512, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg2 : BitVec 32 := BitVec.ofNat 32 (i 2).val
  let c512_i32 : BitVec 32 := 512#32
  let v36 : BitVec 32 := Scalar.muli arg2 c512_i32
  v36
def k0_off1 (i : grid0.Coords) : Fin 3 → Nat :=
  let c0_15 : Index := 0#32
  let arg2 : BitVec 32 := BitVec.ofNat 32 (i 2).val
  let c512_i32 : BitVec 32 := 512#32
  let v36 : BitVec 32 := Scalar.muli arg2 c512_i32
  let v37 : BitVec 32 := v36
  let v38 : Index := Scalar.indexCast v37
  let c0_16 : Index := 0#32
  ![0, v38.toNat, 0]
def k0_cond2 (i : grid0.Coords) : BitVec 1 :=
  let arg2 : BitVec 32 := BitVec.ofNat 32 (i 2).val
  let c0_i32_17 : BitVec 32 := 0#32
  let v41 : BitVec 1 := Scalar.cmpi .eq arg2 c0_i32_17
  let v42 : BitVec 32 := Scalar.extui v41
  let c0_i32_18 : BitVec 32 := 0#32
  let v43 : BitVec 1 := Scalar.cmpi .ne v42 c0_i32_18
  v43

def k0_mult2 : BitVec 32 :=
  let c0_i32_69 : BitVec 32 := 0#32
  c0_i32_69
@[reducible] def k0_t1_loop (i : grid0.Coords) : Scf.Loop 32 :=
  let c0_i32_20 : BitVec 32 := 0#32
  let arg2 : BitVec 32 := BitVec.ofNat 32 (i 2).val
  let v45 : BitVec 32 := Scalar.subi arg2 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_22 : BitVec 32 := 1#32
  ⟨c0_i32_20, v49, c1_i32_22⟩
def k0_cond3 (i : grid0.Coords) (k0_t1 : Fin (k0_t1_loop i).trips) : BitVec 1 :=
  let c0_i32_20 : BitVec 32 := 0#32
  let c1_i32_22 : BitVec 32 := 1#32
  let arg14 : BitVec 32 := Scf.iv c0_i32_20 c1_i32_22 k0_t1
  let arg2 : BitVec 32 := BitVec.ofNat 32 (i 2).val
  let c1_i32 : BitVec 32 := 1#32
  let v7 : BitVec 32 := Scalar.addi arg2 c1_i32
  let v8 : BitVec 32 := Scalar.muli arg2 v7
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c2_i32 : BitVec 32 := 2#32
  let c0_i32_5 : BitVec 32 := 0#32
  let v15 : BitVec 1 := Scalar.cmpi .sgt c2_i32 c0_i32_5
  let v16 : BitVec 32 := Scalar.extui v15
  let c0_i32_6 : BitVec 32 := 0#32
  let v17 : BitVec 1 := Scalar.cmpi .slt c2_i32 c0_i32_6
  let v18 : BitVec 32 := Scalar.extui v17
  let v19 : BitVec 32 := Scalar.subi v16 v18
  let v20 : BitVec 1 := Scalar.cmpi .ne v14 v19
  let v21 : BitVec 32 := Scalar.remsi v8 c2_i32
  let c0_i32_7 : BitVec 32 := 0#32
  let v22 : BitVec 1 := Scalar.cmpi .ne v21 c0_i32_7
  let v23 : BitVec 1 := Scalar.andi v20 v22
  let v9 : BitVec 32 := Scalar.divsi v8 c2_i32
  let c1_i32_8 : BitVec 32 := 1#32
  let v24 : BitVec 32 := Scalar.subi v9 c1_i32_8
  let v25 : BitVec 32 := Scalar.select v23 v24 v9
  let c2_i32_9 : BitVec 32 := 2#32
  let c0_i32_10 : BitVec 32 := 0#32
  let v26 : BitVec 1 := Scalar.cmpi .eq c2_i32_9 c0_i32_10
  let c1_i32_11 : BitVec 32 := 1#32
  let v27 : BitVec 32 := Scalar.select v26 c1_i32_11 c2_i32_9
  let v28 : BitVec 32 := Scalar.remsi v25 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let v142 : BitVec 32 := Scalar.addi arg14 v35
  let c2_i32_69 : BitVec 32 := 2#32
  let c0_i32_70 : BitVec 32 := 0#32
  let v143 : BitVec 1 := Scalar.cmpi .eq c2_i32_69 c0_i32_70
  let c1_i32_71 : BitVec 32 := 1#32
  let v144 : BitVec 32 := Scalar.select v143 c1_i32_71 c2_i32_69
  let v145 : BitVec 32 := Scalar.remsi v142 v144
  let c0_i32_73 : BitVec 32 := 0#32
  let v147 : BitVec 1 := Scalar.cmpi .slt v145 c0_i32_73
  let c0_i32_74 : BitVec 32 := 0#32
  let v148 : BitVec 1 := Scalar.cmpi .slt v144 c0_i32_74
  let v149 : BitVec 1 := Scalar.xori v147 v148
  let c0_i32_72 : BitVec 32 := 0#32
  let v146 : BitVec 1 := Scalar.cmpi .ne v145 c0_i32_72
  let v150 : BitVec 1 := Scalar.andi v149 v146
  let v151 : BitVec 32 := Scalar.addi v145 v144
  let v152 : BitVec 32 := Scalar.select v150 v151 v145
  let c0_i32_75 : BitVec 32 := 0#32
  let v153 : BitVec 1 := Scalar.cmpi .eq v152 c0_i32_75
  let v154 : BitVec 32 := Scalar.extui v153
  let c0_i32_76 : BitVec 32 := 0#32
  let v155 : BitVec 1 := Scalar.cmpi .ne v154 c0_i32_76
  v155

def k0_mult3 (i : grid0.Coords) (k0_t1 : Fin (k0_t1_loop i).trips) : BitVec 32 :=
  let c0_i32_20 : BitVec 32 := 0#32
  let c1_i32_22 : BitVec 32 := 1#32
  let arg14 : BitVec 32 := Scf.iv c0_i32_20 c1_i32_22 k0_t1
  let c1_i32_77 : BitVec 32 := 1#32
  let v157 : BitVec 32 := Scalar.addi arg14 c1_i32_77
  let c512_i32_78 : BitVec 32 := 512#32
  let v158 : BitVec 32 := Scalar.muli v157 c512_i32_78
  v158
def k0_off2 (i : grid0.Coords) (k0_t1 : Fin (k0_t1_loop i).trips) : Fin 3 → Nat :=
  let c0_79 : Index := 0#32
  let c0_i32_20 : BitVec 32 := 0#32
  let c1_i32_22 : BitVec 32 := 1#32
  let arg14 : BitVec 32 := Scf.iv c0_i32_20 c1_i32_22 k0_t1
  let c1_i32_77 : BitVec 32 := 1#32
  let v157 : BitVec 32 := Scalar.addi arg14 c1_i32_77
  let c512_i32_78 : BitVec 32 := 512#32
  let v158 : BitVec 32 := Scalar.muli v157 c512_i32_78
  let v159 : BitVec 32 := v158
  let v160 : Index := Scalar.indexCast v159
  let c0_80 : Index := 0#32
  ![0, v160.toNat, 0]
def k0_off3 (i : grid0.Coords) (k0_t1 : Fin (k0_t1_loop i).trips) : Fin 3 → Nat :=
  let c0_86 : Index := 0#32
  let c0_i32_20 : BitVec 32 := 0#32
  let c1_i32_22 : BitVec 32 := 1#32
  let arg14 : BitVec 32 := Scf.iv c0_i32_20 c1_i32_22 k0_t1
  let c1_i32_77 : BitVec 32 := 1#32
  let v157 : BitVec 32 := Scalar.addi arg14 c1_i32_77
  let c512_i32_78 : BitVec 32 := 512#32
  let v158 : BitVec 32 := Scalar.muli v157 c512_i32_78
  let v159 : BitVec 32 := v158
  let v168 : Index := Scalar.indexCast v159
  let c128 : Index := 128#32
  ![0, v168.toNat, 128]
def k0_off4 (i : grid0.Coords) (k0_t1 : Fin (k0_t1_loop i).trips) : Fin 3 → Nat :=
  let c0_i32_20 : BitVec 32 := 0#32
  let c1_i32_22 : BitVec 32 := 1#32
  let arg14 : BitVec 32 := Scf.iv c0_i32_20 c1_i32_22 k0_t1
  let v196 : Index := Scalar.indexCast arg14
  let c0_108 : Index := 0#32
  let c0_109 : Index := 0#32
  ![v196.toNat, 0, 0]
def k0_mult4 (i : grid0.Coords) (k0_t1 : Fin (k0_t1_loop i).trips) : BitVec 32 :=
  let c0_i32_20 : BitVec 32 := 0#32
  let c1_i32_22 : BitVec 32 := 1#32
  let arg14 : BitVec 32 := Scf.iv c0_i32_20 c1_i32_22 k0_t1
  let c1_i32_77 : BitVec 32 := 1#32
  let v157 : BitVec 32 := Scalar.addi arg14 c1_i32_77
  let c512_i32_78 : BitVec 32 := 512#32
  let v158 : BitVec 32 := Scalar.muli v157 c512_i32_78
  v158
def k0_off5 (i : grid0.Coords) (k0_t1 : Fin (k0_t1_loop i).trips) : Fin 3 → Nat :=
  let c0_79 : Index := 0#32
  let c0_i32_20 : BitVec 32 := 0#32
  let c1_i32_22 : BitVec 32 := 1#32
  let arg14 : BitVec 32 := Scf.iv c0_i32_20 c1_i32_22 k0_t1
  let c1_i32_77 : BitVec 32 := 1#32
  let v157 : BitVec 32 := Scalar.addi arg14 c1_i32_77
  let c512_i32_78 : BitVec 32 := 512#32
  let v158 : BitVec 32 := Scalar.muli v157 c512_i32_78
  let v159 : BitVec 32 := v158
  let v160 : Index := Scalar.indexCast v159
  let c0_80 : Index := 0#32
  ![0, v160.toNat, 0]
def k0_off6 (i : grid0.Coords) (k0_t1 : Fin (k0_t1_loop i).trips) : Fin 3 → Nat :=
  let c0_86 : Index := 0#32
  let c0_i32_20 : BitVec 32 := 0#32
  let c1_i32_22 : BitVec 32 := 1#32
  let arg14 : BitVec 32 := Scf.iv c0_i32_20 c1_i32_22 k0_t1
  let c1_i32_77 : BitVec 32 := 1#32
  let v157 : BitVec 32 := Scalar.addi arg14 c1_i32_77
  let c512_i32_78 : BitVec 32 := 512#32
  let v158 : BitVec 32 := Scalar.muli v157 c512_i32_78
  let v159 : BitVec 32 := v158
  let v168 : Index := Scalar.indexCast v159
  let c128 : Index := 128#32
  ![0, v168.toNat, 128]
def k0_off7 (i : grid0.Coords) (k0_t1 : Fin (k0_t1_loop i).trips) : Fin 3 → Nat :=
  let c0_i32_20 : BitVec 32 := 0#32
  let c1_i32_22 : BitVec 32 := 1#32
  let arg14 : BitVec 32 := Scf.iv c0_i32_20 c1_i32_22 k0_t1
  let v196 : Index := Scalar.indexCast arg14
  let c0_108 : Index := 0#32
  let c0_109 : Index := 0#32
  ![v196.toNat, 0, 0]
@[reducible] def k0_t2_loop (i : grid0.Coords) : Scf.Loop 32 :=
  let c0_i32_20 : BitVec 32 := 0#32
  let arg2 : BitVec 32 := BitVec.ofNat 32 (i 2).val
  let v45 : BitVec 32 := Scalar.subi arg2 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let v46 : BitVec 32 := Scalar.addi c0_i32_20 v45
  let c1_i32_23 : BitVec 32 := 1#32
  ⟨v49, v46, c1_i32_23⟩
def k0_cond4 (i : grid0.Coords) (k0_t2 : Fin (k0_t2_loop i).trips) : BitVec 1 :=
  let c0_i32_20 : BitVec 32 := 0#32
  let arg2 : BitVec 32 := BitVec.ofNat 32 (i 2).val
  let v45 : BitVec 32 := Scalar.subi arg2 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg14 : BitVec 32 := Scf.iv v49 c1_i32_23 k0_t2
  let c1_i32 : BitVec 32 := 1#32
  let v7 : BitVec 32 := Scalar.addi arg2 c1_i32
  let v8 : BitVec 32 := Scalar.muli arg2 v7
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c2_i32 : BitVec 32 := 2#32
  let c0_i32_5 : BitVec 32 := 0#32
  let v15 : BitVec 1 := Scalar.cmpi .sgt c2_i32 c0_i32_5
  let v16 : BitVec 32 := Scalar.extui v15
  let c0_i32_6 : BitVec 32 := 0#32
  let v17 : BitVec 1 := Scalar.cmpi .slt c2_i32 c0_i32_6
  let v18 : BitVec 32 := Scalar.extui v17
  let v19 : BitVec 32 := Scalar.subi v16 v18
  let v20 : BitVec 1 := Scalar.cmpi .ne v14 v19
  let v21 : BitVec 32 := Scalar.remsi v8 c2_i32
  let c0_i32_7 : BitVec 32 := 0#32
  let v22 : BitVec 1 := Scalar.cmpi .ne v21 c0_i32_7
  let v23 : BitVec 1 := Scalar.andi v20 v22
  let v9 : BitVec 32 := Scalar.divsi v8 c2_i32
  let c1_i32_8 : BitVec 32 := 1#32
  let v24 : BitVec 32 := Scalar.subi v9 c1_i32_8
  let v25 : BitVec 32 := Scalar.select v23 v24 v9
  let c2_i32_9 : BitVec 32 := 2#32
  let c0_i32_10 : BitVec 32 := 0#32
  let v26 : BitVec 1 := Scalar.cmpi .eq c2_i32_9 c0_i32_10
  let c1_i32_11 : BitVec 32 := 1#32
  let v27 : BitVec 32 := Scalar.select v26 c1_i32_11 c2_i32_9
  let v28 : BitVec 32 := Scalar.remsi v25 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let v142 : BitVec 32 := Scalar.addi arg14 v35
  let c2_i32_69 : BitVec 32 := 2#32
  let c0_i32_70 : BitVec 32 := 0#32
  let v143 : BitVec 1 := Scalar.cmpi .eq c2_i32_69 c0_i32_70
  let c1_i32_71 : BitVec 32 := 1#32
  let v144 : BitVec 32 := Scalar.select v143 c1_i32_71 c2_i32_69
  let v145 : BitVec 32 := Scalar.remsi v142 v144
  let c0_i32_73 : BitVec 32 := 0#32
  let v147 : BitVec 1 := Scalar.cmpi .slt v145 c0_i32_73
  let c0_i32_74 : BitVec 32 := 0#32
  let v148 : BitVec 1 := Scalar.cmpi .slt v144 c0_i32_74
  let v149 : BitVec 1 := Scalar.xori v147 v148
  let c0_i32_72 : BitVec 32 := 0#32
  let v146 : BitVec 1 := Scalar.cmpi .ne v145 c0_i32_72
  let v150 : BitVec 1 := Scalar.andi v149 v146
  let v151 : BitVec 32 := Scalar.addi v145 v144
  let v152 : BitVec 32 := Scalar.select v150 v151 v145
  let c0_i32_75 : BitVec 32 := 0#32
  let v153 : BitVec 1 := Scalar.cmpi .eq v152 c0_i32_75
  let v154 : BitVec 32 := Scalar.extui v153
  let c0_i32_76 : BitVec 32 := 0#32
  let v155 : BitVec 1 := Scalar.cmpi .ne v154 c0_i32_76
  v155

def k0_mult5 (i : grid0.Coords) (k0_t2 : Fin (k0_t2_loop i).trips) : BitVec 32 :=
  let c0_i32_20 : BitVec 32 := 0#32
  let arg2 : BitVec 32 := BitVec.ofNat 32 (i 2).val
  let v45 : BitVec 32 := Scalar.subi arg2 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg14 : BitVec 32 := Scf.iv v49 c1_i32_23 k0_t2
  let c1_i32_77 : BitVec 32 := 1#32
  let v157 : BitVec 32 := Scalar.addi arg14 c1_i32_77
  let c512_i32_78 : BitVec 32 := 512#32
  let v158 : BitVec 32 := Scalar.muli v157 c512_i32_78
  v158
def k0_off8 (i : grid0.Coords) (k0_t2 : Fin (k0_t2_loop i).trips) : Fin 3 → Nat :=
  let c0_79 : Index := 0#32
  let c0_i32_20 : BitVec 32 := 0#32
  let arg2 : BitVec 32 := BitVec.ofNat 32 (i 2).val
  let v45 : BitVec 32 := Scalar.subi arg2 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg14 : BitVec 32 := Scf.iv v49 c1_i32_23 k0_t2
  let c1_i32_77 : BitVec 32 := 1#32
  let v157 : BitVec 32 := Scalar.addi arg14 c1_i32_77
  let c512_i32_78 : BitVec 32 := 512#32
  let v158 : BitVec 32 := Scalar.muli v157 c512_i32_78
  let v159 : BitVec 32 := v158
  let v160 : Index := Scalar.indexCast v159
  let c0_80 : Index := 0#32
  ![0, v160.toNat, 0]
def k0_off9 (i : grid0.Coords) (k0_t2 : Fin (k0_t2_loop i).trips) : Fin 3 → Nat :=
  let c0_86 : Index := 0#32
  let c0_i32_20 : BitVec 32 := 0#32
  let arg2 : BitVec 32 := BitVec.ofNat 32 (i 2).val
  let v45 : BitVec 32 := Scalar.subi arg2 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg14 : BitVec 32 := Scf.iv v49 c1_i32_23 k0_t2
  let c1_i32_77 : BitVec 32 := 1#32
  let v157 : BitVec 32 := Scalar.addi arg14 c1_i32_77
  let c512_i32_78 : BitVec 32 := 512#32
  let v158 : BitVec 32 := Scalar.muli v157 c512_i32_78
  let v159 : BitVec 32 := v158
  let v168 : Index := Scalar.indexCast v159
  let c128 : Index := 128#32
  ![0, v168.toNat, 128]
def k0_off10 (i : grid0.Coords) (k0_t2 : Fin (k0_t2_loop i).trips) : Fin 3 → Nat :=
  let c0_i32_20 : BitVec 32 := 0#32
  let arg2 : BitVec 32 := BitVec.ofNat 32 (i 2).val
  let v45 : BitVec 32 := Scalar.subi arg2 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg14 : BitVec 32 := Scf.iv v49 c1_i32_23 k0_t2
  let v196 : Index := Scalar.indexCast arg14
  let c0_108 : Index := 0#32
  let c0_109 : Index := 0#32
  ![v196.toNat, 0, 0]
def k0_mult6 (i : grid0.Coords) (k0_t2 : Fin (k0_t2_loop i).trips) : BitVec 32 :=
  let c0_i32_20 : BitVec 32 := 0#32
  let arg2 : BitVec 32 := BitVec.ofNat 32 (i 2).val
  let v45 : BitVec 32 := Scalar.subi arg2 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg14 : BitVec 32 := Scf.iv v49 c1_i32_23 k0_t2
  let c1_i32_77 : BitVec 32 := 1#32
  let v157 : BitVec 32 := Scalar.addi arg14 c1_i32_77
  let c512_i32_78 : BitVec 32 := 512#32
  let v158 : BitVec 32 := Scalar.muli v157 c512_i32_78
  v158
def k0_off11 (i : grid0.Coords) (k0_t2 : Fin (k0_t2_loop i).trips) : Fin 3 → Nat :=
  let c0_79 : Index := 0#32
  let c0_i32_20 : BitVec 32 := 0#32
  let arg2 : BitVec 32 := BitVec.ofNat 32 (i 2).val
  let v45 : BitVec 32 := Scalar.subi arg2 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg14 : BitVec 32 := Scf.iv v49 c1_i32_23 k0_t2
  let c1_i32_77 : BitVec 32 := 1#32
  let v157 : BitVec 32 := Scalar.addi arg14 c1_i32_77
  let c512_i32_78 : BitVec 32 := 512#32
  let v158 : BitVec 32 := Scalar.muli v157 c512_i32_78
  let v159 : BitVec 32 := v158
  let v160 : Index := Scalar.indexCast v159
  let c0_80 : Index := 0#32
  ![0, v160.toNat, 0]
def k0_off12 (i : grid0.Coords) (k0_t2 : Fin (k0_t2_loop i).trips) : Fin 3 → Nat :=
  let c0_86 : Index := 0#32
  let c0_i32_20 : BitVec 32 := 0#32
  let arg2 : BitVec 32 := BitVec.ofNat 32 (i 2).val
  let v45 : BitVec 32 := Scalar.subi arg2 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg14 : BitVec 32 := Scf.iv v49 c1_i32_23 k0_t2
  let c1_i32_77 : BitVec 32 := 1#32
  let v157 : BitVec 32 := Scalar.addi arg14 c1_i32_77
  let c512_i32_78 : BitVec 32 := 512#32
  let v158 : BitVec 32 := Scalar.muli v157 c512_i32_78
  let v159 : BitVec 32 := v158
  let v168 : Index := Scalar.indexCast v159
  let c128 : Index := 128#32
  ![0, v168.toNat, 128]
def k0_off13 (i : grid0.Coords) (k0_t2 : Fin (k0_t2_loop i).trips) : Fin 3 → Nat :=
  let c0_i32_20 : BitVec 32 := 0#32
  let arg2 : BitVec 32 := BitVec.ofNat 32 (i 2).val
  let v45 : BitVec 32 := Scalar.subi arg2 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg14 : BitVec 32 := Scf.iv v49 c1_i32_23 k0_t2
  let v196 : Index := Scalar.indexCast arg14
  let c0_108 : Index := 0#32
  let c0_109 : Index := 0#32
  ![v196.toNat, 0, 0]
def k0_cond5 (i : grid0.Coords) : BitVec 1 :=
  let arg2 : BitVec 32 := BitVec.ofNat 32 (i 2).val
  let c1_i32 : BitVec 32 := 1#32
  let v7 : BitVec 32 := Scalar.addi arg2 c1_i32
  let v8 : BitVec 32 := Scalar.muli arg2 v7
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c2_i32 : BitVec 32 := 2#32
  let c0_i32_5 : BitVec 32 := 0#32
  let v15 : BitVec 1 := Scalar.cmpi .sgt c2_i32 c0_i32_5
  let v16 : BitVec 32 := Scalar.extui v15
  let c0_i32_6 : BitVec 32 := 0#32
  let v17 : BitVec 1 := Scalar.cmpi .slt c2_i32 c0_i32_6
  let v18 : BitVec 32 := Scalar.extui v17
  let v19 : BitVec 32 := Scalar.subi v16 v18
  let v20 : BitVec 1 := Scalar.cmpi .ne v14 v19
  let v21 : BitVec 32 := Scalar.remsi v8 c2_i32
  let c0_i32_7 : BitVec 32 := 0#32
  let v22 : BitVec 1 := Scalar.cmpi .ne v21 c0_i32_7
  let v23 : BitVec 1 := Scalar.andi v20 v22
  let v9 : BitVec 32 := Scalar.divsi v8 c2_i32
  let c1_i32_8 : BitVec 32 := 1#32
  let v24 : BitVec 32 := Scalar.subi v9 c1_i32_8
  let v25 : BitVec 32 := Scalar.select v23 v24 v9
  let c2_i32_9 : BitVec 32 := 2#32
  let c0_i32_10 : BitVec 32 := 0#32
  let v26 : BitVec 1 := Scalar.cmpi .eq c2_i32_9 c0_i32_10
  let c1_i32_11 : BitVec 32 := 1#32
  let v27 : BitVec 32 := Scalar.select v26 c1_i32_11 c2_i32_9
  let v28 : BitVec 32 := Scalar.remsi v25 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let v52 : BitVec 32 := Scalar.addi arg2 v35
  let c2_i32_24 : BitVec 32 := 2#32
  let c0_i32_25 : BitVec 32 := 0#32
  let v53 : BitVec 1 := Scalar.cmpi .eq c2_i32_24 c0_i32_25
  let c1_i32_26 : BitVec 32 := 1#32
  let v54 : BitVec 32 := Scalar.select v53 c1_i32_26 c2_i32_24
  let v55 : BitVec 32 := Scalar.remsi v52 v54
  let c0_i32_28 : BitVec 32 := 0#32
  let v57 : BitVec 1 := Scalar.cmpi .slt v55 c0_i32_28
  let c0_i32_29 : BitVec 32 := 0#32
  let v58 : BitVec 1 := Scalar.cmpi .slt v54 c0_i32_29
  let v59 : BitVec 1 := Scalar.xori v57 v58
  let c0_i32_27 : BitVec 32 := 0#32
  let v56 : BitVec 1 := Scalar.cmpi .ne v55 c0_i32_27
  let v60 : BitVec 1 := Scalar.andi v59 v56
  let v61 : BitVec 32 := Scalar.addi v55 v54
  let v62 : BitVec 32 := Scalar.select v60 v61 v55
  let c0_i32_30 : BitVec 32 := 0#32
  let v63 : BitVec 1 := Scalar.cmpi .eq v62 c0_i32_30
  let v64 : BitVec 32 := Scalar.extui v63
  let c0_i32_31 : BitVec 32 := 0#32
  let v65 : BitVec 1 := Scalar.cmpi .ne v64 c0_i32_31
  v65

def k0_mult7 (i : grid0.Coords) : BitVec 32 :=
  let arg2 : BitVec 32 := BitVec.ofNat 32 (i 2).val
  let c1_i32_69 : BitVec 32 := 1#32
  let v142 : BitVec 32 := Scalar.addi arg2 c1_i32_69
  let c15_i32 : BitVec 32 := 15#32
  let v143 : BitVec 32 := Scalar.minsi v142 c15_i32
  let c512_i32_70 : BitVec 32 := 512#32
  let v144 : BitVec 32 := Scalar.muli v143 c512_i32_70
  v144
def k0_off14 (i : grid0.Coords) : Fin 3 → Nat :=
  let c0_71 : Index := 0#32
  let arg2 : BitVec 32 := BitVec.ofNat 32 (i 2).val
  let c1_i32_69 : BitVec 32 := 1#32
  let v142 : BitVec 32 := Scalar.addi arg2 c1_i32_69
  let c15_i32 : BitVec 32 := 15#32
  let v143 : BitVec 32 := Scalar.minsi v142 c15_i32
  let c512_i32_70 : BitVec 32 := 512#32
  let v144 : BitVec 32 := Scalar.muli v143 c512_i32_70
  let v145 : BitVec 32 := v144
  let v146 : Index := Scalar.indexCast v145
  let c0_72 : Index := 0#32
  ![0, v146.toNat, 0]
def k0_mult8 : BitVec 32 :=
  let c0_i32_73 : BitVec 32 := 0#32
  c0_i32_73
def k0_off15 (i : grid0.Coords) : Fin 3 → Nat :=
  let arg2 : BitVec 32 := BitVec.ofNat 32 (i 2).val
  let v202 : Index := Scalar.indexCast arg2
  let c0_114 : Index := 0#32
  let c0_115 : Index := 0#32
  ![v202.toNat, 0, 0]
def k0_cond6 (i : grid0.Coords) : BitVec 1 :=
  let arg2 : BitVec 32 := BitVec.ofNat 32 (i 2).val
  let c1_i32 : BitVec 32 := 1#32
  let v7 : BitVec 32 := Scalar.addi arg2 c1_i32
  let v8 : BitVec 32 := Scalar.muli arg2 v7
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c2_i32 : BitVec 32 := 2#32
  let c0_i32_5 : BitVec 32 := 0#32
  let v15 : BitVec 1 := Scalar.cmpi .sgt c2_i32 c0_i32_5
  let v16 : BitVec 32 := Scalar.extui v15
  let c0_i32_6 : BitVec 32 := 0#32
  let v17 : BitVec 1 := Scalar.cmpi .slt c2_i32 c0_i32_6
  let v18 : BitVec 32 := Scalar.extui v17
  let v19 : BitVec 32 := Scalar.subi v16 v18
  let v20 : BitVec 1 := Scalar.cmpi .ne v14 v19
  let v21 : BitVec 32 := Scalar.remsi v8 c2_i32
  let c0_i32_7 : BitVec 32 := 0#32
  let v22 : BitVec 1 := Scalar.cmpi .ne v21 c0_i32_7
  let v23 : BitVec 1 := Scalar.andi v20 v22
  let v9 : BitVec 32 := Scalar.divsi v8 c2_i32
  let c1_i32_8 : BitVec 32 := 1#32
  let v24 : BitVec 32 := Scalar.subi v9 c1_i32_8
  let v25 : BitVec 32 := Scalar.select v23 v24 v9
  let c2_i32_9 : BitVec 32 := 2#32
  let c0_i32_10 : BitVec 32 := 0#32
  let v26 : BitVec 1 := Scalar.cmpi .eq c2_i32_9 c0_i32_10
  let c1_i32_11 : BitVec 32 := 1#32
  let v27 : BitVec 32 := Scalar.select v26 c1_i32_11 c2_i32_9
  let v28 : BitVec 32 := Scalar.remsi v25 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let v66 : BitVec 32 := Scalar.addi arg2 v35
  let c2_i32_32 : BitVec 32 := 2#32
  let c0_i32_33 : BitVec 32 := 0#32
  let v67 : BitVec 1 := Scalar.cmpi .eq c2_i32_32 c0_i32_33
  let c1_i32_34 : BitVec 32 := 1#32
  let v68 : BitVec 32 := Scalar.select v67 c1_i32_34 c2_i32_32
  let v69 : BitVec 32 := Scalar.remsi v66 v68
  let c0_i32_36 : BitVec 32 := 0#32
  let v71 : BitVec 1 := Scalar.cmpi .slt v69 c0_i32_36
  let c0_i32_37 : BitVec 32 := 0#32
  let v72 : BitVec 1 := Scalar.cmpi .slt v68 c0_i32_37
  let v73 : BitVec 1 := Scalar.xori v71 v72
  let c0_i32_35 : BitVec 32 := 0#32
  let v70 : BitVec 1 := Scalar.cmpi .ne v69 c0_i32_35
  let v74 : BitVec 1 := Scalar.andi v73 v70
  let v75 : BitVec 32 := Scalar.addi v69 v68
  let v76 : BitVec 32 := Scalar.select v74 v75 v69
  let c1_i32_38 : BitVec 32 := 1#32
  let v77 : BitVec 1 := Scalar.cmpi .eq v76 c1_i32_38
  let v78 : BitVec 32 := Scalar.extui v77
  let c0_i32_39 : BitVec 32 := 0#32
  let v79 : BitVec 1 := Scalar.cmpi .ne v78 c0_i32_39
  v79

def k0_mult9 (i : grid0.Coords) : BitVec 32 :=
  let arg2 : BitVec 32 := BitVec.ofNat 32 (i 2).val
  let c1_i32_69 : BitVec 32 := 1#32
  let v142 : BitVec 32 := Scalar.addi arg2 c1_i32_69
  let c15_i32 : BitVec 32 := 15#32
  let v143 : BitVec 32 := Scalar.minsi v142 c15_i32
  let c512_i32_70 : BitVec 32 := 512#32
  let v144 : BitVec 32 := Scalar.muli v143 c512_i32_70
  v144
def k0_off16 (i : grid0.Coords) : Fin 3 → Nat :=
  let c0_71 : Index := 0#32
  let arg2 : BitVec 32 := BitVec.ofNat 32 (i 2).val
  let c1_i32_69 : BitVec 32 := 1#32
  let v142 : BitVec 32 := Scalar.addi arg2 c1_i32_69
  let c15_i32 : BitVec 32 := 15#32
  let v143 : BitVec 32 := Scalar.minsi v142 c15_i32
  let c512_i32_70 : BitVec 32 := 512#32
  let v144 : BitVec 32 := Scalar.muli v143 c512_i32_70
  let v145 : BitVec 32 := v144
  let v146 : Index := Scalar.indexCast v145
  let c0_72 : Index := 0#32
  ![0, v146.toNat, 0]
def k0_mult10 : BitVec 32 :=
  let c0_i32_73 : BitVec 32 := 0#32
  c0_i32_73
def k0_off17 (i : grid0.Coords) : Fin 3 → Nat :=
  let arg2 : BitVec 32 := BitVec.ofNat 32 (i 2).val
  let v202 : Index := Scalar.indexCast arg2
  let c0_114 : Index := 0#32
  let c0_115 : Index := 0#32
  ![v202.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x2048 : Shape := ⟨3, ![2, 8192, 2048]⟩
abbrev S4x128 : Shape := ⟨2, ![4, 128]⟩
abbrev S256 : Shape := ⟨1, ![256]⟩
abbrev S_ : Shape := ⟨0, ![]⟩
abbrev S2x8192x8x2x128 : Shape := ⟨5, ![2, 8192, 8, 2, 128]⟩
abbrev S2x8x2x8192x128 : Shape := ⟨5, ![2, 8, 2, 8192, 128]⟩
abbrev S2x8192x8x256 : Shape := ⟨4, ![2, 8192, 8, 256]⟩
abbrev S2x8x8192x256 : Shape := ⟨4, ![2, 8, 8192, 256]⟩
abbrev S1x128 : Shape := ⟨2, ![1, 128]⟩
abbrev S128 : Shape := ⟨1, ![128]⟩
abbrev S2x8x2x8192x8192 : Shape := ⟨5, ![2, 8, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8192x8 : Shape := ⟨3, ![2, 8192, 8]⟩
abbrev S2x8192x8x1 : Shape := ⟨4, ![2, 8192, 8, 1]⟩
abbrev S1x1x1x256 : Shape := ⟨4, ![1, 1, 1, 256]⟩

abbrev nBuf : Space → Nat
  | .hbm => 100
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S2x8192x2048, .f32⟩
  | .hbm, ⟨3, _⟩ => ⟨S2x8192x2048, .f32⟩
  | .hbm, ⟨4, _⟩ => ⟨S4x128, .f32⟩
  | .hbm, ⟨5, _⟩ => ⟨S256, .f32⟩
  | .hbm, ⟨6, _⟩ => ⟨S_, .f32⟩
  | .hbm, ⟨7, _⟩ => ⟨S2x8192x2048, .f32⟩
  | .hbm, ⟨8, _⟩ => ⟨S2x8192x2048, .f32⟩
  | .hbm, ⟨9, _⟩ => ⟨S2x8192x8x2x128, .f32⟩
  | .hbm, ⟨10, _⟩ => ⟨S2x8x2x8192x128, .f32⟩
  | .hbm, ⟨11, _⟩ => ⟨S2x8192x8x2x128, .f32⟩
  | .hbm, ⟨12, _⟩ => ⟨S2x8x2x8192x128, .f32⟩
  | .hbm, ⟨13, _⟩ => ⟨S2x8192x8x256, .f32⟩
  | .hbm, ⟨14, _⟩ => ⟨S2x8x8192x256, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2x8x2x8192x8192, .f32⟩
  | .hbm, ⟨35, _⟩ => ⟨S8192, .i32⟩
  | .hbm, ⟨36, _⟩ => ⟨S1x8192, .i32⟩
  | .hbm, ⟨37, _⟩ => ⟨S8192x1, .i32⟩
  | .hbm, ⟨38, _⟩ => ⟨S8192x8192, .i32⟩
  | .hbm, ⟨39, _⟩ => ⟨S8192x8192, .i32⟩
  | .hbm, ⟨40, _⟩ => ⟨S8192x8192, .i1⟩
  | .hbm, ⟨41, _⟩ => ⟨S_, .f32⟩
  | .hbm, ⟨42, _⟩ => ⟨S_, .f32⟩
  | .hbm, ⟨43, _⟩ => ⟨S2x8x2x8192x8192, .i1⟩
  | .hbm, ⟨44, _⟩ => ⟨S2x8x2x8192x8192, .f32⟩
  | .hbm, ⟨45, _⟩ => ⟨S2x8x2x8192x8192, .f32⟩
  | .hbm, ⟨46, _⟩ => ⟨S_, .f32⟩
  | .hbm, ⟨47, _⟩ => ⟨S2x8x2x8192, .f32⟩
  | .hbm, ⟨48, _⟩ => ⟨S_, .f32⟩
  | .hbm, ⟨49, _⟩ => ⟨S2x8x2x8192, .f32⟩
  | .hbm, ⟨50, _⟩ => ⟨S2x8x2x8192, .f32⟩
  | .hbm, ⟨51, _⟩ => ⟨S2x8x2x8192x1, .f32⟩
  | .hbm, ⟨52, _⟩ => ⟨S2x8x2x8192x8192, .f32⟩
  | .hbm, ⟨53, _⟩ => ⟨S2x8x2x8192x8192, .f32⟩
  | .hbm, ⟨54, _⟩ => ⟨S2x8x2x8192x8192, .f32⟩
  | .hbm, ⟨55, _⟩ => ⟨S_, .f32⟩
  | .hbm, ⟨56, _⟩ => ⟨S2x8x2x8192, .f32⟩
  | .hbm, ⟨57, _⟩ => ⟨S2x8x2x8192x1, .f32⟩
  | .hbm, ⟨58, _⟩ => ⟨S2x8x2x8192x8192, .f32⟩
  | .hbm, ⟨59, _⟩ => ⟨S2x8x2x8192x8192, .f32⟩
  | .hbm, ⟨60, _⟩ => ⟨S2x8x1x8192x8192, .f32⟩
  | .hbm, ⟨61, _⟩ => ⟨S2x8x8192x8192, .f32⟩
  | .hbm, ⟨62, _⟩ => ⟨S2x8x1x8192x8192, .f32⟩
  | .hbm, ⟨63, _⟩ => ⟨S2x8x8192x8192, .f32⟩
  | .hbm, ⟨64, _⟩ => ⟨S2x8x8192x8192, .f32⟩
  | .hbm, ⟨65, _⟩ => ⟨S2x8x8192x8192, .f32⟩
  | .hbm, ⟨66, _⟩ => ⟨S2x8x8192x8192, .f32⟩
  | .hbm, ⟨67, _⟩ => ⟨S2x8x8192x256, .f32⟩
  | .hbm, ⟨68, _⟩ => ⟨S2x8192x8x256, .f32⟩
  | .hbm, ⟨69, _⟩ => ⟨S2x8192x8x256, .f32⟩
  | .hbm, ⟨70, _⟩ => ⟨S_, .f32⟩
  | .hbm, ⟨71, _⟩ => ⟨S2x8192x8, .f32⟩
  | .hbm, ⟨72, _⟩ => ⟨S2x8192x8x1, .f32⟩
  | .hbm, ⟨73, _⟩ => ⟨S_, .f32⟩
  | .hbm, ⟨74, _⟩ => ⟨S2x8192x8x1, .f32⟩
  | .hbm, ⟨75, _⟩ => ⟨S2x8192x8x1, .f32⟩
  | .hbm, ⟨76, _⟩ => ⟨S_, .f32⟩
  | .hbm, ⟨77, _⟩ => ⟨S2x8192x8x1, .f32⟩
  | .hbm, ⟨78, _⟩ => ⟨S2x8192x8x1, .f32⟩
  | .hbm, ⟨79, _⟩ => ⟨S2x8192x8x1, .f32⟩
  | .hbm, ⟨80, _⟩ => ⟨S2x8192x8x256, .f32⟩
  | .hbm, ⟨81, _⟩ => ⟨S2x8192x8x256, .f32⟩
  | .hbm, ⟨82, _⟩ => ⟨S1x1x1x256, .f32⟩
  | .hbm, ⟨83, _⟩ => ⟨S2x8192x8x256, .f32⟩
  | .hbm, ⟨84, _⟩ => ⟨S2x8192x8x256, .f32⟩
  | .hbm, ⟨85, _⟩ => ⟨S_, .f32⟩
  | .hbm, ⟨86, _⟩ => ⟨S2x8192x8x256, .f32⟩
  | .hbm, ⟨87, _⟩ => ⟨S2x8192x8x256, .f32⟩
  | .hbm, ⟨88, _⟩ => ⟨S2x8192x2048, .f32⟩
  | .hbm, ⟨89, _⟩ => ⟨S2x8192x2048, .f32⟩
  | .hbm, ⟨90, _⟩ => ⟨S2x8192x2048, .f32⟩
  | .hbm, ⟨91, _⟩ => ⟨S_, .f32⟩
  | .hbm, ⟨92, _⟩ => ⟨S2x8192x2048, .f32⟩
  | .hbm, ⟨93, _⟩ => ⟨S2x8192x2048, .f32⟩
  | .hbm, ⟨94, _⟩ => ⟨S_, .f32⟩
  | .hbm, ⟨95, _⟩ => ⟨S2x8192x2048, .f32⟩
  | .hbm, ⟨96, _⟩ => ⟨S2x8192x2048, .f32⟩
  | .hbm, ⟨97, _⟩ => ⟨S2x8192x2048, .f32⟩
  | .hbm, ⟨98, _⟩ => ⟨S2x8192x2048, .f32⟩
  | .hbm, ⟨99, _⟩ => ⟨S2x8192x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_10 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]
-- ==== Kernel2.lean ====
abbrev S2x8192x2048 : Shape := ⟨3, ![2, 8192, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2x8192x2048, .f32⟩
  | .hbm, ⟨3, _⟩ => ⟨S2048, .f32⟩
  | .hbm, ⟨4, _⟩ => ⟨S16384x2048, .f32⟩
  | .hbm, ⟨5, _⟩ => ⟨S16384x2048, .bf16⟩
  | .hbm, ⟨6, _⟩ => ⟨S2048x2048, .bf16⟩
  | .hbm, ⟨7, _⟩ => ⟨S16384x2048, .f32⟩
  | .hbm, ⟨8, _⟩ => ⟨S1x2048, .f32⟩
  | .hbm, ⟨9, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S2x8192x2048 : Shape := ⟨3, ![2, 8192, 2048]⟩
abbrev S2048x2048 : Shape := ⟨2, ![2048, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2x8192x2048, .f32⟩
  | .hbm, ⟨3, _⟩ => ⟨S2048, .f32⟩
  | .hbm, ⟨4, _⟩ => ⟨S2x8192x2048, .f32⟩
  | .hbm, ⟨5, _⟩ => ⟨S2x8192x2048, .f32⟩
  | .hbm, ⟨6, _⟩ => ⟨S2x8192x2048, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x2048, .f32⟩
  | .hbm, ⟨18, _⟩ => ⟨S2x8192x2048, .f32⟩
  | .hbm, ⟨19, _⟩ => ⟨S1x1x2048, .f32⟩
  | .hbm, ⟨20, _⟩ => ⟨S2x8192x2048, .f32⟩
  | .hbm, ⟨21, _⟩ => ⟨S2x8192x2048, .f32⟩
  | .hbm, ⟨22, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel3.lean ====
abbrev S2x8192x2048 : Shape := ⟨3, ![2, 8192, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩

abbrev nBuf : Space → Nat
  | .hbm => 10
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2x8192x2048, .f32⟩
  | .hbm, ⟨3, _⟩ => ⟨S2048, .f32⟩
  | .hbm, ⟨4, _⟩ => ⟨S16384x2048, .f32⟩
  | .hbm, ⟨5, _⟩ => ⟨S16384x2048, .bf16⟩
  | .hbm, ⟨6, _⟩ => ⟨S2048x2048, .bf16⟩
  | .hbm, ⟨7, _⟩ => ⟨S16384x2048, .f32⟩
  | .hbm, ⟨8, _⟩ => ⟨S1x2048, .f32⟩
  | .hbm, ⟨9, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S2x8192x2048 : Shape := ⟨3, ![2, 8192, 2048]⟩
abbrev S2048x2048 : Shape := ⟨2, ![2048, 2048]⟩
abbrev S2048 : Shape := ⟨1, ![2048]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2x8192x2048, .f32⟩
  | .hbm, ⟨3, _⟩ => ⟨S2048, .f32⟩
  | .hbm, ⟨4, _⟩ => ⟨S2x8192x2048, .f32⟩
  | .hbm, ⟨5, _⟩ => ⟨S2x8192x2048, .f32⟩
  | .hbm, ⟨6, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel4.lean ====
abbrev S2x8192x2048 : Shape := ⟨3, ![2, 8192, 2048]⟩
abbrev S2x8192 : Shape := ⟨2, ![2, 8192]⟩
abbrev S2048 : Shape := ⟨1, ![2048]⟩
abbrev S2048x8192 : Shape := ⟨2, ![2048, 8192]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S1x16384x1x128 : Shape := ⟨4, ![1, 16384, 1, 128]⟩
abbrev S16384x2048 : Shape := ⟨2, ![16384, 2048]⟩
abbrev S1x2048 : Shape := ⟨2, ![1, 2048]⟩
abbrev S16384x8192 : Shape := ⟨2, ![16384, 8192]⟩
abbrev S1024x2048 : Shape := ⟨2, ![1024, 2048]⟩
abbrev S2048x2048 : Shape := ⟨2, ![2048, 2048]⟩
abbrev S1024x128 : Shape := ⟨2, ![1024, 128]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩

abbrev nBuf : Space → Nat
  | .hbm => 40
  | .vmem => 12
  | .smem => 0
  | _ => 0

abbrev bufTy : (tb : Table) → Fin (tcTables nBuf tb) → BufTy
  | .hbm, ⟨0, _⟩ => ⟨S2x8192x2048, .f32⟩
  | .hbm, ⟨1, _⟩ => ⟨S2x8192, .i32⟩
  | .hbm, ⟨2, _⟩ => ⟨S2048, .f32⟩
  | .hbm, ⟨3, _⟩ => ⟨S2048x8192, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S2x8192, .f32⟩
  | .hbm, ⟨19, _⟩ => ⟨S16384, .f32⟩
  | .hbm, ⟨20, _⟩ => ⟨S16384x1, .f32⟩
  | .hbm, ⟨21, _⟩ => ⟨S1x64, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S16384x128, .f32⟩
  | .hbm, ⟨28, _⟩ => ⟨S1x16384x1x128, .f32⟩
  | .hbm, ⟨29, _⟩ => ⟨S1x16384x1x128, .f32⟩
  | .hbm, ⟨30, _⟩ => ⟨S16384x128, .f32⟩
  | .hbm, ⟨31, _⟩ => ⟨S16384x64, .f32⟩
  | .hbm, ⟨32, _⟩ => ⟨S16384x128, .f32⟩
  | .hbm, ⟨33, _⟩ => ⟨S1x16384x1x128, .f32⟩
  | .hbm, ⟨34, _⟩ => ⟨S1x16384x1x128, .f32⟩
  | .hbm, ⟨35, _⟩ => ⟨S16384x128, .f32⟩
  | .hbm, ⟨36, _⟩ => ⟨S16384x2048, .f32⟩
  | .hbm, ⟨37, _⟩ => ⟨S2048x8192, .bf16⟩
  | .hbm, ⟨38, _⟩ => ⟨S1x2048, .f32⟩
  | .hbm, ⟨39, _⟩ => ⟨S16384x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c1_i32 : BitVec 32 := 1#32
  let v4 : BitVec 1 := Scalar.cmpi .slt arg1 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c1_i32_3 : BitVec 32 := 1#32
  let v8 : BitVec 1 := Scalar.cmpi .sge arg1 c1_i32_3
  let c2_i32 : BitVec 32 := 2#32
  let v9 : BitVec 1 := Scalar.cmpi .slt arg1 c2_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c2_i32_5 : BitVec 32 := 2#32
  let v13 : BitVec 1 := Scalar.cmpi .sge arg1 c2_i32_5
  let c4_i32 : BitVec 32 := 4#32
  let v14 : BitVec 1 := Scalar.cmpi .slt arg1 c4_i32
  let v15 : BitVec 1 := Scalar.andi v13 v14
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2x8192x2048 : Shape := ⟨3, ![2, 8192, 2048]⟩
abbrev S2x8192 : Shape := ⟨2, ![2, 8192]⟩
abbrev S2048 : Shape := ⟨1, ![2048]⟩
abbrev S2048x8192 : Shape := ⟨2, ![2048, 8192]⟩
abbrev S64 : Shape := ⟨1, ![64]⟩
abbrev S_ : Shape := ⟨0, ![]⟩
abbrev S2x8192x1 : Shape := ⟨3, ![2, 8192, 1]⟩
abbrev S1x1x64 : Shape := ⟨3, ![1, 1, 64]⟩
abbrev S2x8192x64 : Shape := ⟨3, ![2, 8192, 64]⟩
abbrev S2x8192x1x64 : Shape := ⟨4, ![2, 8192, 1, 64]⟩
abbrev S1x1x2048 : Shape := ⟨3, ![1, 1, 2048]⟩
abbrev S2x8192x8192 : Shape := ⟨3, ![2, 8192, 8192]⟩
abbrev S2x8192x16x128 : Shape := ⟨4, ![2, 8192, 16, 128]⟩
abbrev S2x8192x16x64 : Shape := ⟨4, ![2, 8192, 16, 64]⟩
abbrev S16384x8192 : Shape := ⟨2, ![16384, 8192]⟩

abbrev nBuf : Space → Nat
  | .hbm => 85
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192, .i32⟩
  | .hbm, ⟨2, _⟩ => ⟨S2048, .f32⟩
  | .hbm, ⟨3, _⟩ => ⟨S2048x8192, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S2x8192, .f32⟩
  | .hbm, ⟨19, _⟩ => ⟨S2x8192x1, .f32⟩
  | .hbm, ⟨20, _⟩ => ⟨S1x1x64, .f32⟩
  | .hbm, ⟨21, _⟩ => ⟨S2x8192x64, .f32⟩
  | .hbm, ⟨22, _⟩ => ⟨S2x8192x64, .f32⟩
  | .hbm, ⟨23, _⟩ => ⟨S2x8192x64, .f32⟩
  | .hbm, ⟨24, _⟩ => ⟨S2x8192x64, .f32⟩
  | .hbm, ⟨25, _⟩ => ⟨S2x8192x1x64, .f32⟩
  | .hbm, ⟨26, _⟩ => ⟨S2x8192x64, .f32⟩
  | .hbm, ⟨27, _⟩ => ⟨S2x8192x1x64, .f32⟩
  | .hbm, ⟨28, _⟩ => ⟨S2x8192x2048, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x2048, .f32⟩
  | .hbm, ⟨40, _⟩ => ⟨S2x8192x2048, .f32⟩
  | .hbm, ⟨41, _⟩ => ⟨S1x1x2048, .f32⟩
  | .hbm, ⟨42, _⟩ => ⟨S2x8192x2048, .f32⟩
  | .hbm, ⟨43, _⟩ => ⟨S2x8192x2048, .f32⟩
  | .hbm, ⟨44, _⟩ => ⟨S2x8192x8192, .f32⟩
  | .hbm, ⟨45, _⟩ => ⟨S2x8192x2048, .f32⟩
  | .hbm, ⟨46, _⟩ => ⟨S2x8192x2048, .f32⟩
  | .hbm, ⟨47, _⟩ => ⟨S2x8192x2048, .f32⟩
  | .hbm, ⟨48, _⟩ => ⟨S2x8192x2048, .f32⟩
  | .hbm, ⟨49, _⟩ => ⟨S2x8192x16x128, .f32⟩
  | .hbm, ⟨50, _⟩ => ⟨S2x8192x16x64, .f32⟩
  | .hbm, ⟨51, _⟩ => ⟨S2x8192x16x64, .f32⟩
  | .hbm, ⟨52, _⟩ => ⟨S2x8192x16x64, .f32⟩
  | .hbm, ⟨53, _⟩ => ⟨S2x8192x16x64, .f32⟩
  | .hbm, ⟨54, _⟩ => ⟨S2x8192x16x64, .f32⟩
  | .hbm, ⟨55, _⟩ => ⟨S2x8192x16x64, .f32⟩
  | .hbm, ⟨56, _⟩ => ⟨S2x8192x16x64, .f32⟩
  | .hbm, ⟨57, _⟩ => ⟨S2x8192x16x64, .f32⟩
  | .hbm, ⟨58, _⟩ => ⟨S2x8192x16x64, .f32⟩
  | .hbm, ⟨59, _⟩ => ⟨S2x8192x16x64, .f32⟩
  | .hbm, ⟨60, _⟩ => ⟨S2x8192x16x64, .f32⟩
  | .hbm, ⟨61, _⟩ => ⟨S2x8192x16x64, .f32⟩
  | .hbm, ⟨62, _⟩ => ⟨S2x8192x16x128, .f32⟩
  | .hbm, ⟨63, _⟩ => ⟨S_, .f32⟩
  | .hbm, ⟨64, _⟩ => ⟨S2x8192x16x128, .f32⟩
  | .hbm, ⟨65, _⟩ => ⟨S2x8192x16x128, .f32⟩
  | .hbm, ⟨66, _⟩ => ⟨S2x8192x16x128, .f32⟩
  | .hbm, ⟨67, _⟩ => ⟨S2x8192x16x64, .f32⟩
  | .hbm, ⟨68, _⟩ => ⟨S2x8192x16x64, .f32⟩
  | .hbm, ⟨69, _⟩ => ⟨S2x8192x16x64, .f32⟩
  | .hbm, ⟨70, _⟩ => ⟨S2x8192x16x64, .f32⟩
  | .hbm, ⟨71, _⟩ => ⟨S2x8192x16x64, .f32⟩
  | .hbm, ⟨72, _⟩ => ⟨S2x8192x16x64, .f32⟩
  | .hbm, ⟨73, _⟩ => ⟨S2x8192x16x64, .f32⟩
  | .hbm, ⟨74, _⟩ => ⟨S2x8192x16x64, .f32⟩
  | .hbm, ⟨75, _⟩ => ⟨S2x8192x16x64, .f32⟩
  | .hbm, ⟨76, _⟩ => ⟨S2x8192x16x64, .f32⟩
  | .hbm, ⟨77, _⟩ => ⟨S2x8192x16x64, .f32⟩
  | .hbm, ⟨78, _⟩ => ⟨S2x8192x16x64, .f32⟩
  | .hbm, ⟨79, _⟩ => ⟨S2x8192x16x128, .f32⟩
  | .hbm, ⟨80, _⟩ => ⟨S2x8192x2048, .f32⟩
  | .hbm, ⟨81, _⟩ => ⟨S2x8192x2048, .f32⟩
  | .hbm, ⟨82, _⟩ => ⟨S2x8192x8192, .f32⟩
  | .hbm, ⟨83, _⟩ => ⟨S16384x8192, .f32⟩
  | .hbm, ⟨84, _⟩ => ⟨S16384x8192, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩

abbrev nD : Nat := 1
abbrev τ : Topo := Topo.v7x

variable {F : FTy → Type} [FloatOps F]
-- ==== Proof.Facts.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.LoopRemainder

@[expose] public section

set_option maxRecDepth 16384

noncomputable section

namespace Cert.Proof.KernelIdeal

open Cert.KernelIdeal Cert.KernelIdeal.Gen
open Idealize.ShloMosaic

/-- The buffer of scores the query block `a` starts in. -/
def base (a : ℕ) : ℕ := (a * (a + 1) / 2) % 2

/-- The grid point of batch 0, head 0 and query block `a`. -/
def pt2 (a : Fin 16) : grid0.Coords := fun
  | ⟨0, _⟩ => (0 : Fin 2)
  | ⟨1, _⟩ => (0 : Fin 8)
  | ⟨2, _⟩ => a

theorem trips_pt2 : ∀ a : Fin 16, (k0_t1_loop (pt2 a)).trips = a.val := by decide +kernel
theorem trips2_pt2 : ∀ a : Fin 16, (k0_t2_loop (pt2 a)).trips = 0 := by decide +kernel

theorem trips_eq (i : grid0.Coords) : (k0_t1_loop i).trips = (i 2).val := trips_pt2 (i 2)
theorem trips2_eq (i : grid0.Coords) : (k0_t2_loop i).trips = 0 := trips2_pt2 (i 2)

theorem cond2_iff (i : grid0.Coords) : k0_cond2 i = 1#1 ↔ (i 2).val = 0 :=
  (show ∀ a : Fin 16, k0_cond2 (pt2 a) = 1#1 ↔ a.val = 0 by decide +kernel) (i 2)
theorem cond3_iff (i : grid0.Coords) (k : Fin (k0_t1_loop i).trips) :
    k0_cond3 i k = 1#1 ↔ (base (i 2).val + k.val) % 2 = 0 :=
  (show ∀ (a : Fin 16) (k : Fin (k0_t1_loop (pt2 a)).trips), k0_cond3 (pt2 a) k = 1#1 ↔ (base a.val + k.val) % 2 = 0 by decide +kernel) (i 2) k
theorem cond5_iff (i : grid0.Coords) : k0_cond5 i = 1#1 ↔ (base (i 2).val + (i 2).val) % 2 = 0 :=
  (show ∀ a : Fin 16, k0_cond5 (pt2 a) = 1#1 ↔ (base a.val + a.val) % 2 = 0 by decide +kernel) (i 2)
theorem cond6_iff (i : grid0.Coords) : k0_cond6 i = 1#1 ↔ (base (i 2).val + (i 2).val) % 2 = 1 :=
  (show ∀ a : Fin 16, k0_cond6 (pt2 a) = 1#1 ↔ (base a.val + a.val) % 2 = 1 by decide +kernel) (i 2)
theorem base_succ (a : Fin 16) : base (a.val + 1) = (base a.val + a.val + 1) % 2 := by revert a; decide +kernel
theorem base_zero : base 0 = 0 := rfl
theorem base_sixteen : base 16 = 0 := rfl
theorem base_lt (a : ℕ) : base a < 2 := Nat.mod_lt _ (by decide)

end Cert.Proof.KernelIdeal
-- ==== Proof.Model.lean ====
module

public import proofs.«01_k».proof.Proof.Facts
public import Idealize.ShloMosaic.Lib.ValueIdx

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

/-! ## Reading back what was stored -/

section Reads
variable {sig' : RefSig} {κ : Kind} {sp : Space} {s : Shape} {e : EltTy}

/-- A load of the rectangle written last reads the value written. -/
theorem rd_hit (v : View sig' κ sp s e) (f : v.ty.Contents (Elt F)) (r : Rect s) (w : r.shape.Idx → Elt F e)
    (L : List (View.Piece (Elt F) s e)) :
    v.readAt (Elt F) r.toLoadRect (v.writes (Elt F) f (⟨r, w⟩ :: L)) = w :=
  funext fun x => View.read_writes_cons_emb v f r w L x

/-- A load disjoint from the rectangle written last reads past it. -/
theorem rd_miss (v : View sig' κ sp s e) (f : v.ty.Contents (Elt F)) (p : View.Piece (Elt F) s e)
    (L : List (View.Piece (Elt F) s e)) (B : LoadRect s) (h : LoadRect.disj p.1 B = true) :
    v.readAt (Elt F) B (v.writes (Elt F) f (p :: L)) = v.readAt (Elt F) B (v.writes (Elt F) f L) := by
  funext j
  rw [View.readAt_apply, View.readAt_apply, View.writes_cons]
  exact View.read_slice_write_of_not_mem p.1 _ _ _
    (by rw [Rect.map_emb_univ]; exact LoadRect.idx_not_mem_of_disj h j)

end Reads

/-! ## The blocks of the arrays in fast memory -/

/-- The 128 columns from `o` of key block `j`. -/
def kblk (x : S1x8192x256.Idx → Elt F .bf16) (j o : ℕ) : Vec F S1x512x128 .bf16 := fun y =>
  x (ix3 (0 : Fin 1) (⟨(512 * j + (y 1).val) % 8192, Nat.mod_lt _ (by decide)⟩ : Fin 8192)
    (⟨(o + (y 2).val) % 256, Nat.mod_lt _ (by decide)⟩ : Fin 256))

/-- The 512 rows of block `j`. -/
def rblk (x : S1x8192x256.Idx → Elt F .bf16) (j : ℕ) : Vec F S1x512x256 .bf16 := fun y =>
  x (ix3 (0 : Fin 1) (⟨(512 * j + (y 1).val) % 8192, Nat.mod_lt _ (by decide)⟩ : Fin 8192) (y 2))

/-- Block `j` of the transposed values. -/
def vblk (x : S16x272x512.Idx → Elt F .bf16) (j : ℕ) : Vec F S1x272x512 .bf16 := fun y =>
  x (ix3 (⟨j % 16, Nat.mod_lt _ (by decide)⟩ : Fin 16) (y 1) (y 2))

section Blocks
variable {sig' : RefSig} {κ : Kind} {sp : Space}

theorem rd_kblk (v : View sig' κ sp S1x8192x256 .bf16) (f : v.ty.Contents (Elt F)) {off : Fin 3 → ℕ} (inb) (j o : ℕ)
    (h : off = ![0, 512 * j, o]) :
    v.readAt (Elt F) (Rect.unit (s := S1x8192x256) off S1x512x128.size inb).toLoadRect f = kblk (v.read (Elt F) f) j o := by
  subst h
  have h1 : 512 * j + 512 ≤ 8192 := inb 1
  have h2 : o + 128 ≤ 256 := inb 2
  funext y
  rw [View.readAt_apply]
  have h3 : (y 1).val < 512 := (y 1).isLt
  have h4 : (y 2).val < 128 := (y 2).isLt
  have h5 : (y 0).val < 1 := (y 0).isLt
  refine congrArg _ (funext fun a => ?_)
  fin_cases a
  · apply Fin.ext; show 0 + 1 * (y 0).val = 0; omega
  · apply Fin.ext; show 512 * j + 1 * (y 1).val = (512 * j + (y 1).val) % 8192; omega
  · apply Fin.ext; show o + 1 * (y 2).val = (o + (y 2).val) % 256; omega

theorem rd_rblk (v : View sig' κ sp S1x8192x256 .bf16) (f : v.ty.Contents (Elt F)) {off : Fin 3 → ℕ} (inb) (j : ℕ)
    (h : off = ![0, 512 * j, 0]) :
    v.readAt (Elt F) (Rect.unit (s := S1x8192x256) off S1x512x256.size inb).toLoadRect f = rblk (v.read (Elt F) f) j := by
  subst h
  have h1 : 512 * j + 512 ≤ 8192 := inb 1
  funext y
  rw [View.readAt_apply]
  have h3 : (y 1).val < 512 := (y 1).isLt
  have h5 : (y 0).val < 1 := (y 0).isLt
  refine congrArg _ (funext fun a => ?_)
  fin_cases a
  · apply Fin.ext; show 0 + 1 * (y 0).val = 0; omega
  · apply Fin.ext; show 512 * j + 1 * (y 1).val = (512 * j + (y 1).val) % 8192; omega
  · apply Fin.ext; show 0 + 1 * (y 2).val = (y 2).val; omega

theorem rd_vblk (v : View sig' κ sp S16x272x512 .bf16) (f : v.ty.Contents (Elt F)) {off : Fin 3 → ℕ} (inb) (j : ℕ)
    (h : off = ![j, 0, 0]) :
    v.readAt (Elt F) (Rect.unit (s := S16x272x512) off S1x272x512.size inb).toLoadRect f = vblk (v.read (Elt F) f) j := by
  subst h
  have h1 : j + 1 ≤ 16 := inb 0
  funext y
  rw [View.readAt_apply]
  have h5 : (y 0).val < 1 := (y 0).isLt
  refine congrArg _ (funext fun a => ?_)
  fin_cases a
  · apply Fin.ext; show j + 1 * (y 0).val = j % 16; omega
  · apply Fin.ext; show 0 + 1 * (y 1).val = (y 1).val; omega
  · apply Fin.ext; show 0 + 1 * (y 2).val = (y 2).val; omega

end Blocks

/-! ## One step of the running softmax -/

/-- A block of scores in the buffer. -/
abbrev Sc (F : FTy → Type) := FVec F S1x1x512x512 .f32

/-- The running maximum and the accumulator. -/
abbrev St (F : FTy → Type) := FVec F S1x512 .f32 × FVec F S1x272x512 .f32

/-- The scores of the query block `q` with key block `j`, first map. -/
def sc0 (q : Vec F S1x512x256 .bf16) (x : S1x8192x256.Idx → Elt F .bf16) (j : ℕ) : Sc F :=
  k0_pay35 (k0_pay96 q) (kblk x j 0)

/-- The scores of the query block `q` with key block `j`, second map. -/
def sc1 (q : Vec F S1x512x256 .bf16) (x : S1x8192x256.Idx → Elt F .bf16) (j : ℕ) : Sc F :=
  k0_pay36 (k0_pay96 q) (kblk x j 128)

/-- The block's weights against the maximum `m` and the block's own. -/
def wt (m : FVec F S1x512 .f32) (s : Sc F) : FVec F S1x1x512x512 .bf16 := k0_pay39 (k0_pay38 m s s)

/-- One block of the running softmax. -/
def stp (x : St F) (s : Sc F) (v : Vec F S1x272x512 .bf16) : St F :=
  (k0_pay37 x.1 s, k0_pay40 x.1 (k0_pay37 x.1 s) x.2 v (wt x.1 s))

/-- The running softmax before block `k`. -/
def run (s : ℕ → Sc F) (v : ℕ → Vec F S1x272x512 .bf16) (x0 : St F) : ℕ → St F
  | 0 => x0
  | k + 1 => stp (run s v x0 k) (s k) (v k)

theorem run_succ (s : ℕ → Sc F) (v : ℕ → Vec F S1x272x512 .bf16) (x0 : St F) (k : ℕ) :
    run s v x0 (k + 1) = stp (run s v x0 k) (s k) (v k) := rfl

end Cert.Proof.KernelIdeal
-- ==== Proof.Step.lean ====
module

public import proofs.«01_k».proof.Proof.Model

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ (UR sig nD τ) ℕ

/-- The contents of a buffer. -/
abbrev Bf (c : Dev nD) {sp : Space} {S : Shape} {e : EltTy} (M : Memref sig .tc sp S e) : Type :=
  Buf (Elt F) (M.view.loc (c : Thread nD τ))

/-- A buffer held in full. -/
abbrev pt (c : Dev nD) {sp : Space} {S : Shape} {e : EltTy} (M : Memref sig .tc sp S e) (f : Bf (F := F) c M) :
    sProp 𝕄 :=
  M.view.loc (c : Thread nD τ) ↦{fullShare} f

/-- A load of a rectangle, the contents known. -/
abbrev rd {c : Dev nD} {sp : Space} {S : Shape} {e : EltTy} (M : Memref sig .tc sp S e) (r : Rect S) (f : Bf (F := F) c M) :
    r.shape.Idx → Elt F e := M.view.readAt (Elt F) r.toLoadRect f

/-- The four score buffers. -/
abbrev rS00 : Rect S2x2x512x512 := Rect.unit ![0, 0, 0, 0] S1x1x512x512.size inb_S2x2x512x512_S1x1x512x512_0_0_0_0
abbrev rS01 : Rect S2x2x512x512 := Rect.unit ![0, 1, 0, 0] S1x1x512x512.size inb_S2x2x512x512_S1x1x512x512_0_1_0_0
abbrev rS10 : Rect S2x2x512x512 := Rect.unit ![1, 0, 0, 0] S1x1x512x512.size inb_S2x2x512x512_S1x1x512x512_1_0_0_0
abbrev rS11 : Rect S2x2x512x512 := Rect.unit ![1, 1, 0, 0] S1x1x512x512.size inb_S2x2x512x512_S1x1x512x512_1_1_0_0

/-- The two accumulators. -/
abbrev rA0 : Rect S2x272x512 := Rect.unit ![0, 0, 0] S1x272x512.size inb_S2x272x512_S1x272x512_0_0_0
abbrev rA1 : Rect S2x272x512 := Rect.unit ![1, 0, 0] S1x272x512.size inb_S2x272x512_S1x272x512_1_0_0

/-- The score buffers of parity `b` hold the two maps' scores `s0`, `s1`. -/
def Holds {c : Dev nD} (arg12 : Memref sig .tc .vmem S2x2x512x512 .f32) (b : ℕ) (f12 : Bf (F := F) c arg12) (s0 s1 : Sc F) : Prop :=
  (b = 0 → rd arg12 rS00 f12 = s0 ∧ rd arg12 rS01 f12 = s1) ∧ (b = 1 → rd arg12 rS10 f12 = s0 ∧ rd arg12 rS11 f12 = s1)

/-- What the loop has computed before block `k`. -/
structure LF {c : Dev nD} (arg11 : Memref sig .tc .vmem S2x272x512 .f32) (arg12 : Memref sig .tc .vmem S2x2x512x512 .f32)
    (x0 : St F) (s0 s1 : ℕ → Sc F) (v : ℕ → Vec F S1x272x512 .bf16)
    (b k : ℕ) (f11 : Bf (F := F) c arg11) (f12 : Bf (F := F) c arg12) (m : FVec F S1x512 .f32 × FVec F S1x512 .f32) : Prop where
  m0 : m.1 = (run s0 v x0 k).1
  m1 : m.2 = (run s1 v x0 k).1
  a0 : rd arg11 rA0 f11 = (run s0 v x0 k).2
  a1 : rd arg11 rA1 f11 = (run s1 v x0 k).2
  sc : Holds arg12 ((b + k) % 2) f12 (s0 k) (s1 k)

theorem step_even (c : Dev nD) (i : grid0.Coords) (arg3 : Memref sig .tc .vmem S4x128 .f32) (harg3 : arg3.IsWhole) (arg4 : Memref sig .tc .vmem S1x256 .f32) (harg4 : arg4.IsWhole) (arg5 : Memref sig .tc .vmem S1x8192x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S16x272x512 .bf16) (harg10 : arg10.IsWhole) (arg11 : Memref sig .tc .vmem S2x272x512 .f32) (harg11 : arg11.IsWhole) (arg12 : Memref sig .tc .vmem S2x2x512x512 .f32) (harg12 : arg12.IsWhole) (arg13 : Memref sig .tc .vmem S2x2x512x512 .bf16) (harg13 : arg13.IsWhole) (arg2 : BitVec 32) (v28 : BitVec 32) (v33 : BitVec 1) (v34 : BitVec 32) (v39 : Vec F S1x512x256 .bf16)
    (k : Fin (k0_t1_loop i).trips) (m : FVec F S1x512 .f32 × FVec F S1x512 .f32) (x0 : St F)
    (f6 : Bf (F := F) c arg6) (f10 : Bf (F := F) c arg10) (f11 : Bf (F := F) c arg11) (f12 : Bf (F := F) c arg12) (f13 : Bf (F := F) c arg13)
    (h : k0_cond3 i k = 1#1)
    (hf : LF arg11 arg12 x0 (sc0 v39 (arg6.view.read (Elt F) f6)) (sc1 v39 (arg6.view.read (Elt F) f6)) (vblk (arg10.view.read (Elt F) f10))
      (base (i 2).val) k.val f11 f12 m)
    (Q : FVec F S1x512 .f32 × FVec F S1x512 .f32 → sProp 𝕄) :
    iprop(pt c arg6 f6 ∗ pt c arg10 f10 ∗ pt c arg11 f11 ∗ pt c arg12 f12 ∗ pt c arg13 f13
      ∗ (∀ m' : FVec F S1x512 .f32 × FVec F S1x512 .f32, (∃ (f11' : Bf (F := F) c arg11) (f12' : Bf (F := F) c arg12) (f13' : Bf (F := F) c arg13),
        pt c arg6 f6 ∗ pt c arg10 f10 ∗ pt c arg11 f11' ∗ pt c arg12 f12' ∗ pt c arg13 f13' ∗
        ⌜LF arg11 arg12 x0 (sc0 v39 (arg6.view.read (Elt F) f6)) (sc1 v39 (arg6.view.read (Elt F) f6)) (vblk (arg10.view.read (Elt F) f10))
          (base (i 2).val) (k.val + 1) f11' f12' m'⌝) -∗ Q m'))
    ⊢ wp frame (wpE (defs₀ (F := F)) Variants.none c none) Set.univ (k0_t1_body i arg3 harg3 arg4 harg4 arg5 harg5 arg6 harg6 arg7 harg7 arg8 harg8 arg9 harg9 arg10 harg10 arg11 harg11 arg12 harg12 arg13 harg13 arg2 v28 v33 v34 v39 k m) Q := by
  have hb : (base (i 2).val + k.val) % 2 = 0 := (cond3_iff i k).1 h
  obtain ⟨hs00, hs01⟩ := hf.sc.1 hb
  unfold k0_t1_body
  iintro ⟨H6, H10, H11, H12, H13, Hk⟩
  sl_exec (disch := sl_exact h)
  sl_step
  iapply Hk
  iexists _, _, _
  isplitl [H6]
  · iexact H6
  isplitl [H10]
  · iexact H10
  isplitl [H11]
  · iexact H11
  isplitl [H12]
  · iexact H12
  isplitl [H13]
  · iexact H13
  · ipureintro
    have e0 : rd (c := c) arg13 rS00 (arg13.view.writes (Elt F) arg13.view.junk [⟨rS00, wt m.1 (sc0 v39 (arg6.view.read (Elt F) f6) k.val)⟩])
        = wt m.1 (sc0 v39 (arg6.view.read (Elt F) f6) k.val) := rd_hit _ _ _ _ _
    have e1 : rd (c := c) arg13 rS01 (arg13.view.writes (Elt F) arg13.view.junk [⟨rS01, wt m.2 (sc1 v39 (arg6.view.read (Elt F) f6) k.val)⟩, ⟨rS00, wt m.1 (sc0 v39 (arg6.view.read (Elt F) f6) k.val)⟩])
        = wt m.2 (sc1 v39 (arg6.view.read (Elt F) f6) k.val) := rd_hit _ _ _ _ _
    have ev := rd_vblk arg10.view f10 (off := k0_off4 i k) (k0_off4_inb i k h) k.val (k0_off4_eq i k)
    refine ⟨?_, ?_, ?_, ?_, ⟨fun h0 => absurd h0 (by omega), fun _ => ⟨?_, ?_⟩⟩⟩
    · rw [run_succ]; unfold stp; rw [← hf.m0]; rfl
    · rw [run_succ]; unfold stp; rw [← hf.m1]; rfl
    · refine (rd_miss _ _ _ _ _ (h := rfl)).trans ((rd_hit _ _ _ _ _).trans ?_)
      rw [run_succ]; unfold stp; rw [← hf.m0, ← hf.a0]
      exact congrArg₂ (fun vv pp => k0_pay40 m.1 (k0_pay37 m.1 (sc0 v39 (arg6.view.read (Elt F) f6) k.val)) (rd arg11 rA0 f11) vv pp) ev e0
    · refine (rd_hit _ _ _ _ _).trans ?_
      rw [run_succ]; unfold stp; rw [← hf.m1, ← hf.a1]
      exact congrArg₂ (fun vv pp => k0_pay40 m.2 (k0_pay37 m.2 (sc1 v39 (arg6.view.read (Elt F) f6) k.val)) (rd arg11 rA1 f11) vv pp) ev e1
    · refine (rd_miss _ _ _ _ _ (h := rfl)).trans ((rd_hit _ _ _ _ _).trans ?_)
      exact congrArg (k0_pay35 (k0_pay96 v39)) (rd_kblk arg6.view f6 _ (k.val + 1) 0 ((k0_off2_eq i k).trans (by rw [Nat.mul_succ])))
    · refine (rd_hit _ _ _ _ _).trans ?_
      exact congrArg (k0_pay36 (k0_pay96 v39)) (rd_kblk arg6.view f6 _ (k.val + 1) 128 ((k0_off3_eq i k).trans (by rw [Nat.mul_succ])))

theorem step_odd (c : Dev nD) (i : grid0.Coords) (arg3 : Memref sig .tc .vmem S4x128 .f32) (harg3 : arg3.IsWhole) (arg4 : Memref sig .tc .vmem S1x256 .f32) (harg4 : arg4.IsWhole) (arg5 : Memref sig .tc .vmem S1x8192x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S16x272x512 .bf16) (harg10 : arg10.IsWhole) (arg11 : Memref sig .tc .vmem S2x272x512 .f32) (harg11 : arg11.IsWhole) (arg12 : Memref sig .tc .vmem S2x2x512x512 .f32) (harg12 : arg12.IsWhole) (arg13 : Memref sig .tc .vmem S2x2x512x512 .bf16) (harg13 : arg13.IsWhole) (arg2 : BitVec 32) (v28 : BitVec 32) (v33 : BitVec 1) (v34 : BitVec 32) (v39 : Vec F S1x512x256 .bf16)
    (k : Fin (k0_t1_loop i).trips) (m : FVec F S1x512 .f32 × FVec F S1x512 .f32) (x0 : St F)
    (f6 : Bf (F := F) c arg6) (f10 : Bf (F := F) c arg10) (f11 : Bf (F := F) c arg11) (f12 : Bf (F := F) c arg12) (f13 : Bf (F := F) c arg13)
    (h : ¬ k0_cond3 i k = 1#1)
    (hf : LF arg11 arg12 x0 (sc0 v39 (arg6.view.read (Elt F) f6)) (sc1 v39 (arg6.view.read (Elt F) f6)) (vblk (arg10.view.read (Elt F) f10))
      (base (i 2).val) k.val f11 f12 m)
    (Q : FVec F S1x512 .f32 × FVec F S1x512 .f32 → sProp 𝕄) :
    iprop(pt c arg6 f6 ∗ pt c arg10 f10 ∗ pt c arg11 f11 ∗ pt c arg12 f12 ∗ pt c arg13 f13
      ∗ (∀ m' : FVec F S1x512 .f32 × FVec F S1x512 .f32, (∃ (f11' : Bf (F := F) c arg11) (f12' : Bf (F := F) c arg12) (f13' : Bf (F := F) c arg13),
        pt c arg6 f6 ∗ pt c arg10 f10 ∗ pt c arg11 f11' ∗ pt c arg12 f12' ∗ pt c arg13 f13' ∗
        ⌜LF arg11 arg12 x0 (sc0 v39 (arg6.view.read (Elt F) f6)) (sc1 v39 (arg6.view.read (Elt F) f6)) (vblk (arg10.view.read (Elt F) f10))
          (base (i 2).val) (k.val + 1) f11' f12' m'⌝) -∗ Q m'))
    ⊢ wp frame (wpE (defs₀ (F := F)) Variants.none c none) Set.univ (k0_t1_body i arg3 harg3 arg4 harg4 arg5 harg5 arg6 harg6 arg7 harg7 arg8 harg8 arg9 harg9 arg10 harg10 arg11 harg11 arg12 harg12 arg13 harg13 arg2 v28 v33 v34 v39 k m) Q := by
  have hb : (base (i 2).val + k.val) % 2 = 1 := by have := (cond3_iff i k).not.1 h; omega
  obtain ⟨hs10, hs11⟩ := hf.sc.2 hb
  unfold k0_t1_body
  iintro ⟨H6, H10, H11, H12, H13, Hk⟩
  sl_exec (disch := sl_exact h)
  sl_step
  iapply Hk
  iexists _, _, _
  isplitl [H6]
  · iexact H6
  isplitl [H10]
  · iexact H10
  isplitl [H11]
  · iexact H11
  isplitl [H12]
  · iexact H12
  isplitl [H13]
  · iexact H13
  · ipureintro
    have e0 : rd (c := c) arg13 rS10 (arg13.view.writes (Elt F) arg13.view.junk [⟨rS10, wt m.1 (sc0 v39 (arg6.view.read (Elt F) f6) k.val)⟩])
        = wt m.1 (sc0 v39 (arg6.view.read (Elt F) f6) k.val) := rd_hit _ _ _ _ _
    have e1 : rd (c := c) arg13 rS11 (arg13.view.writes (Elt F) arg13.view.junk [⟨rS11, wt m.2 (sc1 v39 (arg6.view.read (Elt F) f6) k.val)⟩, ⟨rS10, wt m.1 (sc0 v39 (arg6.view.read (Elt F) f6) k.val)⟩])
        = wt m.2 (sc1 v39 (arg6.view.read (Elt F) f6) k.val) := rd_hit _ _ _ _ _
    have ev := rd_vblk arg10.view f10 (off := k0_off7 i k) (k0_off7_inb i k h) k.val (k0_off7_eq i k)
    refine ⟨?_, ?_, ?_, ?_, ⟨fun _ => ⟨?_, ?_⟩, fun h0 => absurd h0 (by omega)⟩⟩
    · rw [run_succ]; unfold stp; rw [← hf.m0]; rfl
    · rw [run_succ]; unfold stp; rw [← hf.m1]; rfl
    · refine (rd_miss _ _ _ _ _ (h := rfl)).trans ((rd_hit _ _ _ _ _).trans ?_)
      rw [run_succ]; unfold stp; rw [← hf.m0, ← hf.a0]
      exact congrArg₂ (fun vv pp => k0_pay40 m.1 (k0_pay37 m.1 (sc0 v39 (arg6.view.read (Elt F) f6) k.val)) (rd arg11 rA0 f11) vv pp) ev e0
    · refine (rd_hit _ _ _ _ _).trans ?_
      rw [run_succ]; unfold stp; rw [← hf.m1, ← hf.a1]
      exact congrArg₂ (fun vv pp => k0_pay40 m.2 (k0_pay37 m.2 (sc1 v39 (arg6.view.read (Elt F) f6) k.val)) (rd arg11 rA1 f11) vv pp) ev e1
    · refine (rd_miss _ _ _ _ _ (h := rfl)).trans ((rd_hit _ _ _ _ _).trans ?_)
      exact congrArg (k0_pay35 (k0_pay96 v39)) (rd_kblk arg6.view f6 _ (k.val + 1) 0 ((k0_off5_eq i k).trans (by rw [Nat.mul_succ])))
    · refine (rd_hit _ _ _ _ _).trans ?_
      exact congrArg (k0_pay36 (k0_pay96 v39)) (rd_kblk arg6.view f6 _ (k.val + 1) 128 ((k0_off6_eq i k).trans (by rw [Nat.mul_succ])))

end Cert.Proof.KernelIdeal
-- ==== Proof.Vt.lean ====
module

public import proofs.«01_k».proof.Proof.Step

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ (UR sig nD τ) ℕ

/-- The transposed values of one head: 256 rows of values and 16 rows of ones in each of the 16 blocks. -/
def VT (x : S1x8192x256.Idx → Elt F .bf16) : S16x272x512.Idx → Elt F .bf16 := fun y =>
  if h : (y 1).val < 256 then k0_pay2 (rblk x (y 0).val) (ix3 (0 : Fin 1) (⟨(y 1).val, h⟩ : Fin 256) (y 2))
  else k0_pay3 (F := F) (ix3 (0 : Fin 1) (⟨(y 1).val % 16, Nat.mod_lt _ (by decide)⟩ : Fin 16) (y 2))

/-- The first `n` blocks are filled. -/
def Filled (x : S1x8192x256.Idx → Elt F .bf16) (n : ℕ) (g : S16x272x512.Idx → Elt F .bf16) : Prop :=
  ∀ y, (y 0).val < n → g y = VT x y

theorem fill_step {sig' : RefSig} {κ : Kind} {sp : Space} (v : View sig' κ sp S16x272x512 .bf16) (f : v.ty.Contents (Elt F))
    (x : S1x8192x256.Idx → Elt F .bf16) (n : ℕ) (inb : ∀ a, (![n, 256, 0] : Fin 3 → ℕ) a + S1x16x512.size a ≤ S16x272x512.size a)
    (inb' : ∀ a, (![n, 0, 0] : Fin 3 → ℕ) a + S1x256x512.size a ≤ S16x272x512.size a)
    (wO : S1x16x512.Idx → Elt F .bf16) (wV : S1x256x512.Idx → Elt F .bf16) (hO : wO = k0_pay3 (F := F)) (hV : wV = k0_pay2 (rblk x n))
    (L : List (View.Piece (Elt F) S16x272x512 .bf16)) (h : Filled x n (v.read (Elt F) (v.writes (Elt F) f L))) :
    Filled x (n + 1) (v.read (Elt F) (v.writes (Elt F) f
      (⟨Rect.unit ![n, 256, 0] S1x16x512.size inb, wO⟩ :: ⟨Rect.unit ![n, 0, 0] S1x256x512.size inb', wV⟩ :: L))) := by
  intro y hy
  subst hO hV
  have hn : n + 1 ≤ 16 := inb 0
  have h1 : (y 1).val < 272 := (y 1).isLt
  have h2 : (y 2).val < 512 := (y 2).isLt
  by_cases hy0 : (y 0).val = n
  · by_cases hy1 : (y 1).val < 256
    · have hmiss : y ∉ (Rect.unit (s := S16x272x512) ![n, 256, 0] S1x16x512.size inb).set :=
        fun hm => by
          have h3 : 256 ≤ (y 1).val := (Rect.mem_set_unit.1 hm (1 : Fin 3)).1
          omega
      have e : y = (Rect.unit (s := S16x272x512) ![n, 0, 0] S1x256x512.size inb').emb (ix3 (0 : Fin 1) (⟨(y 1).val, hy1⟩ : Fin 256) (y 2)) := by
        funext a
        fin_cases a
        · apply Fin.ext; show (y 0).val = n + 1 * 0; omega
        · apply Fin.ext; show (y 1).val = 0 + 1 * (y 1).val; omega
        · apply Fin.ext; show (y 2).val = 0 + 1 * (y 2).val; omega
      rw [View.writes_cons, View.read_slice_write_of_not_mem _ _ _ _ (by rw [Rect.map_emb_univ]; exact hmiss)]
      have := View.read_writes_cons_emb v f (Rect.unit (s := S16x272x512) ![n, 0, 0] S1x256x512.size inb') (k0_pay2 (rblk x n)) L
        (ix3 (0 : Fin 1) (⟨(y 1).val, hy1⟩ : Fin 256) (y 2))
      rw [← e] at this
      refine this.trans ?_
      unfold VT
      rw [dif_pos hy1, hy0]
    · have e : y = (Rect.unit (s := S16x272x512) ![n, 256, 0] S1x16x512.size inb).emb
          (ix3 (0 : Fin 1) (⟨(y 1).val % 16, Nat.mod_lt _ (by decide)⟩ : Fin 16) (y 2)) := by
        funext a
        fin_cases a
        · apply Fin.ext; show (y 0).val = n + 1 * 0; omega
        · apply Fin.ext; show (y 1).val = 256 + 1 * ((y 1).val % 16); omega
        · apply Fin.ext; show (y 2).val = 0 + 1 * (y 2).val; omega
      have := View.read_writes_cons_emb v f (Rect.unit (s := S16x272x512) ![n, 256, 0] S1x16x512.size inb) (k0_pay3 (F := F))
        (⟨Rect.unit ![n, 0, 0] S1x256x512.size inb', k0_pay2 (rblk x n)⟩ :: L)
        (ix3 (0 : Fin 1) (⟨(y 1).val % 16, Nat.mod_lt _ (by decide)⟩ : Fin 16) (y 2))
      rw [← e] at this
      refine this.trans ?_
      unfold VT
      rw [dif_neg hy1]
  · have hlt : (y 0).val < n := by omega
    have hm1 : y ∉ (Rect.unit (s := S16x272x512) ![n, 256, 0] S1x16x512.size inb).set :=
      fun hm => by
        have h3 : n ≤ (y 0).val := (Rect.mem_set_unit.1 hm (0 : Fin 3)).1
        omega
    have hm2 : y ∉ (Rect.unit (s := S16x272x512) ![n, 0, 0] S1x256x512.size inb').set :=
      fun hm => by
        have h3 : n ≤ (y 0).val := (Rect.mem_set_unit.1 hm (0 : Fin 3)).1
        omega
    rw [View.writes_cons, View.read_slice_write_of_not_mem _ _ _ _ (by rw [Rect.map_emb_univ]; exact hm1),
      View.writes_cons, View.read_slice_write_of_not_mem _ _ _ _ (by rw [Rect.map_emb_univ]; exact hm2)]
    exact h y hlt

/-- A load inside the rectangle written last. -/
theorem rd_sub {sig' : RefSig} {κ : Kind} {sp : Space} {s : Shape} {e : EltTy} (v : View sig' κ sp s e) (f : v.ty.Contents (Elt F))
    (r : Rect s) (w : r.shape.Idx → Elt F e) (L : List (View.Piece (Elt F) s e)) (B : LoadRect s) (g : B.shape.Idx → r.shape.Idx)
    (h : ∀ j, B.idx j = r.emb (g j)) :
    v.readAt (Elt F) B (v.writes (Elt F) f (⟨r, w⟩ :: L)) = fun j => w (g j) := by
  funext j
  rw [View.readAt_apply, h j]
  exact View.read_writes_cons_emb v f r w L (g j)

/-- The accumulator before the first block. -/
def Z0 : FVec F S1x272x512 .f32 := fun _ => Scalar.ofBits .f32 0x00000000#32

theorem pay95_apply (y : S2x272x512.Idx) : k0_pay95 (F := F) y = Scalar.ofBits .f32 0x00000000#32 := rfl

theorem rd_zero (c : Dev nD) (arg11 : Memref sig .tc .vmem S2x272x512 .f32) (f : Bf (F := F) c arg11) (inb) :
    rd (c := c) arg11 rA0 (arg11.view.writes (Elt F) f [⟨Rect.unit ![0, 0, 0] S2x272x512.size inb, k0_pay95 (F := F)⟩]) = Z0 ∧
    rd (c := c) arg11 rA1 (arg11.view.writes (Elt F) f [⟨Rect.unit ![0, 0, 0] S2x272x512.size inb, k0_pay95 (F := F)⟩]) = Z0 := by
  constructor
  · refine (rd_sub arg11.view f _ _ [] _ (fun y => ix3 (0 : Fin 2) (y 1) (y 2)) (fun y => ?_)).trans (funext fun y => pay95_apply _)
    have h0 : (y 0).val < 1 := (y 0).isLt
    funext a
    fin_cases a
    · apply Fin.ext; show 0 + 1 * (y 0).val = 0 + 1 * 0; omega
    · apply Fin.ext; show 0 + 1 * (y 1).val = 0 + 1 * (y 1).val; rfl
    · apply Fin.ext; show 0 + 1 * (y 2).val = 0 + 1 * (y 2).val; rfl
  · refine (rd_sub arg11.view f _ _ [] _ (fun y => ix3 (1 : Fin 2) (y 1) (y 2)) (fun y => ?_)).trans (funext fun y => pay95_apply _)
    have h0 : (y 0).val < 1 := (y 0).isLt
    funext a
    fin_cases a
    · apply Fin.ext; show 1 + 1 * (y 0).val = 0 + 1 * 1; omega
    · apply Fin.ext; show 0 + 1 * (y 1).val = 0 + 1 * (y 1).val; rfl
    · apply Fin.ext; show 0 + 1 * (y 2).val = 0 + 1 * (y 2).val; rfl

end Cert.Proof.KernelIdeal
-- ==== Proof.Fill.lean ====
module

public import proofs.«01_k».proof.Proof.Vt

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ (UR sig nD τ) ℕ

theorem part21_first (c : Dev nD) (i : grid0.Coords) (arg3 : Memref sig .tc .vmem S4x128 .f32) (harg3 : arg3.IsWhole) (arg4 : Memref sig .tc .vmem S1x256 .f32) (harg4 : arg4.IsWhole) (arg5 : Memref sig .tc .vmem S1x8192x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S16x272x512 .bf16) (harg10 : arg10.IsWhole) (arg11 : Memref sig .tc .vmem S2x272x512 .f32) (harg11 : arg11.IsWhole) (arg12 : Memref sig .tc .vmem S2x2x512x512 .f32) (harg12 : arg12.IsWhole) (arg13 : Memref sig .tc .vmem S2x2x512x512 .bf16) (harg13 : arg13.IsWhole) (hi : (i 2).val = 0)
    (f7 : Bf (F := F) c arg7) (f10 : Bf (F := F) c arg10) (f11 : Bf (F := F) c arg11)
    (Ψ : Bf (F := F) c arg10 → Bf (F := F) c arg11 → Prop)
    (hΨ : ∀ f10 f11, rd arg11 rA0 f11 = Z0 → rd arg11 rA1 f11 = Z0 → Ψ f10 f11) :
    iprop(pt c arg7 f7 ∗ pt c arg10 f10 ∗ pt c arg11 f11)
    ⊢ wp frame (wpE (defs₀ (F := F)) Variants.none c none) Set.univ (k0_part21 i arg3 harg3 arg4 harg4 arg5 harg5 arg6 harg6 arg7 harg7 arg8 harg8 arg9 harg9 arg10 harg10 arg11 harg11 arg12 harg12 arg13 harg13)
      (fun r => iprop(⌜r.1 = BitVec.ofNat 32 (i 2).val⌝ ∗ pt c arg7 f7 ∗
        (∃ (f10' : Bf (F := F) c arg10) (f11' : Bf (F := F) c arg11), pt c arg10 f10' ∗ pt c arg11 f11' ∗
          ⌜arg10.view.read (Elt F) f10' = VT (arg7.view.read (Elt F) f7)⌝ ∗ ⌜Ψ f10' f11'⌝))) := by
  have hc : k0_cond2 i = 1#1 := (cond2_iff i).2 hi
  unfold k0_cond2 at hc
  rw [k0_part21_eq_skeleton]
  unfold k0_part21_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  iintro ⟨H7, H10, H11⟩
  sl_exec (disch := exact hc)
  sl_step
  isplitr
  · ipureintro; rfl
  isplitl [H7]
  · iexact H7
  · iexists _, _
    isplitl [H10]
    · iexact H10
    isplitl [H11]
    · iexact H11
    isplitr
    · ipureintro
      have h0 : Filled (arg7.view.read (Elt F) f7) 0 (arg10.view.read (Elt F) (arg10.view.writes (Elt F) f10 [])) :=
        fun y hy => absurd hy (Nat.not_lt_zero _)
      have h1 := fill_step arg10.view f10 (arg7.view.read (Elt F) f7) 0 inb_S16x272x512_S1x16x512_0_256_0 inb_S16x272x512_S1x256x512_0_0_0 _ _ rfl
          (congrArg k0_pay2 (rd_rblk arg7.view f7 (off := ![0, 0, 0]) inb_S1x8192x256_S1x512x256_0_0_0 0 rfl)) _ h0
      have h2 := fill_step arg10.view f10 (arg7.view.read (Elt F) f7) 1 inb_S16x272x512_S1x16x512_1_256_0 inb_S16x272x512_S1x256x512_1_0_0 _ _ rfl
          (congrArg k0_pay2 (rd_rblk arg7.view f7 (off := ![0, 512, 0]) inb_S1x8192x256_S1x512x256_0_512_0 1 rfl)) _ h1
      have h3 := fill_step arg10.view f10 (arg7.view.read (Elt F) f7) 2 inb_S16x272x512_S1x16x512_2_256_0 inb_S16x272x512_S1x256x512_2_0_0 _ _ rfl
          (congrArg k0_pay2 (rd_rblk arg7.view f7 (off := ![0, 1024, 0]) inb_S1x8192x256_S1x512x256_0_1024_0 2 rfl)) _ h2
      have h4 := fill_step arg10.view f10 (arg7.view.read (Elt F) f7) 3 inb_S16x272x512_S1x16x512_3_256_0 inb_S16x272x512_S1x256x512_3_0_0 _ _ rfl
          (congrArg k0_pay2 (rd_rblk arg7.view f7 (off := ![0, 1536, 0]) inb_S1x8192x256_S1x512x256_0_1536_0 3 rfl)) _ h3
      have h5 := fill_step arg10.view f10 (arg7.view.read (Elt F) f7) 4 inb_S16x272x512_S1x16x512_4_256_0 inb_S16x272x512_S1x256x512_4_0_0 _ _ rfl
          (congrArg k0_pay2 (rd_rblk arg7.view f7 (off := ![0, 2048, 0]) inb_S1x8192x256_S1x512x256_0_2048_0 4 rfl)) _ h4
      have h6 := fill_step arg10.view f10 (arg7.view.read (Elt F) f7) 5 inb_S16x272x512_S1x16x512_5_256_0 inb_S16x272x512_S1x256x512_5_0_0 _ _ rfl
          (congrArg k0_pay2 (rd_rblk arg7.view f7 (off := ![0, 2560, 0]) inb_S1x8192x256_S1x512x256_0_2560_0 5 rfl)) _ h5
      have h7 := fill_step arg10.view f10 (arg7.view.read (Elt F) f7) 6 inb_S16x272x512_S1x16x512_6_256_0 inb_S16x272x512_S1x256x512_6_0_0 _ _ rfl
          (congrArg k0_pay2 (rd_rblk arg7.view f7 (off := ![0, 3072, 0]) inb_S1x8192x256_S1x512x256_0_3072_0 6 rfl)) _ h6
      have h8 := fill_step arg10.view f10 (arg7.view.read (Elt F) f7) 7 inb_S16x272x512_S1x16x512_7_256_0 inb_S16x272x512_S1x256x512_7_0_0 _ _ rfl
          (congrArg k0_pay2 (rd_rblk arg7.view f7 (off := ![0, 3584, 0]) inb_S1x8192x256_S1x512x256_0_3584_0 7 rfl)) _ h7
      have h9 := fill_step arg10.view f10 (arg7.view.read (Elt F) f7) 8 inb_S16x272x512_S1x16x512_8_256_0 inb_S16x272x512_S1x256x512_8_0_0 _ _ rfl
          (congrArg k0_pay2 (rd_rblk arg7.view f7 (off := ![0, 4096, 0]) inb_S1x8192x256_S1x512x256_0_4096_0 8 rfl)) _ h8
      have h10 := fill_step arg10.view f10 (arg7.view.read (Elt F) f7) 9 inb_S16x272x512_S1x16x512_9_256_0 inb_S16x272x512_S1x256x512_9_0_0 _ _ rfl
          (congrArg k0_pay2 (rd_rblk arg7.view f7 (off := ![0, 4608, 0]) inb_S1x8192x256_S1x512x256_0_4608_0 9 rfl)) _ h9
      have h11 := fill_step arg10.view f10 (arg7.view.read (Elt F) f7) 10 inb_S16x272x512_S1x16x512_10_256_0 inb_S16x272x512_S1x256x512_10_0_0 _ _ rfl
          (congrArg k0_pay2 (rd_rblk arg7.view f7 (off := ![0, 5120, 0]) inb_S1x8192x256_S1x512x256_0_5120_0 10 rfl)) _ h10
      have h12 := fill_step arg10.view f10 (arg7.view.read (Elt F) f7) 11 inb_S16x272x512_S1x16x512_11_256_0 inb_S16x272x512_S1x256x512_11_0_0 _ _ rfl
          (congrArg k0_pay2 (rd_rblk arg7.view f7 (off := ![0, 5632, 0]) inb_S1x8192x256_S1x512x256_0_5632_0 11 rfl)) _ h11
      have h13 := fill_step arg10.view f10 (arg7.view.read (Elt F) f7) 12 inb_S16x272x512_S1x16x512_12_256_0 inb_S16x272x512_S1x256x512_12_0_0 _ _ rfl
          (congrArg k0_pay2 (rd_rblk arg7.view f7 (off := ![0, 6144, 0]) inb_S1x8192x256_S1x512x256_0_6144_0 12 rfl)) _ h12
      have h14 := fill_step arg10.view f10 (arg7.view.read (Elt F) f7) 13 inb_S16x272x512_S1x16x512_13_256_0 inb_S16x272x512_S1x256x512_13_0_0 _ _ rfl
          (congrArg k0_pay2 (rd_rblk arg7.view f7 (off := ![0, 6656, 0]) inb_S1x8192x256_S1x512x256_0_6656_0 13 rfl)) _ h13
      have h15 := fill_step arg10.view f10 (arg7.view.read (Elt F) f7) 14 inb_S16x272x512_S1x16x512_14_256_0 inb_S16x272x512_S1x256x512_14_0_0 _ _ rfl
          (congrArg k0_pay2 (rd_rblk arg7.view f7 (off := ![0, 7168, 0]) inb_S1x8192x256_S1x512x256_0_7168_0 14 rfl)) _ h14
      have h16 := fill_step arg10.view f10 (arg7.view.read (Elt F) f7) 15 inb_S16x272x512_S1x16x512_15_256_0 inb_S16x272x512_S1x256x512_15_0_0 _ _ rfl
          (congrArg k0_pay2 (rd_rblk arg7.view f7 (off := ![0, 7680, 0]) inb_S1x8192x256_S1x512x256_0_7680_0 15 rfl)) _ h15
      funext y
      exact h16 y (y 0).isLt
    · ipureintro
      exact hΨ _ _ (rd_zero c arg11 _ _).1 (rd_zero c arg11 _ _).2

theorem part21_rest (c : Dev nD) (i : grid0.Coords) (arg3 : Memref sig .tc .vmem S4x128 .f32) (harg3 : arg3.IsWhole) (arg4 : Memref sig .tc .vmem S1x256 .f32) (harg4 : arg4.IsWhole) (arg5 : Memref sig .tc .vmem S1x8192x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S16x272x512 .bf16) (harg10 : arg10.IsWhole) (arg11 : Memref sig .tc .vmem S2x272x512 .f32) (harg11 : arg11.IsWhole) (arg12 : Memref sig .tc .vmem S2x2x512x512 .f32) (harg12 : arg12.IsWhole) (arg13 : Memref sig .tc .vmem S2x2x512x512 .bf16) (harg13 : arg13.IsWhole) (hi : (i 2).val ≠ 0)
    (f11 : Bf (F := F) c arg11) (Ψ : Bf (F := F) c arg11 → Prop)
    (hΨ : ∀ f11, rd arg11 rA0 f11 = Z0 → rd arg11 rA1 f11 = Z0 → Ψ f11) :
    iprop(pt c arg11 f11)
    ⊢ wp frame (wpE (defs₀ (F := F)) Variants.none c none) Set.univ (k0_part21 i arg3 harg3 arg4 harg4 arg5 harg5 arg6 harg6 arg7 harg7 arg8 harg8 arg9 harg9 arg10 harg10 arg11 harg11 arg12 harg12 arg13 harg13)
      (fun r => iprop(⌜r.1 = BitVec.ofNat 32 (i 2).val⌝ ∗
        (∃ f11' : Bf (F := F) c arg11, pt c arg11 f11' ∗ ⌜Ψ f11'⌝))) := by
  have hc : ¬ k0_cond2 i = 1#1 := (cond2_iff i).not.2 hi
  unfold k0_cond2 at hc
  rw [k0_part21_eq_skeleton]
  unfold k0_part21_skel
  iintro H11
  sl_exec (disch := exact hc)
  sl_step
  isplitr
  · ipureintro; rfl
  · iexists _
    isplitl [H11]
    · iexact H11
    · ipureintro
      exact hΨ _ (rd_zero c arg11 _ _).1 (rd_zero c arg11 _ _).2

end Cert.Proof.KernelIdeal
-- ==== Proof.Loop.lean ====
module

public import proofs.«01_k».proof.Proof.Vt

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ (UR sig nD τ) ℕ

/-- The state before the first block. -/
def X0 : St F := (k0_pay99 (F := F), Z0)

/-- The loop over the unmasked blocks of keys. -/
@[sl_loop] def loopInv_k0_t1 (c : Dev nD) (i : grid0.Coords) (arg3 : Memref sig .tc .vmem S4x128 .f32) (harg3 : arg3.IsWhole) (arg4 : Memref sig .tc .vmem S1x256 .f32) (harg4 : arg4.IsWhole) (arg5 : Memref sig .tc .vmem S1x8192x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S16x272x512 .bf16) (harg10 : arg10.IsWhole) (arg11 : Memref sig .tc .vmem S2x272x512 .f32) (harg11 : arg11.IsWhole) (arg12 : Memref sig .tc .vmem S2x2x512x512 .f32) (harg12 : arg12.IsWhole) (arg13 : Memref sig .tc .vmem S2x2x512x512 .bf16) (harg13 : arg13.IsWhole) (f6 : Bf (F := F) c arg6) (f10 : Bf (F := F) c arg10)
    (arg2 : BitVec 32) (v28 : BitVec 32) (v33 : BitVec 1) (v34 : BitVec 32) (v39 : Vec F S1x512x256 .bf16)
    (init : FVec F S1x512 .f32 × FVec F S1x512 .f32) :
    Gen.LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg2 v28 v33 v34 v39 init where
  inv k m := iprop(∃ (f11 : Bf (F := F) c arg11) (f12 : Bf (F := F) c arg12) (f13 : Bf (F := F) c arg13),
    pt c arg6 f6 ∗ pt c arg10 f10 ∗ pt c arg11 f11 ∗ pt c arg12 f12 ∗ pt c arg13 f13 ∗
    ⌜LF arg11 arg12 X0 (sc0 v39 (arg6.view.read (Elt F) f6)) (sc1 v39 (arg6.view.read (Elt F) f6)) (vblk (arg10.view.read (Elt F) f10)) (base (i 2).val) k f11 f12 m⌝)
  step k m := by
    iintro ⟨%f11, %f12, %f13, H6, H10, H11, H12, H13, %hf⟩
    by_cases h : k0_cond3 i k = 1#1
    · iapply (step_even c i arg3 harg3 arg4 harg4 arg5 harg5 arg6 harg6 arg7 harg7 arg8 harg8 arg9 harg9 arg10 harg10 arg11 harg11 arg12 harg12 arg13 harg13 arg2 v28 v33 v34 v39 k m X0 f6 f10 f11 f12 f13 h hf _)
      isplitl [H6]
      · iexact H6
      isplitl [H10]
      · iexact H10
      isplitl [H11]
      · iexact H11
      isplitl [H12]
      · iexact H12
      isplitl [H13]
      · iexact H13
      iintro %m' H
      iexact H
    · iapply (step_odd c i arg3 harg3 arg4 harg4 arg5 harg5 arg6 harg6 arg7 harg7 arg8 harg8 arg9 harg9 arg10 harg10 arg11 harg11 arg12 harg12 arg13 harg13 arg2 v28 v33 v34 v39 k m X0 f6 f10 f11 f12 f13 h hf _)
      isplitl [H6]
      · iexact H6
      isplitl [H10]
      · iexact H10
      isplitl [H11]
      · iexact H11
      isplitl [H12]
      · iexact H12
      isplitl [H13]
      · iexact H13
      iintro %m' H
      iexact H

end Cert.Proof.KernelIdeal
-- ==== Proof.OutDef.lean ====
module

public import proofs.«01_k».proof.Proof.Fill
public import proofs.«01_k».proof.Proof.Loop
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ (UR sig nD τ) ℕ

/-- The scores of a diagonal block with the keys after the query left out. -/
def msk (a : ℕ) (s : Sc F) : Sc F := k0_pay71 (k0_pay70 (BitVec.ofNat 32 a)) s

/-- The running softmax after the diagonal block. -/
def fin (s : ℕ → Sc F) (v : ℕ → Vec F S1x272x512 .bf16) (a : ℕ) : St F := stp (run s v X0 a) (msk a (s a)) (v a)

/-- The row of denominators of an accumulator. -/
def den (x : FVec F S1x272x512 .f32) : Vec F S1x1x512 .f32 := fun y => x (ix3 (0 : Fin 1) (⟨256, by decide⟩ : Fin 272) (y 2))

/-- The rows of numerators of an accumulator. -/
def num (x : FVec F S1x272x512 .f32) : Vec F S1x256x512 .f32 := fun y =>
  x (ix3 (0 : Fin 1) (⟨(y 1).val, lt_trans (show (y 1).val < 256 from (y 1).isLt) (by decide)⟩ : Fin 272) (y 2))

/-- The block of the output at query block `a` of one head. -/
def Out (lam : Vec F S4x128 .f32) (sg : Vec F S1x256 .f32) (x5 x6 x7 : S1x8192x256.Idx → Elt F .bf16)
    (g : Vec F S1x512x256 .bf16) (a : ℕ) : FVec F S1x512x256 .bf16 :=
  k0_pay1 (k0_pay112 lam) (k0_pay113 (den (fin (sc1 (rblk x5 a) x6) (vblk (VT x7)) a).2))
    (k0_pay114 (den (fin (sc0 (rblk x5 a) x6) (vblk (VT x7)) a).2) (num (fin (sc0 (rblk x5 a) x6) (vblk (VT x7)) a).2))
    (num (fin (sc1 (rblk x5 a) x6) (vblk (VT x7)) a).2) sg g

/-- What the body leaves. -/
def After (c : Dev nD) (a : ℕ) (arg3 : Memref sig .tc .vmem S4x128 .f32) (harg3 : arg3.IsWhole) (arg4 : Memref sig .tc .vmem S1x256 .f32) (harg4 : arg4.IsWhole) (arg5 : Memref sig .tc .vmem S1x8192x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S16x272x512 .bf16) (harg10 : arg10.IsWhole) (arg11 : Memref sig .tc .vmem S2x272x512 .f32) (harg11 : arg11.IsWhole) (arg12 : Memref sig .tc .vmem S2x2x512x512 .f32) (harg12 : arg12.IsWhole) (arg13 : Memref sig .tc .vmem S2x2x512x512 .bf16) (harg13 : arg13.IsWhole) (f3 : Bf (F := F) c arg3) (f4 : Bf (F := F) c arg4) (f5 : Bf (F := F) c arg5) (f6 : Bf (F := F) c arg6)
    (f7 : Bf (F := F) c arg7) (f8 : Bf (F := F) c arg8) : sProp 𝕄 :=
  iprop(pt c arg3 f3 ∗ pt c arg4 f4 ∗ pt c arg5 f5 ∗ pt c arg6 f6 ∗ pt c arg7 f7 ∗ pt c arg8 f8 ∗
    ∃ (f9 : Bf (F := F) c arg9) (f10 : Bf (F := F) c arg10) (f11 : Bf (F := F) c arg11) (f12 : Bf (F := F) c arg12) (f13 : Bf (F := F) c arg13),
      pt c arg9 f9 ∗ pt c arg10 f10 ∗ pt c arg11 f11 ∗ pt c arg12 f12 ∗ pt c arg13 f13 ∗
      ⌜arg9.view.read (Elt F) f9 = Out (arg3.view.read (Elt F) f3) (arg4.view.read (Elt F) f4) (arg5.view.read (Elt F) f5)
          (arg6.view.read (Elt F) f6) (arg7.view.read (Elt F) f7) (arg8.view.read (Elt F) f8) a ∧
        arg10.view.read (Elt F) f10 = VT (arg7.view.read (Elt F) f7) ∧
        Holds arg12 (base (a + 1)) f12 (sc0 (rblk (arg5.view.read (Elt F) f5) (min (a + 1) 15)) (arg6.view.read (Elt F) f6) 0)
          (sc1 (rblk (arg5.view.read (Elt F) f5) (min (a + 1) 15)) (arg6.view.read (Elt F) f6) 0)⌝)

section Rows
variable {sig' : RefSig} {κ : Kind} {sp : Space} (v : View sig' κ sp S2x272x512 .f32) (f : v.ty.Contents (Elt F))
  (w0 w1 : FVec F S1x272x512 .f32)

theorem rd_den0 (inb) : v.readAt (Elt F) (Rect.unit (s := S2x272x512) ![0, 256, 0] S1x1x512.size inb).toLoadRect
    (v.writes (Elt F) f [⟨rA1, w1⟩, ⟨rA0, w0⟩]) = den w0 := by
  refine (rd_miss v f _ _ _ (h := rfl)).trans ((rd_sub v f _ _ [] _
    (fun y => ix3 (0 : Fin 1) (⟨256, by decide⟩ : Fin 272) (y 2)) (fun y => ?_)).trans rfl)
  have h0 : (y 0).val < 1 := (y 0).isLt
  have h1 : (y 1).val < 1 := (y 1).isLt
  funext a
  fin_cases a
  · apply Fin.ext; show 0 + 1 * (y 0).val = 0 + 1 * 0; omega
  · apply Fin.ext; show 256 + 1 * (y 1).val = 0 + 1 * 256; omega
  · apply Fin.ext; show 0 + 1 * (y 2).val = 0 + 1 * (y 2).val; rfl

theorem rd_num0 (inb) : v.readAt (Elt F) (Rect.unit (s := S2x272x512) ![0, 0, 0] S1x256x512.size inb).toLoadRect
    (v.writes (Elt F) f [⟨rA1, w1⟩, ⟨rA0, w0⟩]) = num w0 := by
  refine (rd_miss v f _ _ _ (h := rfl)).trans ((rd_sub v f _ _ [] _
    (fun y => ix3 (0 : Fin 1) (⟨(y 1).val, lt_trans (show (y 1).val < 256 from (y 1).isLt) (by decide)⟩ : Fin 272) (y 2)) (fun y => ?_)).trans rfl)
  have h0 : (y 0).val < 1 := (y 0).isLt
  funext a
  fin_cases a
  · apply Fin.ext; show 0 + 1 * (y 0).val = 0 + 1 * 0; omega
  · apply Fin.ext; show 0 + 1 * (y 1).val = 0 + 1 * (y 1).val; rfl
  · apply Fin.ext; show 0 + 1 * (y 2).val = 0 + 1 * (y 2).val; rfl

theorem rd_den1 (inb) : v.readAt (Elt F) (Rect.unit (s := S2x272x512) ![1, 256, 0] S1x1x512.size inb).toLoadRect
    (v.writes (Elt F) f [⟨rA1, w1⟩, ⟨rA0, w0⟩]) = den w1 := by
  refine (rd_sub v f _ _ _ _
    (fun y => ix3 (0 : Fin 1) (⟨256, by decide⟩ : Fin 272) (y 2)) (fun y => ?_)).trans rfl
  have h0 : (y 0).val < 1 := (y 0).isLt
  have h1 : (y 1).val < 1 := (y 1).isLt
  funext a
  fin_cases a
  · apply Fin.ext; show 1 + 1 * (y 0).val = 1 + 1 * 0; omega
  · apply Fin.ext; show 256 + 1 * (y 1).val = 0 + 1 * 256; omega
  · apply Fin.ext; show 0 + 1 * (y 2).val = 0 + 1 * (y 2).val; rfl

theorem rd_num1 (inb) : v.readAt (Elt F) (Rect.unit (s := S2x272x512) ![1, 0, 0] S1x256x512.size inb).toLoadRect
    (v.writes (Elt F) f [⟨rA1, w1⟩, ⟨rA0, w0⟩]) = num w1 := by
  refine (rd_sub v f _ _ _ _
    (fun y => ix3 (0 : Fin 1) (⟨(y 1).val, lt_trans (show (y 1).val < 256 from (y 1).isLt) (by decide)⟩ : Fin 272) (y 2)) (fun y => ?_)).trans rfl
  have h0 : (y 0).val < 1 := (y 0).isLt
  funext a
  fin_cases a
  · apply Fin.ext; show 1 + 1 * (y 0).val = 1 + 1 * 0; omega
  · apply Fin.ext; show 0 + 1 * (y 1).val = 0 + 1 * (y 1).val; rfl
  · apply Fin.ext; show 0 + 1 * (y 2).val = 0 + 1 * (y 2).val; rfl

end Rows

section Lists
variable {c : Dev nD} (arg11 : Memref sig .tc .vmem S2x272x512 .f32) (arg12 : Memref sig .tc .vmem S2x2x512x512 .f32)
  (arg13 : Memref sig .tc .vmem S2x2x512x512 .bf16)

/-- The stores to the score buffers before the second map's mask, on parity 0. -/
def lst0 (m n0 n1 : Sc F) : List (View.Piece (Elt F) S2x2x512x512 .f32) := [⟨rS00, m⟩, ⟨rS11, n1⟩, ⟨rS10, n0⟩]

/-- The stores to the accumulators, on parity 0. -/
def acc0 (f11 : Bf (F := F) c arg11) (vb : Vec F S1x272x512 .bf16) (L3 L4 : List (View.Piece (Elt F) S2x2x512x512 .f32))
    (m : FVec F S1x512 .f32 × FVec F S1x512 .f32) : List (View.Piece (Elt F) S2x272x512 .f32) :=
  [⟨rA1, k0_pay40 m.2 (k0_pay37 m.2 (arg12.view.readCov L4 rS01.toLoadRect)) (rd arg11 rA1 f11) vb
      (arg13.view.readCov [⟨rS01, wt m.2 (arg12.view.readCov L4 rS01.toLoadRect)⟩, ⟨rS00, wt m.1 (arg12.view.readCov L3 rS00.toLoadRect)⟩] rS01.toLoadRect)⟩,
    ⟨rA0, k0_pay40 m.1 (k0_pay37 m.1 (arg12.view.readCov L3 rS00.toLoadRect)) (rd arg11 rA0 f11) vb
      (arg13.view.readCov [⟨rS00, wt m.1 (arg12.view.readCov L3 rS00.toLoadRect)⟩] rS00.toLoadRect)⟩]

theorem acc0_eq {arg11 arg12 arg13} {f11 : Bf (F := F) c arg11} {f12 : Bf (F := F) c arg12} {s0 s1 : ℕ → Sc F} {v : ℕ → Vec F S1x272x512 .bf16}
    {b a : ℕ} {m : FVec F S1x512 .f32 × FVec F S1x512 .f32} {n0 n1 : Sc F} (h : LF arg11 arg12 X0 s0 s1 v b a f11 f12 m) :
    acc0 arg11 arg12 arg13 f11 (v a) (lst0 (msk a (s0 a)) n0 n1) (⟨rS01, msk a (s1 a)⟩ :: lst0 (msk a (s0 a)) n0 n1) m
      = [⟨rA1, (fin s1 v a).2⟩, ⟨rA0, (fin s0 v a).2⟩] := by
  unfold acc0 lst0 fin stp
  rw [View.readCov_cons_toLoadRect, View.readCov_cons_toLoadRect, View.readCov_cons_toLoadRect, View.readCov_cons_toLoadRect,
    h.a0, h.a1, h.m0, h.m1]

theorem holds0 {c : Dev nD} (arg12 : Memref sig .tc .vmem S2x2x512x512 .f32) (f12 : Bf (F := F) c arg12) (m0 m1 n0 n1 : Sc F) :
    Holds (c := c) arg12 1 (arg12.view.writes (Elt F) f12 (⟨rS01, m1⟩ :: lst0 m0 n0 n1)) n0 n1 := by
  have e0 : rd (c := c) arg12 rS10 (arg12.view.writes (Elt F) f12 (⟨rS01, m1⟩ :: lst0 m0 n0 n1)) = n0 :=
    (rd_miss _ _ _ _ _ (h := rfl)).trans ((rd_miss _ _ _ _ _ (h := rfl)).trans ((rd_miss _ _ _ _ _ (h := rfl)).trans (rd_hit _ _ _ _ _)))
  have e1 : rd (c := c) arg12 rS11 (arg12.view.writes (Elt F) f12 (⟨rS01, m1⟩ :: lst0 m0 n0 n1)) = n1 :=
    (rd_miss _ _ _ _ _ (h := rfl)).trans ((rd_miss _ _ _ _ _ (h := rfl)).trans (rd_hit _ _ _ _ _))
  exact ⟨fun h => absurd h (by decide), fun h => ⟨e0, e1⟩⟩

/-- The stores to the score buffers before the second map's mask, on parity 1. -/
def lst1 (m n0 n1 : Sc F) : List (View.Piece (Elt F) S2x2x512x512 .f32) := [⟨rS10, m⟩, ⟨rS01, n1⟩, ⟨rS00, n0⟩]

/-- The stores to the accumulators, on parity 1. -/
def acc1 (f11 : Bf (F := F) c arg11) (vb : Vec F S1x272x512 .bf16) (L3 L4 : List (View.Piece (Elt F) S2x2x512x512 .f32))
    (m : FVec F S1x512 .f32 × FVec F S1x512 .f32) : List (View.Piece (Elt F) S2x272x512 .f32) :=
  [⟨rA1, k0_pay40 m.2 (k0_pay37 m.2 (arg12.view.readCov L4 rS11.toLoadRect)) (rd arg11 rA1 f11) vb
      (arg13.view.readCov [⟨rS11, wt m.2 (arg12.view.readCov L4 rS11.toLoadRect)⟩, ⟨rS10, wt m.1 (arg12.view.readCov L3 rS10.toLoadRect)⟩] rS11.toLoadRect)⟩,
    ⟨rA0, k0_pay40 m.1 (k0_pay37 m.1 (arg12.view.readCov L3 rS10.toLoadRect)) (rd arg11 rA0 f11) vb
      (arg13.view.readCov [⟨rS10, wt m.1 (arg12.view.readCov L3 rS10.toLoadRect)⟩] rS10.toLoadRect)⟩]

theorem acc1_eq {arg11 arg12 arg13} {f11 : Bf (F := F) c arg11} {f12 : Bf (F := F) c arg12} {s0 s1 : ℕ → Sc F} {v : ℕ → Vec F S1x272x512 .bf16}
    {b a : ℕ} {m : FVec F S1x512 .f32 × FVec F S1x512 .f32} {n0 n1 : Sc F} (h : LF arg11 arg12 X0 s0 s1 v b a f11 f12 m) :
    acc1 arg11 arg12 arg13 f11 (v a) (lst1 (msk a (s0 a)) n0 n1) (⟨rS11, msk a (s1 a)⟩ :: lst1 (msk a (s0 a)) n0 n1) m
      = [⟨rA1, (fin s1 v a).2⟩, ⟨rA0, (fin s0 v a).2⟩] := by
  unfold acc1 lst1 fin stp
  rw [View.readCov_cons_toLoadRect, View.readCov_cons_toLoadRect, View.readCov_cons_toLoadRect, View.readCov_cons_toLoadRect,
    h.a0, h.a1, h.m0, h.m1]

theorem holds1 {c : Dev nD} (arg12 : Memref sig .tc .vmem S2x2x512x512 .f32) (f12 : Bf (F := F) c arg12) (m0 m1 n0 n1 : Sc F) :
    Holds (c := c) arg12 0 (arg12.view.writes (Elt F) f12 (⟨rS11, m1⟩ :: lst1 m0 n0 n1)) n0 n1 := by
  have e0 : rd (c := c) arg12 rS00 (arg12.view.writes (Elt F) f12 (⟨rS11, m1⟩ :: lst1 m0 n0 n1)) = n0 :=
    (rd_miss _ _ _ _ _ (h := rfl)).trans ((rd_miss _ _ _ _ _ (h := rfl)).trans ((rd_miss _ _ _ _ _ (h := rfl)).trans (rd_hit _ _ _ _ _)))
  have e1 : rd (c := c) arg12 rS01 (arg12.view.writes (Elt F) f12 (⟨rS11, m1⟩ :: lst1 m0 n0 n1)) = n1 :=
    (rd_miss _ _ _ _ _ (h := rfl)).trans ((rd_miss _ _ _ _ _ (h := rfl)).trans (rd_hit _ _ _ _ _))
  exact ⟨fun h => ⟨e0, e1⟩, fun h => absurd h (by decide)⟩

/-- The block of the output from what the accumulators hold. -/
def outT (lam : Vec F S4x128 .f32) (sg : Vec F S1x256 .f32) (g : Vec F S1x512x256 .bf16) (L : List (View.Piece (Elt F) S2x272x512 .f32)) :
    FVec F S1x512x256 .bf16 :=
  k0_pay1 (k0_pay112 lam)
    (k0_pay113 (arg11.view.readCov L (Rect.unit (s := S2x272x512) ![1, 256, 0] S1x1x512.size inb_S2x272x512_S1x1x512_1_256_0).toLoadRect))
    (k0_pay114 (arg11.view.readCov L (Rect.unit (s := S2x272x512) ![0, 256, 0] S1x1x512.size inb_S2x272x512_S1x1x512_0_256_0).toLoadRect)
      (arg11.view.readCov L (Rect.unit (s := S2x272x512) ![0, 0, 0] S1x256x512.size inb_S2x272x512_S1x256x512_0_0_0).toLoadRect))
    (arg11.view.readCov L (Rect.unit (s := S2x272x512) ![1, 0, 0] S1x256x512.size inb_S2x272x512_S1x256x512_1_0_0).toLoadRect) sg g

theorem outT_eq (lam : Vec F S4x128 .f32) (sg : Vec F S1x256 .f32) (g : Vec F S1x512x256 .bf16) (x5 x6 x7 : S1x8192x256.Idx → Elt F .bf16) (a : ℕ) :
    outT arg11 lam sg g [⟨rA1, (fin (sc1 (rblk x5 a) x6) (vblk (VT x7)) a).2⟩, ⟨rA0, (fin (sc0 (rblk x5 a) x6) (vblk (VT x7)) a).2⟩]
      = Out lam sg x5 x6 x7 g a := by
  have e0 := rd_den0 (F := F) arg11.view arg11.view.junk (fin (sc0 (rblk x5 a) x6) (vblk (VT x7)) a).2 (fin (sc1 (rblk x5 a) x6) (vblk (VT x7)) a).2
    inb_S2x272x512_S1x1x512_0_256_0
  have e1 := rd_den1 (F := F) arg11.view arg11.view.junk (fin (sc0 (rblk x5 a) x6) (vblk (VT x7)) a).2 (fin (sc1 (rblk x5 a) x6) (vblk (VT x7)) a).2
    inb_S2x272x512_S1x1x512_1_256_0
  have e2 := rd_num0 (F := F) arg11.view arg11.view.junk (fin (sc0 (rblk x5 a) x6) (vblk (VT x7)) a).2 (fin (sc1 (rblk x5 a) x6) (vblk (VT x7)) a).2
    inb_S2x272x512_S1x256x512_0_0_0
  have e3 := rd_num1 (F := F) arg11.view arg11.view.junk (fin (sc0 (rblk x5 a) x6) (vblk (VT x7)) a).2 (fin (sc1 (rblk x5 a) x6) (vblk (VT x7)) a).2
    inb_S2x272x512_S1x256x512_1_0_0
  unfold outT Out
  rw [← e0, ← e1, ← e2, ← e3]
  rfl

end Lists

end Cert.Proof.KernelIdeal
-- ==== Proof.Blocks.lean ====
module

public import proofs.«01_k».proof.Proof.OutDef
public import proofs.«01_k».proof.Proof.Gen.KernelIdeal.Frame
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

theorem co0 (t : Fin cfg0.N) : (grid0.coords t 0).val = t.val / 128 % 2 := Pipeline.Grid.coords_val t 0 (by decide) (by decide)
theorem co1 (t : Fin cfg0.N) : (grid0.coords t 1).val = t.val / 16 % 8 := Pipeline.Grid.coords_val t 1 (by decide) (by decide)
theorem co2 (t : Fin cfg0.N) : (grid0.coords t 2).val = t.val % 16 :=
  (Pipeline.Grid.coords_val t 2 (S := 1) (B := 16) (by decide) (by decide)).trans (by rw [Nat.div_one])

theorem ofNat_2 : ∀ a : Fin 2, (BitVec.ofNat 32 a.val).toNat = a.val := by decide
theorem ofNat_8 : ∀ a : Fin 8, (BitVec.ofNat 32 a.val).toNat = a.val := by decide
theorem ofNat_16 : ∀ a : Fin 16, (BitVec.ofNat 32 a.val).toNat = a.val := by decide
theorem add8_8 : ∀ a : Fin 8, (Scalar.addi 8#32 (BitVec.ofNat 32 a.val)).toNat = 8 + a.val := by decide
theorem add16_8 : ∀ a : Fin 8, (Scalar.addi 16#32 (BitVec.ofNat 32 a.val)).toNat = 16 + a.val := by decide
theorem add24_8 : ∀ a : Fin 8, (Scalar.addi 24#32 (BitVec.ofNat 32 a.val)).toNat = 24 + a.val := by decide

theorem tr2_eq (i : grid0.Coords) : cc0_transform_2 i = ![(i 0).val, 0, (i 1).val] :=
  congrArg₂ (fun x y => (![x, 0, y] : Fin 3 → ℕ)) (ofNat_2 (i 0)) (ofNat_8 (i 1))
theorem tr3_eq (i : grid0.Coords) : cc0_transform_3 i = ![(i 0).val, 0, 8 + (i 1).val] :=
  congrArg₂ (fun x y => (![x, 0, y] : Fin 3 → ℕ)) (ofNat_2 (i 0)) (add8_8 (i 1))
theorem tr4_eq (i : grid0.Coords) : cc0_transform_4 i = ![(i 0).val, 0, 16 + (i 1).val] :=
  congrArg₂ (fun x y => (![x, 0, y] : Fin 3 → ℕ)) (ofNat_2 (i 0)) (add16_8 (i 1))

/-- One head's columns of one batch row of the projection. -/
def qkv {α : Type} (X : S2x8192x8192.Idx → α) (b : Fin 2) (o : Fin 32) : S1x8192x256.Idx → α :=
  fun y => X (ix3 b (y 1) (⟨256 * o.val + (y 2).val, by have h : (y 2).val < 256 := (y 2).isLt; have := o.isLt; omega⟩ : Fin 8192))

theorem blk2_eq (t : Fin cfg0.N) (X : S2x8192x8192.Idx → Elt F .bf16) :
    ((cfg0.win 2).blk t).view.read (Elt F) X = qkv X (grid0.coords t 0) ⟨(grid0.coords t 1).val, lt_trans (show (grid0.coords t 1).val < 8 from (grid0.coords t 1).isLt) (by decide)⟩ := by
  funext y
  show X ((win0_2.rect t).emb y) = _
  have h0 : (y 0).val < 1 := (y 0).isLt
  refine congrArg X (funext fun a => ?_)
  fin_cases a
  · apply Fin.ext
    refine (Pipeline.Window.rect_emb_val win0_2 t y 0).trans ?_
    show cc0_transform_2 (grid0.coords t) 0 * 1 + (y 0).val = (grid0.coords t 0).val
    rw [tr2_eq]
    show (grid0.coords t 0).val * 1 + (y 0).val = (grid0.coords t 0).val
    omega
  · apply Fin.ext
    refine (Pipeline.Window.rect_emb_val win0_2 t y 1).trans ?_
    show cc0_transform_2 (grid0.coords t) 1 * 8192 + (y 1).val = (y 1).val
    rw [tr2_eq]
    show 0 * 8192 + (y 1).val = (y 1).val
    omega
  · apply Fin.ext
    refine (Pipeline.Window.rect_emb_val win0_2 t y 2).trans ?_
    show cc0_transform_2 (grid0.coords t) 2 * 256 + (y 2).val = _
    rw [tr2_eq]
    show ((grid0.coords t 1).val) * 256 + (y 2).val = 256 * ((grid0.coords t 1).val) + (y 2).val
    omega

theorem blk3_eq (t : Fin cfg0.N) (X : S2x8192x8192.Idx → Elt F .bf16) :
    ((cfg0.win 3).blk t).view.read (Elt F) X = qkv X (grid0.coords t 0) ⟨8 + (grid0.coords t 1).val, lt_trans (Nat.add_lt_add_left (show (grid0.coords t 1).val < 8 from (grid0.coords t 1).isLt) 8) (by decide)⟩ := by
  funext y
  show X ((win0_3.rect t).emb y) = _
  have h0 : (y 0).val < 1 := (y 0).isLt
  refine congrArg X (funext fun a => ?_)
  fin_cases a
  · apply Fin.ext
    refine (Pipeline.Window.rect_emb_val win0_3 t y 0).trans ?_
    show cc0_transform_3 (grid0.coords t) 0 * 1 + (y 0).val = (grid0.coords t 0).val
    rw [tr3_eq]
    show (grid0.coords t 0).val * 1 + (y 0).val = (grid0.coords t 0).val
    omega
  · apply Fin.ext
    refine (Pipeline.Window.rect_emb_val win0_3 t y 1).trans ?_
    show cc0_transform_3 (grid0.coords t) 1 * 8192 + (y 1).val = (y 1).val
    rw [tr3_eq]
    show 0 * 8192 + (y 1).val = (y 1).val
    omega
  · apply Fin.ext
    refine (Pipeline.Window.rect_emb_val win0_3 t y 2).trans ?_
    show cc0_transform_3 (grid0.coords t) 2 * 256 + (y 2).val = _
    rw [tr3_eq]
    show (8 + (grid0.coords t 1).val) * 256 + (y 2).val = 256 * (8 + (grid0.coords t 1).val) + (y 2).val
    omega

theorem blk4_eq (t : Fin cfg0.N) (X : S2x8192x8192.Idx → Elt F .bf16) :
    ((cfg0.win 4).blk t).view.read (Elt F) X = qkv X (grid0.coords t 0) ⟨16 + (grid0.coords t 1).val, lt_trans (Nat.add_lt_add_left (show (grid0.coords t 1).val < 8 from (grid0.coords t 1).isLt) 16) (by decide)⟩ := by
  funext y
  show X ((win0_4.rect t).emb y) = _
  have h0 : (y 0).val < 1 := (y 0).isLt
  refine congrArg X (funext fun a => ?_)
  fin_cases a
  · apply Fin.ext
    refine (Pipeline.Window.rect_emb_val win0_4 t y 0).trans ?_
    show cc0_transform_4 (grid0.coords t) 0 * 1 + (y 0).val = (grid0.coords t 0).val
    rw [tr4_eq]
    show (grid0.coords t 0).val * 1 + (y 0).val = (grid0.coords t 0).val
    omega
  · apply Fin.ext
    refine (Pipeline.Window.rect_emb_val win0_4 t y 1).trans ?_
    show cc0_transform_4 (grid0.coords t) 1 * 8192 + (y 1).val = (y 1).val
    rw [tr4_eq]
    show 0 * 8192 + (y 1).val = (y 1).val
    omega
  · apply Fin.ext
    refine (Pipeline.Window.rect_emb_val win0_4 t y 2).trans ?_
    show cc0_transform_4 (grid0.coords t) 2 * 256 + (y 2).val = _
    rw [tr4_eq]
    show (16 + (grid0.coords t 1).val) * 256 + (y 2).val = 256 * (16 + (grid0.coords t 1).val) + (y 2).val
    omega

end Cert.Proof.KernelIdeal
-- ==== Proof.BodyFirst.lean ====
module

public import proofs.«01_k».proof.Proof.OutDef

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ (UR sig nD τ) ℕ

set_option maxHeartbeats 1000000 in
theorem body_first (c : Dev nD) (i : grid0.Coords) (arg3 : Memref sig .tc .vmem S4x128 .f32) (harg3 : arg3.IsWhole) (arg4 : Memref sig .tc .vmem S1x256 .f32) (harg4 : arg4.IsWhole) (arg5 : Memref sig .tc .vmem S1x8192x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S16x272x512 .bf16) (harg10 : arg10.IsWhole) (arg11 : Memref sig .tc .vmem S2x272x512 .f32) (harg11 : arg11.IsWhole) (arg12 : Memref sig .tc .vmem S2x2x512x512 .f32) (harg12 : arg12.IsWhole) (arg13 : Memref sig .tc .vmem S2x2x512x512 .bf16) (harg13 : arg13.IsWhole) (hi : (i 2).val = 0)
    (f3 : Bf (F := F) c arg3) (f4 : Bf (F := F) c arg4) (f5 : Bf (F := F) c arg5) (f6 : Bf (F := F) c arg6)
    (f7 : Bf (F := F) c arg7) (f8 : Bf (F := F) c arg8) (f9 : Bf (F := F) c arg9) (f10 : Bf (F := F) c arg10)
    (f11 : Bf (F := F) c arg11) (f12 : Bf (F := F) c arg12) (f13 : Bf (F := F) c arg13) :
    iprop(pt c arg3 f3 ∗ pt c arg4 f4 ∗ pt c arg5 f5 ∗ pt c arg6 f6 ∗ pt c arg7 f7 ∗ pt c arg8 f8 ∗ pt c arg9 f9 ∗ pt c arg10 f10
      ∗ pt c arg11 f11 ∗ pt c arg12 f12 ∗ pt c arg13 f13)
    ⊢ wp frame (wpE (defs₀ (F := F)) Variants.none c none) Set.univ (cc0_diff_attention i arg3 harg3 arg4 harg4 arg5 harg5 arg6 harg6 arg7 harg7 arg8 harg8 arg9 harg9 arg10 harg10 arg11 harg11 arg12 harg12 arg13 harg13)
      (fun _ => After c (i 2).val arg3 harg3 arg4 harg4 arg5 harg5 arg6 harg6 arg7 harg7 arg8 harg8 arg9 harg9 arg10 harg10 arg11 harg11 arg12 harg12 arg13 harg13 f3 f4 f5 f6 f7 f8) := by
  have hlt : (i 2).val < 16 := (i 2).isLt
  have h2 : k0_cond2 i = 1#1 := (cond2_iff i).2 hi
  have hpar : (base (i 2).val + (i 2).val) % 2 = 0 := by rw [hi]; decide
  have h5 : k0_cond5 i = 1#1 := (cond5_iff i).2 hpar
  have h6 : ¬ k0_cond6 i = 1#1 := by rw [cond6_iff]; omega
  have hq := rd_rblk arg5.view f5 (k0_off1_inb i) (i 2).val (k0_off1_eq i)
  have hcut := part21_first (F := F) c i arg3 harg3 arg4 harg4 arg5 harg5 arg6 harg6 arg7 harg7 arg8 harg8 arg9 harg9 arg10 harg10 arg11 harg11 arg12 harg12 arg13 harg13 hi f7 f10 f11
    (fun f10' f11' => LF arg11 arg12 X0 (sc0 (rblk (arg5.view.read (Elt F) f5) (i 2).val) (arg6.view.read (Elt F) f6)) (sc1 (rblk (arg5.view.read (Elt F) f5) (i 2).val) (arg6.view.read (Elt F) f6)) (vblk (arg10.view.read (Elt F) f10')) (base (i 2).val) 0 f11'
      (arg12.view.writes (Elt F) f12 [⟨rS01, k0_pay98 (rblk (arg5.view.read (Elt F) f5) (i 2).val) (arg6.view.readAt (Elt F) (Rect.unit (s := S1x8192x256) ![0, 0, 128] S1x512x128.size inb_S1x8192x256_S1x512x128_0_0_128).toLoadRect f6)⟩,
        ⟨rS00, k0_pay97 (rblk (arg5.view.read (Elt F) f5) (i 2).val) (arg6.view.readAt (Elt F) (Rect.unit (s := S1x8192x256) ![0, 0, 0] S1x512x128.size inb_S1x8192x256_S1x512x128_0_0_0).toLoadRect f6)⟩]) (k0_pay99, k0_pay99))
    (fun f g h1 h2 => ⟨rfl, rfl, h1, h2, fun _ => ⟨(rd_miss _ _ _ _ _ (h := rfl)).trans ((rd_hit _ _ _ _ _).trans
        (congrArg (k0_pay35 (k0_pay96 (rblk (arg5.view.read (Elt F) f5) (i 2).val))) (rd_kblk arg6.view f6 _ 0 0 rfl))),
      (rd_hit _ _ _ _ _).trans (congrArg (k0_pay36 (k0_pay96 (rblk (arg5.view.read (Elt F) f5) (i 2).val))) (rd_kblk arg6.view f6 _ 0 128 rfl))⟩,
      fun h => absurd h (by rw [hi]; decide)⟩)
  rw [cc0_diff_attention_eq_skeleton]
  unfold cc0_diff_attention_skel
  iintro ⟨H3, H4, H5, H6, H7, H8, H9, H10, H11, H12, H13⟩
  sl_exec (disch := first | exact h2 | exact h5 | exact h6)
  sl_step
  rename_i acc
  have hv := hk0_part21_4
  generalize f10'k0_part21_0 = f10n at *
  have ha2 : arg2 = BitVec.ofNat 32 (i 2).val := hk0_part21_0
  subst ha2
  have hL : LF arg11 arg12 X0 (sc0 (rblk (arg5.view.read (Elt F) f5) (i 2).val) (arg6.view.read (Elt F) f6))
      (sc1 (rblk (arg5.view.read (Elt F) f5) (i 2).val) (arg6.view.read (Elt F) f6))
      (vblk (VT (arg7.view.read (Elt F) f7))) (base (i 2).val) (i 2).val f11L0 f12L1 acc := by
    have ht : Scf.trips (k0_t1_loop i).lb (k0_t1_loop i).ub (k0_t1_loop i).st = (i 2).val := trips_eq i
    rw [ht, hv] at hL5
    exact hL5
  obtain ⟨hs0', hs1'⟩ := hL.sc.1 hpar
  have hvb := (rd_vblk arg10.view f10n (k0_off15_inb i h5) (i 2).val (k0_off15_eq i)).trans (congrArg (fun x => vblk x (i 2).val) hv)
  have hqn := rd_rblk arg5.view f5 (k0_off14_inb i h5) (min ((i 2).val + 1) 15) (k0_off14_eq i)
  have hk0 := rd_kblk arg6.view f6 inb_S1x8192x256_S1x512x128_0_0_0 0 0 rfl
  have hk1 := rd_kblk arg6.view f6 inb_S1x8192x256_S1x512x128_0_0_128 0 128 rfl
  have e12 : body_first.sl.H12_3 c i arg5 arg6 arg12 f5 f6 h5 (BitVec.ofNat 32 (i 2).val) f12L1 = lst0 (msk (i 2).val (sc0 (rblk (arg5.view.read (Elt F) f5) (i 2).val) (arg6.view.read (Elt F) f6) (i 2).val))
      (sc0 (rblk (arg5.view.read (Elt F) f5) (min ((i 2).val + 1) 15)) (arg6.view.read (Elt F) f6) 0)
      (sc1 (rblk (arg5.view.read (Elt F) f5) (min ((i 2).val + 1) 15)) (arg6.view.read (Elt F) f6) 0) := by
    show lst0 (msk (i 2).val (rd arg12 rS00 f12L1))
      (k0_pay35 (k0_pay96 (arg5.view.readAt (Elt F) (Rect.unit (s := S1x8192x256) (k0_off14 i) S1x512x256.size (k0_off14_inb i h5)).toLoadRect f5))
        (arg6.view.readAt (Elt F) (Rect.unit (s := S1x8192x256) ![0, 0, 0] S1x512x128.size inb_S1x8192x256_S1x512x128_0_0_0).toLoadRect f6))
      (k0_pay36 (k0_pay96 (arg5.view.readAt (Elt F) (Rect.unit (s := S1x8192x256) (k0_off14 i) S1x512x256.size (k0_off14_inb i h5)).toLoadRect f5))
        (arg6.view.readAt (Elt F) (Rect.unit (s := S1x8192x256) ![0, 0, 128] S1x512x128.size inb_S1x8192x256_S1x512x128_0_0_128).toLoadRect f6)) = _
    rw [hs0', hqn, hk0, hk1]
    rfl
  have e13 : body_first.sl.H12_4 c i arg5 arg6 arg12 f5 f6 h5 (BitVec.ofNat 32 (i 2).val) f12L1 = ⟨rS01, msk (i 2).val (sc1 (rblk (arg5.view.read (Elt F) f5) (i 2).val) (arg6.view.read (Elt F) f6) (i 2).val)⟩ ::
      lst0 (msk (i 2).val (sc0 (rblk (arg5.view.read (Elt F) f5) (i 2).val) (arg6.view.read (Elt F) f6) (i 2).val))
      (sc0 (rblk (arg5.view.read (Elt F) f5) (min ((i 2).val + 1) 15)) (arg6.view.read (Elt F) f6) 0)
      (sc1 (rblk (arg5.view.read (Elt F) f5) (min ((i 2).val + 1) 15)) (arg6.view.read (Elt F) f6) 0) := by
    show (⟨rS01, msk (i 2).val (rd arg12 rS01 f12L1)⟩ : View.Piece (Elt F) S2x2x512x512 .f32) :: body_first.sl.H12_3 c i arg5 arg6 arg12 f5 f6 h5 (BitVec.ofNat 32 (i 2).val) f12L1 = _
    rw [e12, hs1']
  have e11 : body_first.sl.Hk0_part21_3_2 c i arg5 arg6 arg10 arg11 arg12 arg13 f5 f6 h5 (BitVec.ofNat 32 (i 2).val) f10n acc f11L0 f12L1
      = [⟨rA1, (fin (sc1 (rblk (arg5.view.read (Elt F) f5) (i 2).val) (arg6.view.read (Elt F) f6)) (vblk (VT (arg7.view.read (Elt F) f7))) (i 2).val).2⟩,
        ⟨rA0, (fin (sc0 (rblk (arg5.view.read (Elt F) f5) (i 2).val) (arg6.view.read (Elt F) f6)) (vblk (VT (arg7.view.read (Elt F) f7))) (i 2).val).2⟩] := by
    show acc0 arg11 arg12 arg13 f11L0
      (arg10.view.readAt (Elt F) (Rect.unit (s := S16x272x512) (k0_off15 i) S1x272x512.size (k0_off15_inb i h5)).toLoadRect f10n)
      (body_first.sl.H12_3 c i arg5 arg6 arg12 f5 f6 h5 (BitVec.ofNat 32 (i 2).val) f12L1) (body_first.sl.H12_4 c i arg5 arg6 arg12 f5 f6 h5 (BitVec.ofNat 32 (i 2).val) f12L1) acc = _
    rw [e12, e13, hvb]
    exact acc0_eq hL
  rw [e13, e11]
  have eO : k0_pay1 (body_first.sl.r_6 c arg3 f3) (body_first.sl.r_7 c i arg5 arg6 arg10 arg11 arg12 arg13 f5 f6 h5 (BitVec.ofNat 32 (i 2).val) f10n acc f11L0 f12L1) (body_first.sl.r_8 c i arg5 arg6 arg10 arg11 arg12 arg13 f5 f6 h5 (BitVec.ofNat 32 (i 2).val) f10n acc f11L0 f12L1) (body_first.sl.v108 c i arg5 arg6 arg10 arg11 arg12 arg13 f5 f6 h5 (BitVec.ofNat 32 (i 2).val) f10n acc f11L0 f12L1)
      (arg4.view.readAt (Elt F) (Rect.unit (s := S1x256) ![0, 0] S1x256.size inb_S1x256_S1x256_0_0).toLoadRect f4)
      (arg8.view.readAt (Elt F) (Rect.unit (s := S1x512x256) ![0, 0, 0] S1x512x256.size inb_S1x512x256_S1x512x256_0_0_0).toLoadRect f8)
      = Out (arg3.view.read (Elt F) f3) (arg4.view.read (Elt F) f4) (arg5.view.read (Elt F) f5) (arg6.view.read (Elt F) f6)
          (arg7.view.read (Elt F) f7) (arg8.view.read (Elt F) f8) (i 2).val := by
    show outT arg11 (arg3.view.readAt (Elt F) (Rect.unit (s := S4x128) ![0, 0] S4x128.size inb_S4x128_S4x128_0_0).toLoadRect f3)
      (arg4.view.readAt (Elt F) (Rect.unit (s := S1x256) ![0, 0] S1x256.size inb_S1x256_S1x256_0_0).toLoadRect f4)
      (arg8.view.readAt (Elt F) (Rect.unit (s := S1x512x256) ![0, 0, 0] S1x512x256.size inb_S1x512x256_S1x512x256_0_0_0).toLoadRect f8)
      (body_first.sl.Hk0_part21_3_2 c i arg5 arg6 arg10 arg11 arg12 arg13 f5 f6 h5 (BitVec.ofNat 32 (i 2).val) f10n acc f11L0 f12L1) = _
    rw [e11, View.readAt_full, View.readAt_full, View.readAt_full]
    exact outT_eq arg11 _ _ _ _ _ _ _
  rw [eO]
  unfold After
  isplitl [H3]
  · iexact H3
  isplitl [H4]
  · iexact H4
  isplitl [H5]
  · iexact H5
  isplitl [H6]
  · iexact H6
  isplitl [Hk0_part21_1]
  · iexact Hk0_part21_1
  isplitl [H8]
  · iexact H8
  iexists _, _, _, _, _
  isplitl [H9]
  · iexact H9
  isplitl [Hk0_part21_2]
  · iexact Hk0_part21_2
  isplitl [Hk0_part21_3]
  · iexact Hk0_part21_3
  isplitl [H12]
  · iexact H12
  isplitl [H13]
  · iexact H13
  · ipureintro
    refine ⟨View.read_writes_full _ _ _ _ _, hv, ?_⟩
    rw [show base ((i 2).val + 1) = 1 by rw [base_succ (i 2)]; omega]
    exact holds0 arg12 f12L1 _ _ _ _

end Cert.Proof.KernelIdeal
-- ==== Proof.BodyEven.lean ====
module

public import proofs.«01_k».proof.Proof.OutDef

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ (UR sig nD τ) ℕ

set_option maxHeartbeats 1000000 in
theorem body_even (c : Dev nD) (i : grid0.Coords) (arg3 : Memref sig .tc .vmem S4x128 .f32) (harg3 : arg3.IsWhole) (arg4 : Memref sig .tc .vmem S1x256 .f32) (harg4 : arg4.IsWhole) (arg5 : Memref sig .tc .vmem S1x8192x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S16x272x512 .bf16) (harg10 : arg10.IsWhole) (arg11 : Memref sig .tc .vmem S2x272x512 .f32) (harg11 : arg11.IsWhole) (arg12 : Memref sig .tc .vmem S2x2x512x512 .f32) (harg12 : arg12.IsWhole) (arg13 : Memref sig .tc .vmem S2x2x512x512 .bf16) (harg13 : arg13.IsWhole) (hi : (i 2).val ≠ 0) (h5 : k0_cond5 i = 1#1)
    (f3 : Bf (F := F) c arg3) (f4 : Bf (F := F) c arg4) (f5 : Bf (F := F) c arg5) (f6 : Bf (F := F) c arg6)
    (f7 : Bf (F := F) c arg7) (f8 : Bf (F := F) c arg8) (f9 : Bf (F := F) c arg9) (f10 : Bf (F := F) c arg10)
    (f11 : Bf (F := F) c arg11) (f12 : Bf (F := F) c arg12) (f13 : Bf (F := F) c arg13)
    (hv : arg10.view.read (Elt F) f10 = VT (arg7.view.read (Elt F) f7))
    (hs : Holds arg12 (base (i 2).val) f12 (sc0 (rblk (arg5.view.read (Elt F) f5) (i 2).val) (arg6.view.read (Elt F) f6) 0) (sc1 (rblk (arg5.view.read (Elt F) f5) (i 2).val) (arg6.view.read (Elt F) f6) 0)) :
    iprop(pt c arg3 f3 ∗ pt c arg4 f4 ∗ pt c arg5 f5 ∗ pt c arg6 f6 ∗ pt c arg7 f7 ∗ pt c arg8 f8 ∗ pt c arg9 f9 ∗ pt c arg10 f10
      ∗ pt c arg11 f11 ∗ pt c arg12 f12 ∗ pt c arg13 f13)
    ⊢ wp frame (wpE (defs₀ (F := F)) Variants.none c none) Set.univ (cc0_diff_attention i arg3 harg3 arg4 harg4 arg5 harg5 arg6 harg6 arg7 harg7 arg8 harg8 arg9 harg9 arg10 harg10 arg11 harg11 arg12 harg12 arg13 harg13)
      (fun _ => After c (i 2).val arg3 harg3 arg4 harg4 arg5 harg5 arg6 harg6 arg7 harg7 arg8 harg8 arg9 harg9 arg10 harg10 arg11 harg11 arg12 harg12 arg13 harg13 f3 f4 f5 f6 f7 f8) := by
  have hlt : (i 2).val < 16 := (i 2).isLt
  have h2 : ¬ k0_cond2 i = 1#1 := (cond2_iff i).not.2 hi
  have hpar : (base (i 2).val + (i 2).val) % 2 = 0 := (cond5_iff i).1 h5
  have h6 : ¬ k0_cond6 i = 1#1 := by rw [cond6_iff]; omega
  have hq := rd_rblk arg5.view f5 (k0_off1_inb i) (i 2).val (k0_off1_eq i)
  have hs0 : Holds arg12 ((base (i 2).val + 0) % 2) f12 (sc0 (rblk (arg5.view.read (Elt F) f5) (i 2).val) (arg6.view.read (Elt F) f6) 0) (sc1 (rblk (arg5.view.read (Elt F) f5) (i 2).val) (arg6.view.read (Elt F) f6) 0) := by
    rw [Nat.add_zero, Nat.mod_eq_of_lt (base_lt _)]
    exact hs
  have hcut := part21_rest (F := F) c i arg3 harg3 arg4 harg4 arg5 harg5 arg6 harg6 arg7 harg7 arg8 harg8 arg9 harg9 arg10 harg10 arg11 harg11 arg12 harg12 arg13 harg13 hi f11
    (fun f11' => LF arg11 arg12 X0 (sc0 (rblk (arg5.view.read (Elt F) f5) (i 2).val) (arg6.view.read (Elt F) f6)) (sc1 (rblk (arg5.view.read (Elt F) f5) (i 2).val) (arg6.view.read (Elt F) f6)) (vblk (arg10.view.read (Elt F) f10)) (base (i 2).val) 0 f11' f12 (k0_pay99, k0_pay99))
    (fun f h1 h2 => ⟨rfl, rfl, h1, h2, hs0⟩)
  rw [cc0_diff_attention_eq_skeleton]
  unfold cc0_diff_attention_skel
  iintro ⟨H3, H4, H5, H6, H7, H8, H9, H10, H11, H12, H13⟩
  sl_exec (disch := first | exact h2 | exact h5 | exact h6)
  sl_step
  rename_i acc
  have ha2 : arg2 = BitVec.ofNat 32 (i 2).val := hk0_part21_0
  subst ha2
  have hL : LF arg11 arg12 X0 (sc0 (rblk (arg5.view.read (Elt F) f5) (i 2).val) (arg6.view.read (Elt F) f6))
      (sc1 (rblk (arg5.view.read (Elt F) f5) (i 2).val) (arg6.view.read (Elt F) f6))
      (vblk (VT (arg7.view.read (Elt F) f7))) (base (i 2).val) (i 2).val f11L0 f12L1 acc := by
    have ht : Scf.trips (k0_t1_loop i).lb (k0_t1_loop i).ub (k0_t1_loop i).st = (i 2).val := trips_eq i
    rw [ht, hv] at hL5
    exact hL5
  obtain ⟨hs0', hs1'⟩ := hL.sc.1 hpar
  have hvb := (rd_vblk arg10.view f10 (k0_off15_inb i h5) (i 2).val (k0_off15_eq i)).trans (congrArg (fun x => vblk x (i 2).val) hv)
  have hqn := rd_rblk arg5.view f5 (k0_off14_inb i h5) (min ((i 2).val + 1) 15) (k0_off14_eq i)
  have hk0 := rd_kblk arg6.view f6 inb_S1x8192x256_S1x512x128_0_0_0 0 0 rfl
  have hk1 := rd_kblk arg6.view f6 inb_S1x8192x256_S1x512x128_0_0_128 0 128 rfl
  have e12 : body_even.sl.H12_3 c i arg5 arg6 arg12 h5 f5 f6 (BitVec.ofNat 32 (i 2).val) f12L1 = lst0 (msk (i 2).val (sc0 (rblk (arg5.view.read (Elt F) f5) (i 2).val) (arg6.view.read (Elt F) f6) (i 2).val))
      (sc0 (rblk (arg5.view.read (Elt F) f5) (min ((i 2).val + 1) 15)) (arg6.view.read (Elt F) f6) 0)
      (sc1 (rblk (arg5.view.read (Elt F) f5) (min ((i 2).val + 1) 15)) (arg6.view.read (Elt F) f6) 0) := by
    show lst0 (msk (i 2).val (rd arg12 rS00 f12L1))
      (k0_pay35 (k0_pay96 (arg5.view.readAt (Elt F) (Rect.unit (s := S1x8192x256) (k0_off14 i) S1x512x256.size (k0_off14_inb i h5)).toLoadRect f5))
        (arg6.view.readAt (Elt F) (Rect.unit (s := S1x8192x256) ![0, 0, 0] S1x512x128.size inb_S1x8192x256_S1x512x128_0_0_0).toLoadRect f6))
      (k0_pay36 (k0_pay96 (arg5.view.readAt (Elt F) (Rect.unit (s := S1x8192x256) (k0_off14 i) S1x512x256.size (k0_off14_inb i h5)).toLoadRect f5))
        (arg6.view.readAt (Elt F) (Rect.unit (s := S1x8192x256) ![0, 0, 128] S1x512x128.size inb_S1x8192x256_S1x512x128_0_0_128).toLoadRect f6)) = _
    rw [hs0', hqn, hk0, hk1]
    rfl
  have e13 : body_even.sl.H12_4 c i arg5 arg6 arg12 h5 f5 f6 (BitVec.ofNat 32 (i 2).val) f12L1 = ⟨rS01, msk (i 2).val (sc1 (rblk (arg5.view.read (Elt F) f5) (i 2).val) (arg6.view.read (Elt F) f6) (i 2).val)⟩ ::
      lst0 (msk (i 2).val (sc0 (rblk (arg5.view.read (Elt F) f5) (i 2).val) (arg6.view.read (Elt F) f6) (i 2).val))
      (sc0 (rblk (arg5.view.read (Elt F) f5) (min ((i 2).val + 1) 15)) (arg6.view.read (Elt F) f6) 0)
      (sc1 (rblk (arg5.view.read (Elt F) f5) (min ((i 2).val + 1) 15)) (arg6.view.read (Elt F) f6) 0) := by
    show (⟨rS01, msk (i 2).val (rd arg12 rS01 f12L1)⟩ : View.Piece (Elt F) S2x2x512x512 .f32) :: body_even.sl.H12_3 c i arg5 arg6 arg12 h5 f5 f6 (BitVec.ofNat 32 (i 2).val) f12L1 = _
    rw [e12, hs1']
  have e11 : body_even.sl.Hk0_part21_1_2 c i arg5 arg6 arg10 arg11 arg12 arg13 h5 f5 f6 f10 (BitVec.ofNat 32 (i 2).val) acc f11L0 f12L1
      = [⟨rA1, (fin (sc1 (rblk (arg5.view.read (Elt F) f5) (i 2).val) (arg6.view.read (Elt F) f6)) (vblk (VT (arg7.view.read (Elt F) f7))) (i 2).val).2⟩,
        ⟨rA0, (fin (sc0 (rblk (arg5.view.read (Elt F) f5) (i 2).val) (arg6.view.read (Elt F) f6)) (vblk (VT (arg7.view.read (Elt F) f7))) (i 2).val).2⟩] := by
    show acc0 arg11 arg12 arg13 f11L0
      (arg10.view.readAt (Elt F) (Rect.unit (s := S16x272x512) (k0_off15 i) S1x272x512.size (k0_off15_inb i h5)).toLoadRect f10)
      (body_even.sl.H12_3 c i arg5 arg6 arg12 h5 f5 f6 (BitVec.ofNat 32 (i 2).val) f12L1) (body_even.sl.H12_4 c i arg5 arg6 arg12 h5 f5 f6 (BitVec.ofNat 32 (i 2).val) f12L1) acc = _
    rw [e12, e13, hvb]
    exact acc0_eq hL
  rw [e13, e11]
  have eO : k0_pay1 (body_even.sl.r_6 c arg3 f3) (body_even.sl.r_7 c i arg5 arg6 arg10 arg11 arg12 arg13 h5 f5 f6 f10 (BitVec.ofNat 32 (i 2).val) acc f11L0 f12L1) (body_even.sl.r_8 c i arg5 arg6 arg10 arg11 arg12 arg13 h5 f5 f6 f10 (BitVec.ofNat 32 (i 2).val) acc f11L0 f12L1) (body_even.sl.v108 c i arg5 arg6 arg10 arg11 arg12 arg13 h5 f5 f6 f10 (BitVec.ofNat 32 (i 2).val) acc f11L0 f12L1)
      (arg4.view.readAt (Elt F) (Rect.unit (s := S1x256) ![0, 0] S1x256.size inb_S1x256_S1x256_0_0).toLoadRect f4)
      (arg8.view.readAt (Elt F) (Rect.unit (s := S1x512x256) ![0, 0, 0] S1x512x256.size inb_S1x512x256_S1x512x256_0_0_0).toLoadRect f8)
      = Out (arg3.view.read (Elt F) f3) (arg4.view.read (Elt F) f4) (arg5.view.read (Elt F) f5) (arg6.view.read (Elt F) f6)
          (arg7.view.read (Elt F) f7) (arg8.view.read (Elt F) f8) (i 2).val := by
    show outT arg11 (arg3.view.readAt (Elt F) (Rect.unit (s := S4x128) ![0, 0] S4x128.size inb_S4x128_S4x128_0_0).toLoadRect f3)
      (arg4.view.readAt (Elt F) (Rect.unit (s := S1x256) ![0, 0] S1x256.size inb_S1x256_S1x256_0_0).toLoadRect f4)
      (arg8.view.readAt (Elt F) (Rect.unit (s := S1x512x256) ![0, 0, 0] S1x512x256.size inb_S1x512x256_S1x512x256_0_0_0).toLoadRect f8)
      (body_even.sl.Hk0_part21_1_2 c i arg5 arg6 arg10 arg11 arg12 arg13 h5 f5 f6 f10 (BitVec.ofNat 32 (i 2).val) acc f11L0 f12L1) = _
    rw [e11, View.readAt_full, View.readAt_full, View.readAt_full]
    exact outT_eq arg11 _ _ _ _ _ _ _
  rw [eO]
  unfold After
  isplitl [H3]
  · iexact H3
  isplitl [H4]
  · iexact H4
  isplitl [H5]
  · iexact H5
  isplitl [H6]
  · iexact H6
  isplitl [H7]
  · iexact H7
  isplitl [H8]
  · iexact H8
  iexists _, _, _, _, _
  isplitl [H9]
  · iexact H9
  isplitl [H10]
  · iexact H10
  isplitl [Hk0_part21_1]
  · iexact Hk0_part21_1
  isplitl [H12]
  · iexact H12
  isplitl [H13]
  · iexact H13
  · ipureintro
    refine ⟨View.read_writes_full _ _ _ _ _, hv, ?_⟩
    rw [show base ((i 2).val + 1) = 1 by rw [base_succ (i 2)]; omega]
    exact holds0 arg12 f12L1 _ _ _ _

end Cert.Proof.KernelIdeal
-- ==== Proof.BodyOdd.lean ====
module

public import proofs.«01_k».proof.Proof.OutDef

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ (UR sig nD τ) ℕ

set_option maxHeartbeats 1000000 in
theorem body_odd (c : Dev nD) (i : grid0.Coords) (arg3 : Memref sig .tc .vmem S4x128 .f32) (harg3 : arg3.IsWhole) (arg4 : Memref sig .tc .vmem S1x256 .f32) (harg4 : arg4.IsWhole) (arg5 : Memref sig .tc .vmem S1x8192x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S16x272x512 .bf16) (harg10 : arg10.IsWhole) (arg11 : Memref sig .tc .vmem S2x272x512 .f32) (harg11 : arg11.IsWhole) (arg12 : Memref sig .tc .vmem S2x2x512x512 .f32) (harg12 : arg12.IsWhole) (arg13 : Memref sig .tc .vmem S2x2x512x512 .bf16) (harg13 : arg13.IsWhole) (hi : (i 2).val ≠ 0) (h5 : ¬ k0_cond5 i = 1#1)
    (f3 : Bf (F := F) c arg3) (f4 : Bf (F := F) c arg4) (f5 : Bf (F := F) c arg5) (f6 : Bf (F := F) c arg6)
    (f7 : Bf (F := F) c arg7) (f8 : Bf (F := F) c arg8) (f9 : Bf (F := F) c arg9) (f10 : Bf (F := F) c arg10)
    (f11 : Bf (F := F) c arg11) (f12 : Bf (F := F) c arg12) (f13 : Bf (F := F) c arg13)
    (hv : arg10.view.read (Elt F) f10 = VT (arg7.view.read (Elt F) f7))
    (hs : Holds arg12 (base (i 2).val) f12 (sc0 (rblk (arg5.view.read (Elt F) f5) (i 2).val) (arg6.view.read (Elt F) f6) 0) (sc1 (rblk (arg5.view.read (Elt F) f5) (i 2).val) (arg6.view.read (Elt F) f6) 0)) :
    iprop(pt c arg3 f3 ∗ pt c arg4 f4 ∗ pt c arg5 f5 ∗ pt c arg6 f6 ∗ pt c arg7 f7 ∗ pt c arg8 f8 ∗ pt c arg9 f9 ∗ pt c arg10 f10
      ∗ pt c arg11 f11 ∗ pt c arg12 f12 ∗ pt c arg13 f13)
    ⊢ wp frame (wpE (defs₀ (F := F)) Variants.none c none) Set.univ (cc0_diff_attention i arg3 harg3 arg4 harg4 arg5 harg5 arg6 harg6 arg7 harg7 arg8 harg8 arg9 harg9 arg10 harg10 arg11 harg11 arg12 harg12 arg13 harg13)
      (fun _ => After c (i 2).val arg3 harg3 arg4 harg4 arg5 harg5 arg6 harg6 arg7 harg7 arg8 harg8 arg9 harg9 arg10 harg10 arg11 harg11 arg12 harg12 arg13 harg13 f3 f4 f5 f6 f7 f8) := by
  have hlt : (i 2).val < 16 := (i 2).isLt
  have h2 : ¬ k0_cond2 i = 1#1 := (cond2_iff i).not.2 hi
  have hpar : (base (i 2).val + (i 2).val) % 2 = 1 := by have := (cond5_iff i).not.1 h5; omega
  have h6 : k0_cond6 i = 1#1 := (cond6_iff i).2 hpar
  have hq := rd_rblk arg5.view f5 (k0_off1_inb i) (i 2).val (k0_off1_eq i)
  have hs0 : Holds arg12 ((base (i 2).val + 0) % 2) f12 (sc0 (rblk (arg5.view.read (Elt F) f5) (i 2).val) (arg6.view.read (Elt F) f6) 0) (sc1 (rblk (arg5.view.read (Elt F) f5) (i 2).val) (arg6.view.read (Elt F) f6) 0) := by
    rw [Nat.add_zero, Nat.mod_eq_of_lt (base_lt _)]
    exact hs
  have hcut := part21_rest (F := F) c i arg3 harg3 arg4 harg4 arg5 harg5 arg6 harg6 arg7 harg7 arg8 harg8 arg9 harg9 arg10 harg10 arg11 harg11 arg12 harg12 arg13 harg13 hi f11
    (fun f11' => LF arg11 arg12 X0 (sc0 (rblk (arg5.view.read (Elt F) f5) (i 2).val) (arg6.view.read (Elt F) f6)) (sc1 (rblk (arg5.view.read (Elt F) f5) (i 2).val) (arg6.view.read (Elt F) f6)) (vblk (arg10.view.read (Elt F) f10)) (base (i 2).val) 0 f11' f12 (k0_pay99, k0_pay99))
    (fun f h1 h2 => ⟨rfl, rfl, h1, h2, hs0⟩)
  rw [cc0_diff_attention_eq_skeleton]
  unfold cc0_diff_attention_skel
  iintro ⟨H3, H4, H5, H6, H7, H8, H9, H10, H11, H12, H13⟩
  sl_exec (disch := first | exact h2 | exact h5 | exact h6)
  sl_step
  rename_i acc
  have ha2 : arg2 = BitVec.ofNat 32 (i 2).val := hk0_part21_0
  subst ha2
  have hL : LF arg11 arg12 X0 (sc0 (rblk (arg5.view.read (Elt F) f5) (i 2).val) (arg6.view.read (Elt F) f6))
      (sc1 (rblk (arg5.view.read (Elt F) f5) (i 2).val) (arg6.view.read (Elt F) f6))
      (vblk (VT (arg7.view.read (Elt F) f7))) (base (i 2).val) (i 2).val f11L0 f12L1 acc := by
    have ht : Scf.trips (k0_t1_loop i).lb (k0_t1_loop i).ub (k0_t1_loop i).st = (i 2).val := trips_eq i
    rw [ht, hv] at hL5
    exact hL5
  obtain ⟨hs0', hs1'⟩ := hL.sc.2 hpar
  have hvb := (rd_vblk arg10.view f10 (k0_off17_inb i h6) (i 2).val (k0_off17_eq i)).trans (congrArg (fun x => vblk x (i 2).val) hv)
  have hqn := rd_rblk arg5.view f5 (k0_off16_inb i h6) (min ((i 2).val + 1) 15) (k0_off16_eq i)
  have hk0 := rd_kblk arg6.view f6 inb_S1x8192x256_S1x512x128_0_0_0 0 0 rfl
  have hk1 := rd_kblk arg6.view f6 inb_S1x8192x256_S1x512x128_0_0_128 0 128 rfl
  have e12 : body_odd.sl.H12_3 c i arg5 arg6 arg12 f5 f6 h6 (BitVec.ofNat 32 (i 2).val) f12L1 = lst1 (msk (i 2).val (sc0 (rblk (arg5.view.read (Elt F) f5) (i 2).val) (arg6.view.read (Elt F) f6) (i 2).val))
      (sc0 (rblk (arg5.view.read (Elt F) f5) (min ((i 2).val + 1) 15)) (arg6.view.read (Elt F) f6) 0)
      (sc1 (rblk (arg5.view.read (Elt F) f5) (min ((i 2).val + 1) 15)) (arg6.view.read (Elt F) f6) 0) := by
    show lst1 (msk (i 2).val (rd arg12 rS10 f12L1))
      (k0_pay35 (k0_pay96 (arg5.view.readAt (Elt F) (Rect.unit (s := S1x8192x256) (k0_off16 i) S1x512x256.size (k0_off16_inb i h6)).toLoadRect f5))
        (arg6.view.readAt (Elt F) (Rect.unit (s := S1x8192x256) ![0, 0, 0] S1x512x128.size inb_S1x8192x256_S1x512x128_0_0_0).toLoadRect f6))
      (k0_pay36 (k0_pay96 (arg5.view.readAt (Elt F) (Rect.unit (s := S1x8192x256) (k0_off16 i) S1x512x256.size (k0_off16_inb i h6)).toLoadRect f5))
        (arg6.view.readAt (Elt F) (Rect.unit (s := S1x8192x256) ![0, 0, 128] S1x512x128.size inb_S1x8192x256_S1x512x128_0_0_128).toLoadRect f6)) = _
    rw [hs0', hqn, hk0, hk1]
    rfl
  have e13 : body_odd.sl.H12_4 c i arg5 arg6 arg12 f5 f6 h6 (BitVec.ofNat 32 (i 2).val) f12L1 = ⟨rS11, msk (i 2).val (sc1 (rblk (arg5.view.read (Elt F) f5) (i 2).val) (arg6.view.read (Elt F) f6) (i 2).val)⟩ ::
      lst1 (msk (i 2).val (sc0 (rblk (arg5.view.read (Elt F) f5) (i 2).val) (arg6.view.read (Elt F) f6) (i 2).val))
      (sc0 (rblk (arg5.view.read (Elt F) f5) (min ((i 2).val + 1) 15)) (arg6.view.read (Elt F) f6) 0)
      (sc1 (rblk (arg5.view.read (Elt F) f5) (min ((i 2).val + 1) 15)) (arg6.view.read (Elt F) f6) 0) := by
    show (⟨rS11, msk (i 2).val (rd arg12 rS11 f12L1)⟩ : View.Piece (Elt F) S2x2x512x512 .f32) :: body_odd.sl.H12_3 c i arg5 arg6 arg12 f5 f6 h6 (BitVec.ofNat 32 (i 2).val) f12L1 = _
    rw [e12, hs1']
  have e11 : body_odd.sl.Hk0_part21_1_2 c i arg5 arg6 arg10 arg11 arg12 arg13 f5 f6 f10 h6 (BitVec.ofNat 32 (i 2).val) acc f11L0 f12L1
      = [⟨rA1, (fin (sc1 (rblk (arg5.view.read (Elt F) f5) (i 2).val) (arg6.view.read (Elt F) f6)) (vblk (VT (arg7.view.read (Elt F) f7))) (i 2).val).2⟩,
        ⟨rA0, (fin (sc0 (rblk (arg5.view.read (Elt F) f5) (i 2).val) (arg6.view.read (Elt F) f6)) (vblk (VT (arg7.view.read (Elt F) f7))) (i 2).val).2⟩] := by
    show acc1 arg11 arg12 arg13 f11L0
      (arg10.view.readAt (Elt F) (Rect.unit (s := S16x272x512) (k0_off17 i) S1x272x512.size (k0_off17_inb i h6)).toLoadRect f10)
      (body_odd.sl.H12_3 c i arg5 arg6 arg12 f5 f6 h6 (BitVec.ofNat 32 (i 2).val) f12L1) (body_odd.sl.H12_4 c i arg5 arg6 arg12 f5 f6 h6 (BitVec.ofNat 32 (i 2).val) f12L1) acc = _
    rw [e12, e13, hvb]
    exact acc1_eq hL
  rw [e13, e11]
  have eO : k0_pay1 (body_odd.sl.r_6 c arg3 f3) (body_odd.sl.r_7 c i arg5 arg6 arg10 arg11 arg12 arg13 f5 f6 f10 h6 (BitVec.ofNat 32 (i 2).val) acc f11L0 f12L1) (body_odd.sl.r_8 c i arg5 arg6 arg10 arg11 arg12 arg13 f5 f6 f10 h6 (BitVec.ofNat 32 (i 2).val) acc f11L0 f12L1) (body_odd.sl.v108 c i arg5 arg6 arg10 arg11 arg12 arg13 f5 f6 f10 h6 (BitVec.ofNat 32 (i 2).val) acc f11L0 f12L1)
      (arg4.view.readAt (Elt F) (Rect.unit (s := S1x256) ![0, 0] S1x256.size inb_S1x256_S1x256_0_0).toLoadRect f4)
      (arg8.view.readAt (Elt F) (Rect.unit (s := S1x512x256) ![0, 0, 0] S1x512x256.size inb_S1x512x256_S1x512x256_0_0_0).toLoadRect f8)
      = Out (arg3.view.read (Elt F) f3) (arg4.view.read (Elt F) f4) (arg5.view.read (Elt F) f5) (arg6.view.read (Elt F) f6)
          (arg7.view.read (Elt F) f7) (arg8.view.read (Elt F) f8) (i 2).val := by
    show outT arg11 (arg3.view.readAt (Elt F) (Rect.unit (s := S4x128) ![0, 0] S4x128.size inb_S4x128_S4x128_0_0).toLoadRect f3)
      (arg4.view.readAt (Elt F) (Rect.unit (s := S1x256) ![0, 0] S1x256.size inb_S1x256_S1x256_0_0).toLoadRect f4)
      (arg8.view.readAt (Elt F) (Rect.unit (s := S1x512x256) ![0, 0, 0] S1x512x256.size inb_S1x512x256_S1x512x256_0_0_0).toLoadRect f8)
      (body_odd.sl.Hk0_part21_1_2 c i arg5 arg6 arg10 arg11 arg12 arg13 f5 f6 f10 h6 (BitVec.ofNat 32 (i 2).val) acc f11L0 f12L1) = _
    rw [e11, View.readAt_full, View.readAt_full, View.readAt_full]
    exact outT_eq arg11 _ _ _ _ _ _ _
  rw [eO]
  unfold After
  isplitl [H3]
  · iexact H3
  isplitl [H4]
  · iexact H4
  isplitl [H5]
  · iexact H5
  isplitl [H6]
  · iexact H6
  isplitl [H7]
  · iexact H7
  isplitl [H8]
  · iexact H8
  iexists _, _, _, _, _
  isplitl [H9]
  · iexact H9
  isplitl [H10]
  · iexact H10
  isplitl [Hk0_part21_1]
  · iexact Hk0_part21_1
  isplitl [H12]
  · iexact H12
  isplitl [H13]
  · iexact H13
  · ipureintro
    refine ⟨View.read_writes_full _ _ _ _ _, hv, ?_⟩
    rw [show base ((i 2).val + 1) = 0 by rw [base_succ (i 2)]; omega]
    exact holds1 arg12 f12L1 _ _ _ _

end Cert.Proof.KernelIdeal
-- ==== Proof.Run.lean ====
module

public import proofs.«01_k».proof.Proof.Blocks
public import proofs.«01_k».proof.Proof.BodyFirst
public import proofs.«01_k».proof.Proof.BodyEven
public import proofs.«01_k».proof.Proof.BodyOdd

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns
  rw [h.set_eq_univ]

/-- The kernel body at any query block. -/
theorem body_any (c : Dev nD) (i : grid0.Coords) (arg3 : Memref sig .tc .vmem S4x128 .f32) (harg3 : arg3.IsWhole) (arg4 : Memref sig .tc .vmem S1x256 .f32) (harg4 : arg4.IsWhole) (arg5 : Memref sig .tc .vmem S1x8192x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S16x272x512 .bf16) (harg10 : arg10.IsWhole) (arg11 : Memref sig .tc .vmem S2x272x512 .f32) (harg11 : arg11.IsWhole) (arg12 : Memref sig .tc .vmem S2x2x512x512 .f32) (harg12 : arg12.IsWhole) (arg13 : Memref sig .tc .vmem S2x2x512x512 .bf16) (harg13 : arg13.IsWhole)
    (f3 : Bf (F := F) c arg3) (f4 : Bf (F := F) c arg4) (f5 : Bf (F := F) c arg5) (f6 : Bf (F := F) c arg6)
    (f7 : Bf (F := F) c arg7) (f8 : Bf (F := F) c arg8) (f9 : Bf (F := F) c arg9) (f10 : Bf (F := F) c arg10)
    (f11 : Bf (F := F) c arg11) (f12 : Bf (F := F) c arg12) (f13 : Bf (F := F) c arg13)
    (hv : (i 2).val ≠ 0 → arg10.view.read (Elt F) f10 = VT (arg7.view.read (Elt F) f7))
    (hs : (i 2).val ≠ 0 → Holds arg12 (base (i 2).val) f12 (sc0 (rblk (arg5.view.read (Elt F) f5) (i 2).val) (arg6.view.read (Elt F) f6) 0) (sc1 (rblk (arg5.view.read (Elt F) f5) (i 2).val) (arg6.view.read (Elt F) f6) 0)) :
    iprop(pt c arg3 f3 ∗ pt c arg4 f4 ∗ pt c arg5 f5 ∗ pt c arg6 f6 ∗ pt c arg7 f7 ∗ pt c arg8 f8 ∗ pt c arg9 f9 ∗ pt c arg10 f10
      ∗ pt c arg11 f11 ∗ pt c arg12 f12 ∗ pt c arg13 f13)
    ⊢ wp frame (wpE (defs₀ (F := F)) Variants.none c none) Set.univ (cc0_diff_attention i arg3 harg3 arg4 harg4 arg5 harg5 arg6 harg6 arg7 harg7 arg8 harg8 arg9 harg9 arg10 harg10 arg11 harg11 arg12 harg12 arg13 harg13)
      (fun _ => After c (i 2).val arg3 harg3 arg4 harg4 arg5 harg5 arg6 harg6 arg7 harg7 arg8 harg8 arg9 harg9 arg10 harg10 arg11 harg11 arg12 harg12 arg13 harg13 f3 f4 f5 f6 f7 f8) := by
  by_cases hi : (i 2).val = 0
  · exact body_first c i arg3 harg3 arg4 harg4 arg5 harg5 arg6 harg6 arg7 harg7 arg8 harg8 arg9 harg9 arg10 harg10 arg11 harg11 arg12 harg12 arg13 harg13 hi f3 f4 f5 f6 f7 f8 f9 f10 f11 f12 f13
  · by_cases h5 : k0_cond5 i = 1#1
    · exact body_even c i arg3 harg3 arg4 harg4 arg5 harg5 arg6 harg6 arg7 harg7 arg8 harg8 arg9 harg9 arg10 harg10 arg11 harg11 arg12 harg12 arg13 harg13 hi h5 f3 f4 f5 f6 f7 f8 f9 f10 f11 f12 f13 (hv hi) (hs hi)
    · exact body_odd c i arg3 harg3 arg4 harg4 arg5 harg5 arg6 harg6 arg7 harg7 arg8 harg8 arg9 harg9 arg10 harg10 arg11 harg11 arg12 harg12 arg13 harg13 hi h5 f3 f4 f5 f6 f7 f8 f9 f10 f11 f12 f13 (hv hi) (hs hi)

/-- What a head's later query block finds in the scratch, or leaves for the next. -/
def Kept (c : Dev nD) (a : ℕ) (arg10 : Memref sig .tc .vmem S16x272x512 .bf16) (arg11 : Memref sig .tc .vmem S2x272x512 .f32)
    (arg12 : Memref sig .tc .vmem S2x2x512x512 .f32) (arg13 : Memref sig .tc .vmem S2x2x512x512 .bf16)
    (X5 X6 X7 : S1x8192x256.Idx → Elt F .bf16) (n : Prop) : sProp 𝕄 :=
  iprop(∃ (f10 : Bf (F := F) c arg10) (f11 : Bf (F := F) c arg11) (f12 : Bf (F := F) c arg12) (f13 : Bf (F := F) c arg13),
      pt c arg10 f10 ∗ pt c arg11 f11 ∗ pt c arg12 f12 ∗ pt c arg13 f13 ∗
      ⌜n → arg10.view.read (Elt F) f10 = VT X7 ∧
        Holds arg12 (base a) f12 (sc0 (rblk X5 (min a 15)) X6 0) (sc1 (rblk X5 (min a 15)) X6 0)⌝)

/-- The kernel body at what its operands hold. -/
theorem body_gen (c : Dev nD) (i : grid0.Coords) (arg3 : Memref sig .tc .vmem S4x128 .f32) (harg3 : arg3.IsWhole) (arg4 : Memref sig .tc .vmem S1x256 .f32) (harg4 : arg4.IsWhole) (arg5 : Memref sig .tc .vmem S1x8192x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S16x272x512 .bf16) (harg10 : arg10.IsWhole) (arg11 : Memref sig .tc .vmem S2x272x512 .f32) (harg11 : arg11.IsWhole) (arg12 : Memref sig .tc .vmem S2x2x512x512 .f32) (harg12 : arg12.IsWhole) (arg13 : Memref sig .tc .vmem S2x2x512x512 .bf16) (harg13 : arg13.IsWhole)
    (X3 : S4x128.Idx → Elt F .f32) (X4 : S1x256.Idx → Elt F .f32) (X5 : S1x8192x256.Idx → Elt F .bf16) (X6 : S1x8192x256.Idx → Elt F .bf16) (X7 : S1x8192x256.Idx → Elt F .bf16) (X8 : S1x512x256.Idx → Elt F .bf16) (K : sProp 𝕄) :
    iprop(Kept c (i 2).val arg10 arg11 arg12 arg13 X5 X6 X7 ((i 2).val ≠ 0) ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8
      ∗ (∃ d, owns (c : Thread nD τ) arg9 fullShare d)
      ∗ ((Kept c ((i 2).val + 1) arg10 arg11 arg12 arg13 X5 X6 X7 True ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8
      ∗ owns (c : Thread nD τ) arg9 fullShare (Out X3 X4 X5 X6 X7 X8 (i 2).val)) -∗ K))
    ⊢ wp frame (wpE (defs₀ (F := F)) Variants.none c none) Set.univ (cc0_diff_attention i arg3 harg3 arg4 harg4 arg5 harg5 arg6 harg6 arg7 harg7 arg8 harg8 arg9 harg9 arg10 harg10 arg11 harg11 arg12 harg12 arg13 harg13) (fun _ => K) := by
  simp only [owns_pt c arg3 harg3, owns_pt c arg4 harg4, owns_pt c arg5 harg5, owns_pt c arg6 harg6, owns_pt c arg7 harg7,
    owns_pt c arg8 harg8, owns_pt c arg9 harg9]
  unfold Kept
  iintro ⟨⟨%f10, %f11, %f12, %f13, H10, H11, H12, H13, %hk⟩, ⟨%f3, %e3, H3⟩, ⟨%f4, %e4, H4⟩, ⟨%f5, %e5, H5⟩, ⟨%f6, %e6, H6⟩, ⟨%f7, %e7, H7⟩, ⟨%f8, %e8, H8⟩, ⟨%d, %f9, %e9, H9⟩, HK⟩
  iapply (wp_wand_r _ _ _ (Q := fun _ => After c (i 2).val arg3 harg3 arg4 harg4 arg5 harg5 arg6 harg6 arg7 harg7 arg8 harg8 arg9 harg9 arg10 harg10 arg11 harg11 arg12 harg12 arg13 harg13 f3 f4 f5 f6 f7 f8))
  isplitl [H3 H4 H5 H6 H7 H8 H9 H10 H11 H12 H13]
  · iapply (body_any c i arg3 harg3 arg4 harg4 arg5 harg5 arg6 harg6 arg7 harg7 arg8 harg8 arg9 harg9 arg10 harg10 arg11 harg11 arg12 harg12 arg13 harg13 f3 f4 f5 f6 f7 f8 f9 f10 f11 f12 f13
      (fun h => by rw [(hk h).1, e7])
      (fun h => by
        have := (hk h).2
        rw [Nat.min_eq_left (Nat.le_of_lt_succ (show (i 2).val < 16 from (i 2).isLt)), ← e5, ← e6] at this
        exact this))
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %u HA
  unfold After
  icases HA with ⟨H3, H4, H5, H6, H7, H8, %g9, %g10, %g11, %g12, %g13, H9, H10, H11, H12, H13, %hp⟩
  obtain ⟨hp1, hp2, hp3⟩ := hp
  rw [e3, e4, e5, e6, e7, e8] at hp1
  rw [e7] at hp2
  rw [e5, e6] at hp3
  iapply HK
  isplitl [H10 H11 H12 H13]
  · iexists g10; iexists g11; iexists g12; iexists g13
    isplitl [H10]; · iexact H10
    isplitl [H11]; · iexact H11
    isplitl [H12]; · iexact H12
    isplitl [H13]; · iexact H13
    ipureintro; exact fun _ => ⟨hp2, hp3⟩
  isplitl [H3]
  · iexists f3
    isplitr
    · ipureintro; exact e3
    · iexact H3
  isplitl [H4]
  · iexists f4
    isplitr
    · ipureintro; exact e4
    · iexact H4
  isplitl [H5]
  · iexists f5
    isplitr
    · ipureintro; exact e5
    · iexact H5
  isplitl [H6]
  · iexists f6
    isplitr
    · ipureintro; exact e6
    · iexact H6
  isplitl [H7]
  · iexists f7
    isplitr
    · ipureintro; exact e7
    · iexact H7
  isplitl [H8]
  · iexists f8
    isplitr
    · ipureintro; exact e8
    · iexact H8
  · iexists g9
    isplitr
    · ipureintro; exact hp1
    · iexact H9

/-- The output's block at a point. -/
def oblk (c : Dev nD) (t : Fin cfg0.N) : S1x512x256.Idx → Elt F .bf16 :=
  Out (iblk m c 0 t) (iblk m c 1 t) (iblk m c 2 t) (iblk m c 3 t) (iblk m c 4 t) (iblk m c 5 t) (grid0.coords t 2).val

/-- The scratch after a point. -/
def Scr (c : Dev nD) (p : Fin cfg0.N) : sProp 𝕄 :=
  iprop(Kept c ((grid0.coords p 2).val + 1) (Memref.whole cc0_scratch0) (Memref.whole cc0_scratch1) (Memref.whole cc0_scratch2) (Memref.whole cc0_scratch3)
    (iblk m c 2 p) (iblk m c 3 p) (iblk m c 4 p) True ∗ ∃ r, prngReg c r)

/-- The invariant before point `n`. -/
def Inv (c : Dev nD) (n : ℕ) (h : n ≤ cfg0.N) : sProp 𝕄 :=
  if hn : n % 16 = 0 then Pipeline.ΦA spec0 c else Scr m c ⟨n - 1, by omega⟩

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oblk m c t
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = oblk m c t := by dsimp only [dats]

theorem Φ_castSucc (c : Dev nD) (t : Fin cfg0.N) : (dats m 0 c).Φ t.castSucc = Inv m c t.val (le_of_lt t.isLt) := by
  dsimp only [dats]; exact Pipeline.Dat.Φ_castSucc (Inv m c) t
theorem Φ_succ (c : Dev nD) (t : Fin cfg0.N) : (dats m 0 c).Φ t.succ = Inv m c (t.val + 1) t.isLt := by
  dsimp only [dats]; rfl

/-- The scratch at contents nothing names. -/
theorem ΦA_eq (c : Dev nD) : (Pipeline.ΦA (U := UR sig nD τ) (Val := Elt F) spec0 c : sProp 𝕄)
    = iprop(((∃ f : Bf (F := F) c (Memref.whole cc0_scratch0), pt c (Memref.whole cc0_scratch0) f)
      ∗ (∃ f : Bf (F := F) c (Memref.whole cc0_scratch1), pt c (Memref.whole cc0_scratch1) f)
      ∗ (∃ f : Bf (F := F) c (Memref.whole cc0_scratch2), pt c (Memref.whole cc0_scratch2) f)
      ∗ (∃ f : Bf (F := F) c (Memref.whole cc0_scratch3), pt c (Memref.whole cc0_scratch3) f)) ∗ ∃ r, prngReg c r) := by
  unfold Pipeline.ΦA
  rw [scopedRest0_eq]

theorem Scr_forget (c : Dev nD) (p : Fin cfg0.N) : Scr m c p ⊢ Pipeline.ΦA spec0 c := by
  rw [ΦA_eq]
  unfold Scr Kept
  iintro ⟨⟨%f10, %f11, %f12, %f13, H10, H11, H12, H13, -⟩, Hr⟩
  isplitl [H10 H11 H12 H13]
  · isplitl [H10]
    · iexists f10; iexact H10
    isplitl [H11]
    · iexists f11; iexact H11
    isplitl [H12]
    · iexists f12; iexact H12
    · iexists f13; iexact H13
  · iexact Hr

theorem Scr_succ (c : Dev nD) (t : Fin cfg0.N) : Scr m c t ⊢ Inv m c (t.val + 1) t.isLt := by
  unfold Inv
  split
  · exact Scr_forget m c t
  · exact .rfl

theorem Inv_last (c : Dev nD) : Inv m c cfg0.N le_rfl ⊢ Pipeline.ΦA spec0 c := by
  unfold Inv
  split
  · exact .rfl
  · exact Scr_forget m c _

/-- Consecutive points of one head read the same blocks of queries, keys and values. -/
theorem same (c : Dev nD) (t p : Fin cfg0.N) (h : t.val = p.val + 1) (h16 : t.val % 16 ≠ 0) :
    iblk m c 2 t = iblk m c 2 p ∧ iblk m c 3 t = iblk m c 3 p ∧ iblk m c 4 t = iblk m c 4 p := by
  have e0 : grid0.coords t 0 = grid0.coords p 0 := Fin.ext (by rw [co0, co0]; omega)
  have e1 : (grid0.coords t 1).val = (grid0.coords p 1).val := by rw [co1, co1]; omega
  unfold iblk
  refine ⟨?_, ?_, ?_⟩
  · exact (blk2_eq t _).trans ((congrArg₂ (qkv _) e0 (Fin.ext e1)).trans (blk2_eq p _).symm)
  · exact (blk3_eq t _).trans ((congrArg₂ (qkv _) e0 (Fin.ext (congrArg (8 + ·) e1))).trans (blk3_eq p _).symm)
  · exact (blk4_eq t _).trans ((congrArg₂ (qkv _) e0 (Fin.ext (congrArg (16 + ·) e1))).trans (blk4_eq p _).symm)

/-- What the invariant says of the scratch at a point. -/
theorem Inv_kept (c : Dev nD) (t : Fin cfg0.N) : Inv m c t.val (le_of_lt t.isLt) ⊢
    iprop(Kept c (grid0.coords t 2).val (Memref.whole cc0_scratch0) (Memref.whole cc0_scratch1) (Memref.whole cc0_scratch2) (Memref.whole cc0_scratch3)
      (iblk m c 2 t) (iblk m c 3 t) (iblk m c 4 t) ((grid0.coords t 2).val ≠ 0) ∗ ∃ r, prngReg c r) := by
  unfold Inv
  split
  · rename_i h
    rw [ΦA_eq]
    unfold Kept
    iintro ⟨⟨⟨%f10, H10⟩, ⟨%f11, H11⟩, ⟨%f12, H12⟩, ⟨%f13, H13⟩⟩, Hr⟩
    isplitl [H10 H11 H12 H13]
    · iexists f10; iexists f11; iexists f12; iexists f13
      isplitl [H10]; · iexact H10
      isplitl [H11]; · iexact H11
      isplitl [H12]; · iexact H12
      isplitl [H13]; · iexact H13
      ipureintro
      exact fun hn => absurd ((co2 t).trans h) hn
    · iexact Hr
  · rename_i h
    have hp : t.val = (⟨t.val - 1, lt_of_le_of_lt (Nat.sub_le _ _) t.isLt⟩ : Fin cfg0.N).val + 1 := by
      show t.val = t.val - 1 + 1
      omega
    obtain ⟨e2, e3, e4⟩ := same m c t _ hp h
    have ec : (grid0.coords (⟨t.val - 1, lt_of_le_of_lt (Nat.sub_le _ _) t.isLt⟩ : Fin cfg0.N) 2).val + 1 = (grid0.coords t 2).val := by
      rw [co2, co2]
      show (t.val - 1) % 16 + 1 = t.val % 16
      omega
    unfold Scr
    rw [ec, ← e2, ← e3, ← e4]
    unfold Kept
    iintro ⟨⟨%f10, %f11, %f12, %f13, H10, H11, H12, H13, %hk⟩, Hr⟩
    isplitl [H10 H11 H12 H13]
    · iexists f10; iexists f11; iexists f12; iexists f13
      isplitl [H10]; · iexact H10
      isplitl [H11]; · iexact H11
      isplitl [H12]; · iexact H12
      isplitl [H13]; · iexact H13
      ipureintro
      exact fun _ => hk trivial
    · iexact Hr

/-- The kernel body at a point, the scratch of `Inv` before and after. -/
theorem body_at (c : Dev nD) (t : Fin cfg0.N) (K : sProp 𝕄) :
    iprop(Inv m c t.val (le_of_lt t.isLt) ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (iblk m c 4 t) ∗ owns (c : Thread nD τ) (st0_5 t) fullShare (iblk m c 5 t)
      ∗ (∃ d, owns (c : Thread nD τ) (st0_6 t) fullShare d)
      ∗ ((Scr m c t ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (iblk m c 4 t) ∗ owns (c : Thread nD τ) (st0_5 t) fullShare (iblk m c 5 t)
      ∗ owns (c : Thread nD τ) (st0_6 t) fullShare (oblk m c t)) -∗ K))
    ⊢ wp frame (wpE (defs₀ (F := F)) Variants.none c none) Set.univ (bodyAt0 t) (fun _ => K) := by
  iintro ⟨HΦ, H0, H1, H2, H3, H4, H5, H6, HK⟩
  ihave HΦ := (Inv_kept m c t) $$ HΦ
  icases HΦ with ⟨HS, Hr⟩
  iapply (body_gen c (grid0.coords t) _ _ _ _ _ _ _ _ _ _ _ _ _ _ _ _ _ _ _ _ _ _
    (iblk m c 0 t) (iblk m c 1 t) (iblk m c 2 t) (iblk m c 3 t) (iblk m c 4 t) (iblk m c 5 t) K)
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨HS, H0, H1, H2, H3, H4, H5, H6⟩
  iapply HK
  isplitl [HS Hr]
  · unfold Scr
    isplitl [HS]; · iexact HS
    iexact Hr
  isplitl [H0]; · iexact H0
  isplitl [H1]; · iexact H1
  isplitl [H2]; · iexact H2
  isplitl [H3]; · iexact H3
  isplitl [H4]; · iexact H4
  isplitl [H5]; · iexact H5
  iexact H6

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [Φ_castSucc, Φ_succ, show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_at m c t _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]
  · iexists _; iexact H6
  iintro ⟨HΦ, H0, H1, H2, H3, H4, H5, H6⟩
  isplitl [HΦ]
  · iapply (Scr_succ m c t); iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every final state has the output at what the library computes from the proof data, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => by show Pipeline.ΦA spec0 c ⊢ Inv m c 0 (Nat.zero_le _); unfold Inv; exact .rfl)
    (hout := fun c => Inv_last m c)

/-- The arguments end unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_with_sems (frame_of m ρ (dats m) (A_eq m)) (run_main m ρ)

end Cert.Proof.KernelIdeal
-- ==== Proof.VPay.lean ====
module

public import proofs.«01_k».proof.Proof.OutDef
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

theorem neg_inf : Ideal.ofBits .f32 0xFF800000#32 = ⊥ := by
  simp [Ideal.ofBits, Ideal.ieee]

theorem word_add (a k : ℕ) : BitVec.ofNat 32 a * 512#32 + BitVec.ofNat 32 k = BitVec.ofNat 32 (a * 512 + k) := by
  rw [BitVec.ofNat_add, BitVec.ofNat_mul]

theorem sle_ofNat (p q : ℕ) (hp : p < 2 ^ 31) (hq : q < 2 ^ 31) :
    IntOp.cmpi CmpIPredicate.sle (BitVec.ofNat 32 p) (BitVec.ofNat 32 q) = BitVec.ofBool (decide (p ≤ q)) := by
  have h : ∀ n < 2 ^ 31, (BitVec.ofNat 32 n).toInt = n := fun n hn => by
    have e : (BitVec.ofNat 32 n).toNat = n := by rw [BitVec.toNat_ofNat]; exact Nat.mod_eq_of_lt (by omega)
    rw [BitVec.toInt_eq_toNat_of_lt (by rw [e]; omega), e]
  show BitVec.ofBool (BitVec.sle _ _) = _
  unfold BitVec.sle
  rw [h p hp, h q hq]
  congr 1
  exact decide_eq_decide.mpr Nat.cast_le

/-- The column `o + d` of a head's 256. -/
abbrev col (o : ℕ) (d : Fin 128) : Fin 256 := ⟨(o + d.val) % 256, Nat.mod_lt _ (by decide)⟩
/-- The row `512 j + k`. -/
abbrev row (j : ℕ) (k : Fin 512) : Fin 8192 := ⟨(512 * j + k.val) % 8192, Nat.mod_lt _ (by decide)⟩

theorem kblk_apply (x : S1x8192x256.Idx → Elt Ideal .bf16) (j o : ℕ) (k : Fin 512) (d : Fin 128) :
    kblk (F := Ideal) x j o (ix3 0 k d) = x (ix3 0 (row j k) (col o d)) := by
  unfold kblk
  rw [ix3_eq_valueIdx]
  rfl

theorem rblk_apply (x : S1x8192x256.Idx → Elt Ideal .bf16) (j : ℕ) (k : Fin 512) (n : Fin 256) :
    rblk (F := Ideal) x j (ix3 0 k n) = x (ix3 0 (row j k) n) := by
  unfold rblk
  rw [ix3_eq_valueIdx]
  rfl

theorem sc0_apply (q : Vec Ideal S1x512x256 .bf16) (x : S1x8192x256.Idx → Elt Ideal .bf16) (j : ℕ) (k y : Fin 512) :
    sc0 (F := Ideal) q x j (ix4 0 0 k y) = ∑ d : Fin 128, x (ix3 0 (row j k) (col 0 d)) * q (ix3 0 y (col 0 d)) := by
  unfold sc0
  pointwise [k0_pay35, k0_pay96]
  refine Finset.sum_congr rfl fun d _ => ?_
  rw [kblk_apply]
  refine congrArg (_ * ·) (congrArg q (congrArg (ix3 0 y) (Fin.ext ?_)))
  have := d.isLt
  show d.val = (0 + d.val) % 256
  omega

theorem sc1_apply (q : Vec Ideal S1x512x256 .bf16) (x : S1x8192x256.Idx → Elt Ideal .bf16) (j : ℕ) (k y : Fin 512) :
    sc1 (F := Ideal) q x j (ix4 0 0 k y) = ∑ d : Fin 128, x (ix3 0 (row j k) (col 128 d)) * q (ix3 0 y (col 128 d)) := by
  unfold sc1
  pointwise [k0_pay36, k0_pay96]
  refine Finset.sum_congr rfl fun d _ => ?_
  rw [kblk_apply]
  refine congrArg (_ * ·) (congrArg q (congrArg (ix3 0 y) (Fin.ext ?_)))
  have := d.isLt
  show 128 + d.val = (128 + d.val) % 256
  omega

theorem pay37_apply (m : FVec Ideal S1x512 .f32) (s : Sc Ideal) (y : Fin 512) :
    k0_pay37 (F := Ideal) m s (ix2 0 y) = max (m (ix2 0 y)) (Finset.fold max ⊥ (fun k : Fin 512 => s (ix4 0 0 k y)) Finset.univ) := by
  pointwise [k0_pay37, neg_inf]

theorem wt_apply (m : FVec Ideal S1x512 .f32) (s : Sc Ideal) (k y : Fin 512) :
    wt (F := Ideal) m s (ix4 0 0 k y) = Ideal.exp2 (s (ix4 0 0 k y) - k0_pay37 (F := Ideal) m s (ix2 0 y)) := by
  unfold wt
  pointwise [k0_pay39, k0_pay38]
  rfl

theorem pay40_apply (m m' : FVec Ideal S1x512 .f32) (a : Vec Ideal S1x272x512 .f32) (v : Vec Ideal S1x272x512 .bf16) (w : Vec Ideal S1x1x512x512 .bf16) (n : Fin 272) (y : Fin 512) :
    k0_pay40 (F := Ideal) m m' a v w (ix3 0 n y)
      = a (ix3 0 n y) * Ideal.exp2 (m (ix2 0 y) - m' (ix2 0 y)) + ∑ k : Fin 512, v (ix3 0 n k) * w (ix4 0 0 k y) := by
  pointwise [k0_pay40]
  rfl

theorem msk_apply (a : ℕ) (ha : a < 16) (s : Sc Ideal) (k y : Fin 512) :
    msk (F := Ideal) a s (ix4 0 0 k y) = if k.val ≤ y.val then s (ix4 0 0 k y) else ⊥ := by
  unfold msk
  pointwise [k0_pay70, k0_pay71]
  rw [IdealRules.named_const.ideal_named_scalar κ "mask" _ ⊥ rfl]
  have hk := k.isLt
  have hy := y.isLt
  have e : IntOp.cmpi CmpIPredicate.sle (IntOp.addi (Scalar.muli (BitVec.ofNat 32 a) 512#32) (BitVec.ofNat 32 k.val))
        (IntOp.addi (Scalar.muli (BitVec.ofNat 32 a) 512#32) (BitVec.ofNat 32 y.val)) = BitVec.ofBool (decide (k.val ≤ y.val)) := by
    rw [show IntOp.addi (Scalar.muli (BitVec.ofNat 32 a) 512#32) (BitVec.ofNat 32 k.val) = BitVec.ofNat 32 (a * 512 + k.val) from word_add a k.val,
      show IntOp.addi (Scalar.muli (BitVec.ofNat 32 a) 512#32) (BitVec.ofNat 32 y.val) = BitVec.ofNat 32 (a * 512 + y.val) from word_add a y.val,
      sle_ofNat _ _ (by omega) (by omega)]
    congr 2
    exact propext (Nat.add_le_add_iff_left)
  rw [e]
  by_cases h : k.val ≤ y.val
  · simp [h, Scalar.select]
  · simp [h, Scalar.select]

theorem pay2_apply (x : Vec Ideal S1x512x256 .bf16) (n : Fin 256) (y : Fin 512) : k0_pay2 (F := Ideal) x (ix3 0 n y) = x (ix3 0 y n) := by
  pointwise [k0_pay2]

theorem pay3_apply (n : Fin 16) (y : Fin 512) : k0_pay3 (F := Ideal) (ix3 0 n y) = 1 := by
  pointwise [k0_pay3]

/-- The weight of the second map. -/
def lamK (x : Vec Ideal S4x128 .f32) : EReal :=
  Ideal.exp (∑ d : Fin 128, x (ix2 0 d) * x (ix2 1 d)) - Ideal.exp (∑ d : Fin 128, x (ix2 2 d) * x (ix2 3 d)) + Ideal.ofBits .f32 0x3E4CCCCD#32

theorem pay112_apply (x : Vec Ideal S4x128 .f32) : k0_pay112 (F := Ideal) x (ix2 0 0) = lamK x := by
  pointwise [k0_pay112, lamK]

theorem pay113_apply (x : Vec Ideal S1x1x512 .f32) (y : Fin 512) : k0_pay113 (F := Ideal) x (ix2 0 y) = Ideal.div 1 (x (ix3 0 0 y)) := by
  pointwise [k0_pay113]

theorem pay114_apply (x : Vec Ideal S1x1x512 .f32) (z : Vec Ideal S1x256x512 .f32) (n : Fin 256) (y : Fin 512) :
    k0_pay114 (F := Ideal) x z (ix2 n y) = z (ix3 0 n y) * Ideal.div 1 (x (ix3 0 0 y)) := by
  pointwise [k0_pay114]

/-- The normalised, scaled and gated row of one head, from the row `o` before the normalisation. -/
def fine (o sg : Fin 256 → EReal) (g : EReal) (n : Fin 256) : EReal :=
  o n * Ideal.rsqrt (Ideal.div (∑ x, o x * o x) (Ideal.ofBits .f32 0x43800000#32) + Ideal.ofBits .f32 0x358637BD#32) * sg n
    * Ideal.ofBits .f32 0x3F4CCCCD#32 * (g * Ideal.logistic g)

theorem pay1_apply (l : FVec Ideal S1x1 .f32) (i2 : FVec Ideal S1x512 .f32) (o1 : FVec Ideal S256x512 .f32) (o2 : Vec Ideal S1x256x512 .f32)
    (sg : Vec Ideal S1x256 .f32) (g : Vec Ideal S1x512x256 .bf16) (y : Fin 512) (n : Fin 256) :
    k0_pay1 (F := Ideal) l i2 o1 o2 sg g (ix3 0 y n)
      = fine (fun n => o1 (ix2 n y) - l (ix2 0 0) * (o2 (ix3 0 n y) * i2 (ix2 0 y))) (fun n => sg (ix2 0 n)) (g (ix3 0 y n)) n := by
  pointwise [k0_pay1, fine]

end Cert.Proof.KernelIdeal
-- ==== Proof.VArr.lean ====
module

public import proofs.«01_k».proof.Proof.VPay
public import proofs.«01_k».proof.Proof.Gen.KernelIdeal.Frame
public import Idealize.ShloMosaic.Lib.Pipeline.Value
public import Idealize.ShloMosaic.Lib.StableHlo.Run

@[expose] public section

set_option maxRecDepth 16384

noncomputable section

/-! ## The arrays the host makes before the launch -/

namespace Cert.Proof.KernelIdeal

open Cert.KernelIdeal Cert.KernelIdeal.Gen Cert.KernelIdeal.Facts
open Idealize.ShloMosaic Idealize.ShloMosaic.TcCoe Idealize.SL.Sem Idealize.ShloMosaic.StableHlo

/-- The queries scaled by the scores' factor over `log 2`. -/
def qs (x0 : FVec Ideal S2x8192x2048 .f32) : FVec Ideal S2x8192x2048 .f32 :=
  Host.divf (mulf x0 (broadcastInDim S2x8192x2048 ![] bcast_S_S2x8192x2048 (constant S_ .f32 0x3DB504F3#32)))
    (broadcastInDim S2x8192x2048 ![] bcast_S_S2x8192x2048 (Host.log (constant S_ .f32 0x40000000#32)))

/-- The four arrays side by side, in blocks of 2048 columns. -/
def cat (a b c d : FVec Ideal S2x8192x2048 .f32) : FVec Ideal S2x8192x8192 .bf16 :=
  truncf .bf16 (concatenate S2x8192x8192 2 [⟨S2x8192x2048, a⟩, ⟨S2x8192x2048, b⟩, ⟨S2x8192x2048, c⟩, ⟨S2x8192x2048, d⟩]
    concatenates_S2x8192x2048_S2x8192x2048_S2x8192x2048_S2x8192x2048_S2x8192x8192_d2) bitsLt_bf16_f32

theorem V_main_v6 (m : (ℓ : Loc nD τ sig) → Buf (Elt Ideal) ℓ) (c : Dev nD) :
    V m c main_v6 = cat (qs (m ((c : Thread nD τ).loc main_arg0))) (m ((c : Thread nD τ).loc main_arg1)) (m ((c : Thread nD τ).loc main_arg2))
      (m ((c : Thread nD τ).loc main_arg3)) := by
  show StableHlo.after hostOps0 _ (Proc.devRef .tc main_v6) = _
  after_results
  rfl

theorem V_main_v7 (m : (ℓ : Loc nD τ sig) → Buf (Elt Ideal) ℓ) (c : Dev nD) :
    V m c main_v7 = shapeCast S1x256 (m ((c : Thread nD τ).loc main_arg5)) shapeCasts_S256_S1x256 := by
  show StableHlo.after hostOps0 _ (Proc.devRef .tc main_v7) = _
  after_results
  rfl

theorem qs_apply (x0 : FVec Ideal S2x8192x2048 .f32) (b : Fin 2) (r : Fin 8192) (n : Fin 2048) :
    qs x0 (ix3 b r n) = Ideal.div (x0 (ix3 b r n) * Ideal.ofBits .f32 0x3DB504F3#32) (Ideal.log (Ideal.ofBits .f32 0x40000000#32)) := by
  pointwise [qs]

theorem sg_apply (x5 : FVec Ideal S256 .f32) (n : Fin 256) : shapeCast S1x256 x5 shapeCasts_S256_S1x256 (ix2 0 n) = x5 (ix1 n) := by
  pointwise []

section
variable (x0 x1 x2 x3 : FVec Ideal S2x8192x2048 .f32) (b : Fin 2) (r : Fin 8192) (n : Fin 2048)

theorem cat0 : cat x0 x1 x2 x3 (ix3 b r ⟨n.val, by omega⟩) = x0 (ix3 b r n) :=
  concatenate_apply_piece (t := S2x8192x8192) 2 [⟨S2x8192x2048, x0⟩, ⟨S2x8192x2048, x1⟩, ⟨S2x8192x2048, x2⟩, ⟨S2x8192x2048, x3⟩]
    concatenates_S2x8192x2048_S2x8192x2048_S2x8192x2048_S2x8192x2048_S2x8192x8192_d2 _ 0 (show 0 < 4 by decide) S2x8192x2048 x0 rfl rfl 0 rfl (ix3 b r n)
    (fun c hc => by fin_cases c; rfl; rfl; exact absurd rfl hc) (Nat.zero_add _)
theorem cat1 : cat x0 x1 x2 x3 (ix3 b r ⟨2048 + n.val, by omega⟩) = x1 (ix3 b r n) :=
  concatenate_apply_piece (t := S2x8192x8192) 2 [⟨S2x8192x2048, x0⟩, ⟨S2x8192x2048, x1⟩, ⟨S2x8192x2048, x2⟩, ⟨S2x8192x2048, x3⟩]
    concatenates_S2x8192x2048_S2x8192x2048_S2x8192x2048_S2x8192x2048_S2x8192x8192_d2 _ 1 (show 1 < 4 by decide) S2x8192x2048 x1 rfl rfl 2048 rfl (ix3 b r n)
    (fun c hc => by fin_cases c; rfl; rfl; exact absurd rfl hc) rfl
theorem cat2 : cat x0 x1 x2 x3 (ix3 b r ⟨4096 + n.val, by omega⟩) = x2 (ix3 b r n) :=
  concatenate_apply_piece (t := S2x8192x8192) 2 [⟨S2x8192x2048, x0⟩, ⟨S2x8192x2048, x1⟩, ⟨S2x8192x2048, x2⟩, ⟨S2x8192x2048, x3⟩]
    concatenates_S2x8192x2048_S2x8192x2048_S2x8192x2048_S2x8192x2048_S2x8192x8192_d2 _ 2 (show 2 < 4 by decide) S2x8192x2048 x2 rfl rfl 4096 rfl (ix3 b r n)
    (fun c hc => by fin_cases c; rfl; rfl; exact absurd rfl hc) rfl
theorem cat3 : cat x0 x1 x2 x3 (ix3 b r ⟨6144 + n.val, by omega⟩) = x3 (ix3 b r n) :=
  concatenate_apply_piece (t := S2x8192x8192) 2 [⟨S2x8192x2048, x0⟩, ⟨S2x8192x2048, x1⟩, ⟨S2x8192x2048, x2⟩, ⟨S2x8192x2048, x3⟩]
    concatenates_S2x8192x2048_S2x8192x2048_S2x8192x2048_S2x8192x2048_S2x8192x8192_d2 _ 3 (show 3 < 4 by decide) S2x8192x2048 x3 rfl rfl 6144 rfl (ix3 b r n)
    (fun c hc => by fin_cases c; rfl; rfl; exact absurd rfl hc) rfl
end

end Cert.Proof.KernelIdeal
end
-- ==== Proof.VRefDef.lean ====
module

public import proofs.«01_k».proof.Proof.Gen.ReferenceIdeal.Run
public import Idealize.ShloMosaic.Lib.Pointwise

@[expose] public section

set_option maxRecDepth 16384

noncomputable section

/-! ## The reference's result, in stages -/

namespace Cert.Proof.ReferenceIdeal

open Cert.ReferenceIdeal Cert.ReferenceIdeal.Gen Cert.ReferenceIdeal.Facts
open Idealize.ShloMosaic Idealize.ShloMosaic.TcCoe

variable (x0 x1 x2 x3 : FVec Ideal S2x8192x2048 .f32) (x4 : FVec Ideal S4x128 .f32) (x5 : FVec Ideal S256 .f32)

/-- The masked scores of both maps. -/
def rS : FVec Ideal S2x8x2x8192x8192 .f32 :=
  select (broadcastInDim S2x8x2x8192x8192 ![3, 4] bcast_S8192x8192_S2x8x2x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (Host.dotGeneral dot_S2x8x2x8192x128_S2x8x2x8192x128_S2x8x2x8192x8192_4_4_3_3_012_012 none (transpose S2x8x2x8192x128 [0, 2, 3, 1, 4] (shapeCast _ (mulf x0 (broadcastInDim S2x8192x2048 ![] bcast_S_S2x8192x2048 (constant S_ .f32 0x3DB504F3#32))) shapeCasts_S2x8192x2048_S2x8192x8x2x128) transposes_S2x8192x8x2x128_S2x8x2x8192x128_0_2_3_1_4) (transpose S2x8x2x8192x128 [0, 2, 3, 1, 4] (shapeCast _ x1 shapeCasts_S2x8192x2048_S2x8192x8x2x128) transposes_S2x8192x8x2x128_S2x8x2x8192x128_0_2_3_1_4)) (broadcastInDim S2x8x2x8192x8192 ![] bcast_S_S2x8x2x8192x8192 (id (constant S_ .f32 0xFF800000#32)))

/-- The exponentials of the scores less their row's maximum. -/
def rE : FVec Ideal S2x8x2x8192x8192 .f32 :=
  Host.exp (subf (rS x0 x1) (broadcastInDim S2x8x2x8192x8192 ![0, 1, 2, 3, 4] bcast_S2x8x2x8192x1_S2x8x2x8192x8192_0_1_2_3_4 (broadcastInDim S2x8x2x8192x1 ![0, 1, 2, 3] bcast_S2x8x2x8192_S2x8x2x8192x1_0_1_2_3 (maximumf (broadcastInDim S2x8x2x8192 ![] bcast_S_S2x8x2x8192 (constant S_ .f32 0xFF800000#32)) (Host.reduce FloatOps.maximumf (rS x0 x1) (constant S_ .f32 0xFF800000#32) reducesTo_S2x8x2x8192x8192_S2x8x2x8192_d4 h_S_)))))

/-- The softmaxes. -/
def rP : FVec Ideal S2x8x2x8192x8192 .f32 :=
  Host.divf (rE x0 x1) (broadcastInDim S2x8x2x8192x8192 ![0, 1, 2, 3, 4] bcast_S2x8x2x8192x1_S2x8x2x8192x8192_0_1_2_3_4 (broadcastInDim S2x8x2x8192x1 ![0, 1, 2, 3] bcast_S2x8x2x8192_S2x8x2x8192x1_0_1_2_3 (Host.reduceAdd (rE x0 x1) (constant S_ .f32 0x00000000#32) reducesTo_S2x8x2x8192x8192_S2x8x2x8192_d4 h_S_)))

/-- The weight of the second map. -/
def rL : FVec Ideal S_ .f32 :=
  addf (subf (Host.exp (Host.reduceAdd (mulf (shapeCast _ (extractStridedSlice S1x128 ![0, 0] x4 slices_S4x128_S1x128_0_0) shapeCasts_S1x128_S128) (shapeCast _ (extractStridedSlice S1x128 ![1, 0] x4 slices_S4x128_S1x128_1_0) shapeCasts_S1x128_S128)) (constant S_ .f32 0x00000000#32) reducesTo_S128_S_d0 h_S_)) (Host.exp (Host.reduceAdd (mulf (shapeCast _ (extractStridedSlice S1x128 ![2, 0] x4 slices_S4x128_S1x128_2_0) shapeCasts_S1x128_S128) (shapeCast _ (extractStridedSlice S1x128 ![3, 0] x4 slices_S4x128_S1x128_3_0) shapeCasts_S1x128_S128)) (constant S_ .f32 0x00000000#32) reducesTo_S128_S_d0 h_S_))) (constant S_ .f32 0x3E4CCCCD#32)

/-- The difference of the maps applied to the values. -/
def rO : FVec Ideal S2x8192x8x256 .f32 :=
  transpose S2x8192x8x256 [0, 2, 1, 3] (Host.dotGeneral dot_S2x8x8192x8192_S2x8x8192x256_S2x8x8192x256_3_2_2_3_01_01 none (subf (shapeCast _ (extractStridedSlice S2x8x1x8192x8192 ![0, 0, 0, 0, 0] (rP x0 x1) slices_S2x8x2x8192x8192_S2x8x1x8192x8192_0_0_0_0_0) shapeCasts_S2x8x1x8192x8192_S2x8x8192x8192) (mulf (broadcastInDim S2x8x8192x8192 ![] bcast_S_S2x8x8192x8192 (rL x4)) (shapeCast _ (extractStridedSlice S2x8x1x8192x8192 ![0, 0, 1, 0, 0] (rP x0 x1) slices_S2x8x2x8192x8192_S2x8x1x8192x8192_0_0_1_0_0) shapeCasts_S2x8x1x8192x8192_S2x8x8192x8192))) (transpose S2x8x8192x256 [0, 2, 1, 3] (shapeCast _ x2 shapeCasts_S2x8192x2048_S2x8192x8x256) transposes_S2x8192x8x256_S2x8x8192x256_0_2_1_3)) transposes_S2x8x8192x256_S2x8192x8x256_0_2_1_3

/-- The ones of the gate's logistic function. -/
def r1 : FVec Ideal S2x8192x2048 .f32 :=
  broadcastInDim S2x8192x2048 ![] bcast_S_S2x8192x2048 (constant S_ .f32 0x3F800000#32)

/-- The result. -/
def rR : FVec Ideal S2x8192x2048 .bf16 :=
  truncf .bf16 (mulf (shapeCast _ (mulf (mulf (mulf (rO x0 x1 x2 x4) (broadcastInDim S2x8192x8x256 ![0, 1, 2, 3] bcast_S2x8192x8x1_S2x8192x8x256_0_1_2_3 (Host.rsqrt (addf (Host.divf (broadcastInDim S2x8192x8x1 ![0, 1, 2] bcast_S2x8192x8_S2x8192x8x1_0_1_2 (Host.reduceAdd (mulf (rO x0 x1 x2 x4) (rO x0 x1 x2 x4)) (constant S_ .f32 0x00000000#32) reducesTo_S2x8192x8x256_S2x8192x8_d3 h_S_)) (broadcastInDim S2x8192x8x1 ![] bcast_S_S2x8192x8x1 (constant S_ .f32 0x43800000#32))) (broadcastInDim S2x8192x8x1 ![] bcast_S_S2x8192x8x1 (constant S_ .f32 0x358637BD#32)))))) (broadcastInDim S2x8192x8x256 ![0, 1, 2, 3] bcast_S1x1x1x256_S2x8192x8x256_0_1_2_3 (broadcastInDim S1x1x1x256 ![3] bcast_S256_S1x1x1x256_3 x5))) (broadcastInDim S2x8192x8x256 ![] bcast_S_S2x8192x8x256 (constant S_ .f32 0x3F4CCCCD#32))) shapeCasts_S2x8192x8x256_S2x8192x2048) (mulf x3 (Host.divf (r1 ) (addf (r1 ) (Host.exp (Host.negf x3)))))) bitsLt_bf16_f32

theorem res_eq (m : (ℓ : Loc nD τ sig) → Buf (Elt Ideal) ℓ) (c : Dev nD) :
    Cert.ReferenceIdeal.Value.res_main_v70 m c = rR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

end Cert.Proof.ReferenceIdeal
end
-- ==== Proof.VMath.lean ====
module

public import Idealize.ShloMosaic.PureOps.Ideal
public import Idealize.ShloMosaic.PureOps.IdealRules
public import Mathlib.Analysis.SpecialFunctions.Pow.Real

@[expose] public section

noncomputable section

/-! ## The softmax over extended reals, in one pass and by blocks -/

namespace Cert.Proof

open Idealize.ShloMosaic

theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem exp2_coe (r : ℝ) : Ideal.exp2 (r : EReal) = (((2 : ℝ) ^ r : ℝ) : EReal) := rfl
theorem exp2_bot : Ideal.exp2 ⊥ = 0 := rfl
theorem exp_coe (r : ℝ) : Ideal.exp (r : EReal) = ((Real.exp r : ℝ) : EReal) := rfl
theorem exp_bot : Ideal.exp ⊥ = 0 := rfl

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem real_of (x : EReal) (h : max x (-x) < ⊤) : ∃ r : ℝ, x = r := by
  induction x with
  | bot => simp at h
  | top => simp at h
  | coe r => exact ⟨r, rfl⟩

/-- The maximum of scores, one at least of which is kept, is real. -/
theorem max_real {κ : Type} [Fintype κ] (m : EReal) (hm : m ≠ ⊤) (keep : κ → Prop) [DecidablePred keep] (x : κ → ℝ) (k0 : κ) (hk0 : keep k0)
    (s : κ → EReal) (hs : ∀ k, s k = if keep k then (x k : EReal) else ⊥) :
    ∃ M : ℝ, max m (Finset.fold max ⊥ s Finset.univ) = M := by
  have hf : Finset.fold max ⊥ s Finset.univ = Finset.univ.sup s := rfl
  rw [hf]
  have h1 : max m (Finset.univ.sup s) ≠ ⊤ := by
    have h : Finset.univ.sup s < ⊤ := by
      rw [Finset.sup_lt_iff (by exact bot_lt_top)]
      intro k _
      rw [hs k]
      split
      · exact EReal.coe_lt_top _
      · exact bot_lt_top
    exact ne_of_lt (max_lt (lt_top_iff_ne_top.mpr hm) h)
  have h2 : max m (Finset.univ.sup s) ≠ ⊥ := by
    have h : (x k0 : EReal) ≤ max m (Finset.univ.sup s) := by
      refine le_trans ?_ (le_max_right _ _)
      have := Finset.le_sup (f := s) (Finset.mem_univ k0)
      rwa [hs k0, if_pos hk0] at this
    exact ne_of_gt (lt_of_lt_of_le (EReal.bot_lt_coe _) h)
  exact ⟨_, (EReal.coe_toReal h1 h2).symm⟩

/-- The running maximum `m` and the sums `acc` against it, of weights whose sums are `W`. -/
def Lane {ι : Type} (m : EReal) (acc : ι → EReal) (W : ι → ℝ) : Prop :=
  (m = ⊥ ∧ ∀ n, acc n = 0 ∧ W n = 0) ∨ ∃ M : ℝ, m = M ∧ ∀ n, acc n = ((W n * 2 ^ (-M) : ℝ) : EReal)

theorem Lane.step {ι : Type} {m : EReal} {acc : ι → EReal} {W : ι → ℝ} (h : Lane m acc W) {κ : Type} [Fintype κ] (keep : κ → Prop)
    [DecidablePred keep] (x : κ → ℝ) (v : ι → κ → ℝ) (k0 : κ) (hk0 : keep k0) (s : κ → EReal)
    (hs : ∀ k, s k = if keep k then (x k : EReal) else ⊥) (m' : EReal) (hm' : m' = max m (Finset.fold max ⊥ s Finset.univ))
    (acc' : ι → EReal) (ha : ∀ n, acc' n = acc n * Ideal.exp2 (m - m') + ∑ k, (v n k : EReal) * Ideal.exp2 (s k - m')) :
    ∃ M : ℝ, m' = M ∧ ∀ n, acc' n = (((W n + ∑ k, if keep k then (2 : ℝ) ^ x k * v n k else 0) * 2 ^ (-M) : ℝ) : EReal) := by
  have hmt : m ≠ ⊤ := by
    rcases h with ⟨h, -⟩ | ⟨M, h, -⟩
    · rw [h]; exact bot_ne_top
    · rw [h]; exact EReal.coe_ne_top _
  obtain ⟨M, hM⟩ := max_real m hmt keep x k0 hk0 s hs
  rw [hM] at hm'
  subst hm'
  refine ⟨M, rfl, fun n => ?_⟩
  have two : (0 : ℝ) < 2 := by norm_num
  have e1 : acc n * Ideal.exp2 (m - M) = ((W n * 2 ^ (-M) : ℝ) : EReal) := by
    rcases h with ⟨-, h⟩ | ⟨N, h, h'⟩
    · rw [(h n).1, (h n).2, zero_mul, zero_mul, EReal.coe_zero]
    · rw [h, h' n, ← EReal.coe_sub, exp2_coe, ← EReal.coe_mul, mul_assoc, ← Real.rpow_add two]
      congr 3; ring
  have e2 : ∀ k, (v n k : EReal) * Ideal.exp2 (s k - M) = (((if keep k then (2 : ℝ) ^ x k * v n k else 0) * 2 ^ (-M) : ℝ) : EReal) := fun k => by
    rw [hs k]
    split
    · rw [← EReal.coe_sub, exp2_coe, ← EReal.coe_mul, sub_eq_add_neg, Real.rpow_add two]
      congr 1; ring
    · rw [EReal.bot_sub, exp2_bot, mul_zero, zero_mul, EReal.coe_zero]
  rw [ha n, e1, Finset.sum_congr rfl fun k _ => e2 k, ← coe_sum, ← Finset.sum_mul, ← EReal.coe_add, add_mul]

/-- The softmax in one pass, an entry that is not kept weighing nothing. -/
theorem softmax_real {κ : Type} [Fintype κ] (keep : κ → Prop) [DecidablePred keep] (x : κ → ℝ) (k0 : κ) (hk0 : keep k0)
    (s : κ → EReal) (hs : ∀ k, s k = if keep k then (x k : EReal) else ⊥) (k : κ) :
    Ideal.div (Ideal.exp (s k - max ⊥ (Finset.fold max ⊥ s Finset.univ)))
        (∑ j, Ideal.exp (s j - max ⊥ (Finset.fold max ⊥ s Finset.univ)))
      = (((if keep k then Real.exp (x k) else 0) / ∑ j, if keep j then Real.exp (x j) else 0 : ℝ) : EReal) := by
  obtain ⟨M, hM⟩ := max_real ⊥ bot_ne_top keep x k0 hk0 s hs
  rw [hM]
  have e : ∀ j, Ideal.exp (s j - M) = (((if keep j then Real.exp (x j) else 0) * Real.exp (-M) : ℝ) : EReal) := fun j => by
    rw [hs j]
    split
    · rw [← EReal.coe_sub, exp_coe, sub_eq_add_neg, Real.exp_add]
    · rw [EReal.bot_sub, exp_bot, zero_mul, EReal.coe_zero]
  rw [e k, Finset.sum_congr rfl fun j _ => e j, ← coe_sum, ← Finset.sum_mul]
  have hpos : 0 < ∑ j, if keep j then Real.exp (x j) else 0 := by
    refine Finset.sum_pos' (fun j _ => by split <;> positivity) ⟨k0, Finset.mem_univ _, ?_⟩
    rw [if_pos hk0]; positivity
  rw [div_coe _ _ (by positivity)]
  rw [mul_div_mul_right _ _ (Real.exp_pos _).ne']

end Cert.Proof

end
-- ==== Proof.VLane.lean ====
module

public import proofs.«01_k».proof.Proof.VMath
public import proofs.«01_k».proof.Proof.VPay

@[expose] public section

set_option maxRecDepth 16384

noncomputable section

/-! ## The running softmax of the kernel, over reals -/

namespace Cert.Proof.KernelIdeal

open Cert.KernelIdeal Cert.KernelIdeal.Gen
open Idealize.ShloMosaic Idealize.ShloMosaic.TcCoe

theorem sum_upto (N r : ℕ) (h : r < N) (g : ℕ → ℝ) : (∑ k : Fin N, if k.val ≤ r then g k.val else 0) = ∑ i ∈ Finset.range (r + 1), g i := by
  rw [← Finset.sum_range (fun i => if i ≤ r then g i else 0), ← Finset.sum_filter]
  refine Finset.sum_congr (Finset.ext fun i => ?_) fun _ _ => rfl
  simp only [Finset.mem_filter, Finset.mem_range]
  omega

section
variable (s : ℕ → Sc Ideal) (v : ℕ → Vec Ideal S1x272x512 .bf16) (a : ℕ) (ha : a < 16) (y : Fin 512) (x : ℕ → ℝ) (w : Fin 272 → ℕ → ℝ)
  (hs : ∀ j < 16, ∀ k : Fin 512, s j (ix4 0 0 k y) = (x (512 * j + k.val) : EReal))
  (hv : ∀ j < 16, ∀ (n : Fin 272) (k : Fin 512), v j (ix3 0 n k) = (w n (512 * j + k.val) : EReal))

include ha hs hv

theorem run_lane (j : ℕ) (hj : j ≤ a) : Lane ((run s v X0 j).1 (ix2 0 y)) (fun n => (run s v X0 j).2 (ix3 0 n y))
    (fun n => ∑ i ∈ Finset.range (512 * j), (2 : ℝ) ^ x i * w n i) := by
  induction j with
  | zero =>
    refine Or.inl ⟨?_, fun n => ⟨?_, by simp⟩⟩
    · show k0_pay99 (F := Ideal) (ix2 0 y) = ⊥
      pointwise [k0_pay99]
      exact IdealRules.named_const.ideal_named_scalar κ "mask" _ ⊥ rfl
    · show Z0 (F := Ideal) (ix3 0 n y) = 0
      pointwise [Z0]
  | succ j ih =>
    obtain ⟨M, h1, h2⟩ := (ih (by omega)).step (fun _ : Fin 512 => True) (fun k => x (512 * j + k.val)) (fun n k => w n (512 * j + k.val)) 0 trivial
      (fun k => s j (ix4 0 0 k y)) (fun k => by rw [if_pos trivial]; exact hs j (by omega) k)
      ((run s v X0 (j + 1)).1 (ix2 0 y)) (pay37_apply _ _ y) (fun n => (run s v X0 (j + 1)).2 (ix3 0 n y)) (fun n => by
        refine (pay40_apply _ _ _ _ _ n y).trans (congrArg (_ + ·) (Finset.sum_congr rfl fun k _ => ?_))
        rw [hv j (by omega), wt_apply]
        rfl)
    refine Or.inr ⟨M, h1, fun n => ?_⟩
    refine (h2 n).trans ?_
    show _ = (((∑ i ∈ Finset.range (512 * (j + 1)), (2 : ℝ) ^ x i * w n i) * 2 ^ (-M) : ℝ) : EReal)
    rw [show 512 * (j + 1) = 512 * j + 512 by ring, Finset.sum_range_add, Finset.sum_range (fun i => (2 : ℝ) ^ x (512 * j + i) * w n (512 * j + i))]
    simp only [if_true]

/-- The accumulator after the diagonal block. -/
theorem fin_real : ∃ M : ℝ, ∀ n, (fin s v a).2 (ix3 0 n y)
    = (((∑ i ∈ Finset.range (512 * a + y.val + 1), (2 : ℝ) ^ x i * w n i) * 2 ^ (-M) : ℝ) : EReal) := by
  obtain ⟨M, -, h2⟩ := (run_lane s v a ha y x w hs hv a le_rfl).step (fun k : Fin 512 => k.val ≤ y.val) (fun k => x (512 * a + k.val))
      (fun n k => w n (512 * a + k.val)) y le_rfl
      (fun k => msk (F := Ideal) a (s a) (ix4 0 0 k y)) (fun k => by rw [msk_apply a ha, hs a ha k])
      ((fin s v a).1 (ix2 0 y)) (pay37_apply _ _ y) (fun n => (fin s v a).2 (ix3 0 n y)) (fun n => by
        refine (pay40_apply _ _ _ _ _ n y).trans (congrArg (_ + ·) (Finset.sum_congr rfl fun k _ => ?_))
        rw [hv a ha, wt_apply]
        rfl)
  refine ⟨M, fun n => ?_⟩
  rw [h2 n, sum_upto 512 y.val y.isLt (fun i => (2 : ℝ) ^ x (512 * a + i) * w n (512 * a + i)),
    add_assoc (512 * a), ← Finset.sum_range_add]

/-- The quotient of a numerator row by the denominator row. -/
theorem quot_real (hw : ∀ i, w ⟨256, by decide⟩ i = 1) (n : Fin 256) :
    num (fin s v a).2 (ix3 0 n y) * Ideal.div 1 (den (fin s v a).2 (ix3 0 0 y))
      = (((∑ i ∈ Finset.range (512 * a + y.val + 1), (2 : ℝ) ^ x i * w ⟨n.val, by omega⟩ i)
          / ∑ i ∈ Finset.range (512 * a + y.val + 1), (2 : ℝ) ^ x i : ℝ) : EReal) := by
  obtain ⟨M, h⟩ := fin_real s v a ha y x w hs hv
  have e1 : num (fin s v a).2 (ix3 0 n y) = (fin s v a).2 (ix3 0 ⟨n.val, by omega⟩ y) := by
    unfold num; rw [ix3_eq_valueIdx, ix3_eq_valueIdx]
  have e2 : den (fin s v a).2 (ix3 0 0 y) = (fin s v a).2 (ix3 0 ⟨256, by decide⟩ y) := by
    unfold den; rw [ix3_eq_valueIdx, ix3_eq_valueIdx]
  have hp : 0 < ∑ i ∈ Finset.range (512 * a + y.val + 1), (2 : ℝ) ^ x i :=
    Finset.sum_pos (fun i _ => Real.rpow_pos_of_pos (by norm_num) _) ⟨0, by simp⟩
  have hM : 0 < (2 : ℝ) ^ (-M) := Real.rpow_pos_of_pos (by norm_num) _
  rw [e1, e2, h, h, ← EReal.coe_one]
  simp only [hw, mul_one]
  rw [div_coe _ _ (by positivity), ← EReal.coe_mul]
  congr 1
  field_simp

end

end Cert.Proof.KernelIdeal
end
-- ==== Proof.VKer.lean ====
module

public import proofs.«01_k».proof.Proof.VLane

@[expose] public section

set_option maxRecDepth 16384

noncomputable section

/-! ## One head's output block, over reals -/

namespace Cert.Proof.KernelIdeal

open Cert.KernelIdeal Cert.KernelIdeal.Gen
open Idealize.ShloMosaic Idealize.ShloMosaic.TcCoe

/-- The score of query row `r` with key row `i`, of the columns from `o` on. -/
def xs (K Q : ℕ → ℕ → ℝ) (o r i : ℕ) : ℝ := ∑ d : Fin 128, K i (o + d.val) * Q r (o + d.val)

/-- The softmax by powers of two of the scores of row `r`, applied to column `n` of the values. -/
def att (K Q W : ℕ → ℕ → ℝ) (o r n : ℕ) : ℝ :=
  (∑ i ∈ Finset.range (r + 1), (2 : ℝ) ^ xs K Q o r i * W i n) / ∑ i ∈ Finset.range (r + 1), (2 : ℝ) ^ xs K Q o r i

theorem row_val (j : ℕ) (hj : j < 16) (k : Fin 512) : (row j k).val = 512 * j + k.val := Nat.mod_eq_of_lt (by omega)

variable {x5 x6 x7 : S1x8192x256.Idx → Elt Ideal .bf16} {Q K W : ℕ → ℕ → ℝ}

theorem vblk_real (h7 : ∀ (r : Fin 8192) (n : Fin 256), x7 (ix3 0 r n) = (W r.val n.val : EReal)) (j : ℕ) (hj : j < 16) (n : Fin 272) (k : Fin 512) :
    vblk (F := Ideal) (VT x7) j (ix3 0 n k) = ((if n.val < 256 then W (512 * j + k.val) n.val else 1 : ℝ) : EReal) := by
  have e : vblk (F := Ideal) (VT x7) j (ix3 0 n k) = VT x7 (ix3 ⟨j % 16, Nat.mod_lt _ (by decide)⟩ n k) := by
    unfold vblk; rw [ix3_eq_valueIdx, ix3_eq_valueIdx]
  rw [e]
  unfold VT
  by_cases h : n.val < 256
  · refine (dif_pos (show ((ix3 (⟨j % 16, Nat.mod_lt _ (by decide)⟩ : Fin 16) n k : S16x272x512.Idx) 1).val < 256 from h)).trans ?_
    rw [if_pos h]
    refine (Eq.trans (congrArg (k0_pay2 (rblk x7 (j % 16))) (ix3_eq_valueIdx (0 : Fin 1) (⟨n.val, h⟩ : Fin 256) k).symm) (pay2_apply (rblk x7 (j % 16)) ⟨n.val, h⟩ k)).trans ?_
    rw [rblk_apply, h7, row_val _ (Nat.mod_lt _ (by decide)), Nat.mod_eq_of_lt hj]
  · refine (dif_neg (show ¬ ((ix3 (⟨j % 16, Nat.mod_lt _ (by decide)⟩ : Fin 16) n k : S16x272x512.Idx) 1).val < 256 from h)).trans ?_
    rw [if_neg h, EReal.coe_one]
    exact (Eq.trans (congrArg (k0_pay3 (F := Ideal)) (ix3_eq_valueIdx (0 : Fin 1) (⟨n.val % 16, Nat.mod_lt _ (by decide)⟩ : Fin 16) k).symm) (pay3_apply ⟨n.val % 16, Nat.mod_lt _ (by decide)⟩ k))

theorem sc0_real (h5 : ∀ (r : Fin 8192) (n : Fin 256), x5 (ix3 0 r n) = (Q r.val n.val : EReal))
    (h6 : ∀ (r : Fin 8192) (n : Fin 256), x6 (ix3 0 r n) = (K r.val n.val : EReal)) (a : ℕ) (ha : a < 16) (y : Fin 512) (j : ℕ) (hj : j < 16) (k : Fin 512) :
    sc0 (F := Ideal) (rblk x5 a) x6 j (ix4 0 0 k y) = (xs K Q 0 (512 * a + y.val) (512 * j + k.val) : EReal) := by
  rw [sc0_apply]
  unfold xs
  rw [coe_sum]
  refine Finset.sum_congr rfl fun d _ => ?_
  have hd : (col 0 d).val = 0 + d.val := Nat.mod_eq_of_lt (by omega)
  rw [rblk_apply, h6, h5, row_val j hj, row_val a ha, hd, ← EReal.coe_mul]

theorem sc1_real (h5 : ∀ (r : Fin 8192) (n : Fin 256), x5 (ix3 0 r n) = (Q r.val n.val : EReal))
    (h6 : ∀ (r : Fin 8192) (n : Fin 256), x6 (ix3 0 r n) = (K r.val n.val : EReal)) (a : ℕ) (ha : a < 16) (y : Fin 512) (j : ℕ) (hj : j < 16) (k : Fin 512) :
    sc1 (F := Ideal) (rblk x5 a) x6 j (ix4 0 0 k y) = (xs K Q 128 (512 * a + y.val) (512 * j + k.val) : EReal) := by
  rw [sc1_apply]
  unfold xs
  rw [coe_sum]
  refine Finset.sum_congr rfl fun d _ => ?_
  have hd : (col 128 d).val = 128 + d.val := Nat.mod_eq_of_lt (by omega)
  rw [rblk_apply, h6, h5, row_val j hj, row_val a ha, hd, ← EReal.coe_mul]

theorem quot_att (s : ℕ → Sc Ideal) (h7 : ∀ (r : Fin 8192) (n : Fin 256), x7 (ix3 0 r n) = (W r.val n.val : EReal)) (a : ℕ) (ha : a < 16) (y : Fin 512) (o : ℕ)
    (hs : ∀ j < 16, ∀ k : Fin 512, s j (ix4 0 0 k y) = (xs K Q o (512 * a + y.val) (512 * j + k.val) : EReal)) (n : Fin 256) :
    num (fin s (vblk (VT x7)) a).2 (ix3 0 n y) * Ideal.div 1 (den (fin s (vblk (VT x7)) a).2 (ix3 0 0 y))
      = (att K Q W o (512 * a + y.val) n.val : EReal) := by
  rw [quot_real s (vblk (VT x7)) a ha y (fun i => xs K Q o (512 * a + y.val) i) (fun n i => if n.val < 256 then W i n.val else 1) hs
    (fun j hj n k => vblk_real h7 j hj n k) (fun i => if_neg (by decide)) n]
  unfold att
  simp only [n.isLt, if_true]

theorem Out_real (lam : Vec Ideal S4x128 .f32) (sg : Vec Ideal S1x256 .f32) (g : Vec Ideal S1x512x256 .bf16) (L : ℝ) (hL : lamK lam = L)
    (h5 : ∀ (r : Fin 8192) (n : Fin 256), x5 (ix3 0 r n) = (Q r.val n.val : EReal))
    (h6 : ∀ (r : Fin 8192) (n : Fin 256), x6 (ix3 0 r n) = (K r.val n.val : EReal))
    (h7 : ∀ (r : Fin 8192) (n : Fin 256), x7 (ix3 0 r n) = (W r.val n.val : EReal)) (a : ℕ) (ha : a < 16) (y : Fin 512) (n : Fin 256) :
    Out (F := Ideal) lam sg x5 x6 x7 g a (ix3 0 y n)
      = fine (fun n => ((att K Q W 0 (512 * a + y.val) n.val - L * att K Q W 128 (512 * a + y.val) n.val : ℝ) : EReal)) (fun n => sg (ix2 0 n))
          (g (ix3 0 y n)) n := by
  unfold Out
  rw [pay1_apply]
  congr 1
  funext n
  rw [pay114_apply, pay112_apply, pay113_apply, hL, quot_att _ h7 a ha y 0 (sc0_real h5 h6 a ha y), quot_att _ h7 a ha y 128 (sc1_real h5 h6 a ha y),
    ← EReal.coe_mul, ← EReal.coe_sub]

end Cert.Proof.KernelIdeal
end
-- ==== Proof.VRef.lean ====
module

public import proofs.«01_k».proof.Proof.VRefDef
public import proofs.«01_k».proof.Proof.VKer

@[expose] public section

set_option maxRecDepth 16384

noncomputable section

/-! ## The reference's stages at an index -/

namespace Cert.Proof.ReferenceIdeal

open Cert.ReferenceIdeal Cert.ReferenceIdeal.Gen Cert.ReferenceIdeal.Facts
open Idealize.ShloMosaic Idealize.ShloMosaic.TcCoe
open Cert.Proof.KernelIdeal (neg_inf sle_ofNat sum_upto lamK fine)

theorem rS_apply (x0 x1 : FVec Ideal S2x8192x2048 .f32) (b : Fin 2) (h : Fin 8) (p : Fin 2) (r k : Fin 8192) :
    rS x0 x1 (ix5 b h p r k) = if k.val ≤ r.val then
      ∑ d : Fin 128, x0 (ix3 b r ⟨h.val * 256 + p.val * 128 + d.val, by omega⟩) * Ideal.ofBits .f32 0x3DB504F3#32
        * x1 (ix3 b k ⟨h.val * 256 + p.val * 128 + d.val, by omega⟩) else ⊥ := by
  pointwise [rS]
  rw [sle_ofNat _ _ (by omega) (by omega)]
  have e : (id (constant (F := Ideal) S_ .f32 0xFF800000#32) : FVec Ideal S_ .f32) ix0 = ⊥ := neg_inf
  by_cases hk : k.val ≤ r.val
  · simp [hk, Scalar.select]
  · simp only [hk, Scalar.select, decide_false, if_false]
    exact e

theorem max_apply (y : FVec Ideal S2x8x2x8192x8192 .f32) (b : Fin 2) (h : Fin 8) (p : Fin 2) (r : Fin 8192) :
    Host.reduce FloatOps.maximumf y (constant (F := Ideal) S_ .f32 0xFF800000#32) reducesTo_S2x8x2x8192x8192_S2x8x2x8192_d4 h_S_ (ix4 b h p r)
      = Finset.fold max ⊥ (fun k : Fin 8192 => y (ix5 b h p r k)) Finset.univ := by
  have hr : S2x8x2x8192x8192.Reduces [4] S2x8x2x8192 := by decide
  rw [Host.reduce_eq_fold_single FloatOps.maximumf y _ reducesTo_S2x8x2x8192x8192_S2x8x2x8192_d4 hr h_S_, ← neg_inf]
  refine congrArg (fun f => Finset.fold max (Ideal.ofBits .f32 0xFF800000#32) f (Finset.univ : Finset (Fin 8192))) (funext fun k => ?_)
  refine congrArg y (funext fun c => Fin.ext ?_)
  fin_cases c <;> rfl

theorem exp_apply (y : FVec Ideal S2x8x2x8192x8192 .f32) (z : FVec Ideal S2x8x2x8192 .f32) (b : Fin 2) (h : Fin 8) (p : Fin 2) (r k : Fin 8192) :
    (Host.exp (subf y (broadcastInDim S2x8x2x8192x8192 ![0, 1, 2, 3, 4] bcast_S2x8x2x8192x1_S2x8x2x8192x8192_0_1_2_3_4 (broadcastInDim S2x8x2x8192x1 ![0, 1, 2, 3] bcast_S2x8x2x8192_S2x8x2x8192x1_0_1_2_3 (maximumf (broadcastInDim S2x8x2x8192 ![] bcast_S_S2x8x2x8192 (constant S_ .f32 0xFF800000#32)) z)))) : FVec Ideal S2x8x2x8192x8192 .f32) (ix5 b h p r k)
      = Ideal.exp (y (ix5 b h p r k) - max ⊥ (z (ix4 b h p r))) := by
  pointwise [neg_inf]

theorem rE_apply (x0 x1 : FVec Ideal S2x8192x2048 .f32) (b : Fin 2) (h : Fin 8) (p : Fin 2) (r k : Fin 8192) :
    rE x0 x1 (ix5 b h p r k) = Ideal.exp (rS x0 x1 (ix5 b h p r k) - max ⊥ (Finset.fold max ⊥ (fun k : Fin 8192 => rS x0 x1 (ix5 b h p r k)) Finset.univ)) := by
  unfold rE
  rw [exp_apply, max_apply]

theorem rP_apply (x0 x1 : FVec Ideal S2x8192x2048 .f32) (b : Fin 2) (h : Fin 8) (p : Fin 2) (r k : Fin 8192) :
    rP x0 x1 (ix5 b h p r k) = Ideal.div (rE x0 x1 (ix5 b h p r k)) (∑ j : Fin 8192, rE x0 x1 (ix5 b h p r j)) := by
  pointwise [rP]

theorem rL_apply (x4 : FVec Ideal S4x128 .f32) : rL x4 ix0 = lamK x4 := by
  unfold lamK
  pointwise [rL]

theorem map0_apply (y : FVec Ideal S2x8x2x8192x8192 .f32) (b : Fin 2) (h : Fin 8) (r k : Fin 8192) :
    (shapeCast _ (extractStridedSlice S2x8x1x8192x8192 ![0, 0, 0, 0, 0] y slices_S2x8x2x8192x8192_S2x8x1x8192x8192_0_0_0_0_0) shapeCasts_S2x8x1x8192x8192_S2x8x8192x8192 : FVec Ideal S2x8x8192x8192 .f32) (ix4 b h r k)
      = y (ix5 b h 0 r k) := by
  pointwise []

theorem map1_apply (y : FVec Ideal S2x8x2x8192x8192 .f32) (b : Fin 2) (h : Fin 8) (r k : Fin 8192) :
    (shapeCast _ (extractStridedSlice S2x8x1x8192x8192 ![0, 0, 1, 0, 0] y slices_S2x8x2x8192x8192_S2x8x1x8192x8192_0_0_1_0_0) shapeCasts_S2x8x1x8192x8192_S2x8x8192x8192 : FVec Ideal S2x8x8192x8192 .f32) (ix4 b h r k)
      = y (ix5 b h 1 r k) := by
  pointwise []

theorem diff_apply (l : FVec Ideal S_ .f32) (A B : FVec Ideal S2x8x8192x8192 .f32) (b : Fin 2) (h : Fin 8) (r k : Fin 8192) :
    (subf A (mulf (broadcastInDim S2x8x8192x8192 ![] bcast_S_S2x8x8192x8192 l) B) : FVec Ideal S2x8x8192x8192 .f32) (ix4 b h r k)
      = A (ix4 b h r k) - l ix0 * B (ix4 b h r k) := by
  pointwise []

theorem dot_apply (D : FVec Ideal S2x8x8192x8192 .f32) (x2 : FVec Ideal S2x8192x2048 .f32) (b : Fin 2) (r : Fin 8192) (h : Fin 8) (n : Fin 256) :
    (transpose S2x8192x8x256 [0, 2, 1, 3] (Host.dotGeneral dot_S2x8x8192x8192_S2x8x8192x256_S2x8x8192x256_3_2_2_3_01_01 none D (transpose S2x8x8192x256 [0, 2, 1, 3] (shapeCast _ x2 shapeCasts_S2x8192x2048_S2x8192x8x256) transposes_S2x8192x8x256_S2x8x8192x256_0_2_1_3)) transposes_S2x8x8192x256_S2x8192x8x256_0_2_1_3 : FVec Ideal S2x8192x8x256 .f32) (ix4 b r h n)
      = ∑ k : Fin 8192, D (ix4 b h r k) * x2 (ix3 b k ⟨h.val * 256 + n.val, by omega⟩) := by
  pointwise []

theorem rO_apply (x0 x1 x2 : FVec Ideal S2x8192x2048 .f32) (x4 : FVec Ideal S4x128 .f32) (b : Fin 2) (r : Fin 8192) (h : Fin 8) (n : Fin 256) :
    rO x0 x1 x2 x4 (ix4 b r h n) = ∑ k : Fin 8192, (rP x0 x1 (ix5 b h 0 r k) - lamK x4 * rP x0 x1 (ix5 b h 1 r k)) * x2 (ix3 b k ⟨h.val * 256 + n.val, by omega⟩) := by
  unfold rO
  rw [dot_apply]
  refine Finset.sum_congr rfl fun k _ => ?_
  rw [diff_apply, map0_apply, map1_apply, rL_apply]

theorem gate_apply (O : FVec Ideal S2x8192x8x256 .f32) (x3 : FVec Ideal S2x8192x2048 .f32) (x5 : FVec Ideal S256 .f32) (b : Fin 2) (r : Fin 8192) (c : Fin 2048) :
    (truncf .bf16 (mulf (shapeCast _ (mulf (mulf (mulf O (broadcastInDim S2x8192x8x256 ![0, 1, 2, 3] bcast_S2x8192x8x1_S2x8192x8x256_0_1_2_3 (Host.rsqrt (addf (Host.divf (broadcastInDim S2x8192x8x1 ![0, 1, 2] bcast_S2x8192x8_S2x8192x8x1_0_1_2 (Host.reduceAdd (mulf O O) (constant S_ .f32 0x00000000#32) reducesTo_S2x8192x8x256_S2x8192x8_d3 h_S_)) (broadcastInDim S2x8192x8x1 ![] bcast_S_S2x8192x8x1 (constant S_ .f32 0x43800000#32))) (broadcastInDim S2x8192x8x1 ![] bcast_S_S2x8192x8x1 (constant S_ .f32 0x358637BD#32)))))) (broadcastInDim S2x8192x8x256 ![0, 1, 2, 3] bcast_S1x1x1x256_S2x8192x8x256_0_1_2_3 (broadcastInDim S1x1x1x256 ![3] bcast_S256_S1x1x1x256_3 x5))) (broadcastInDim S2x8192x8x256 ![] bcast_S_S2x8192x8x256 (constant S_ .f32 0x3F4CCCCD#32))) shapeCasts_S2x8192x8x256_S2x8192x2048) (mulf x3 (Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf x3)))))) bitsLt_bf16_f32 : FVec Ideal S2x8192x2048 .bf16) (ix3 b r c)
      = fine (fun n => O (ix4 b r ⟨c.val / 256, by omega⟩ n)) (fun n => x5 (ix1 n)) (x3 (ix3 b r c)) ⟨c.val % 256, Nat.mod_lt _ (by decide)⟩ := by
  unfold fine Ideal.logistic
  pointwise []

theorem rR_apply (x0 x1 x2 x3 : FVec Ideal S2x8192x2048 .f32) (x4 : FVec Ideal S4x128 .f32) (x5 : FVec Ideal S256 .f32) (b : Fin 2) (r : Fin 8192) (c : Fin 2048) :
    rR x0 x1 x2 x3 x4 x5 (ix3 b r c)
      = fine (fun n => rO x0 x1 x2 x4 (ix4 b r ⟨c.val / 256, by omega⟩ n)) (fun n => x5 (ix1 n)) (x3 (ix3 b r c)) ⟨c.val % 256, Nat.mod_lt _ (by decide)⟩ := by
  unfold rR r1
  exact gate_apply (rO x0 x1 x2 x4) x3 x5 b r c

end Cert.Proof.ReferenceIdeal
end
-- ==== Proof.VRefReal.lean ====
module

public import proofs.«01_k».proof.Proof.VRef

@[expose] public section

set_option maxRecDepth 16384

noncomputable section

/-! ## The reference over reals -/

namespace Cert.Proof.ReferenceIdeal

open Cert.ReferenceIdeal Cert.ReferenceIdeal.Gen Cert.ReferenceIdeal.Facts
open Idealize.ShloMosaic Idealize.ShloMosaic.TcCoe
open Cert.Proof.KernelIdeal (neg_inf sle_ofNat sum_upto lamK fine xs att)

/-- The score of query row `r` with key row `i`, of the columns from `o` on. -/
def xr (sc : ℝ) (K Q : ℕ → ℕ → ℝ) (o r i : ℕ) : ℝ := ∑ d : Fin 128, Q r (o + d.val) * sc * K i (o + d.val)

/-- The softmax of the scores of row `r` applied to column `n` of the values. -/
def attE (sc : ℝ) (K Q W : ℕ → ℕ → ℝ) (o r n : ℕ) : ℝ :=
  (∑ i ∈ Finset.range (r + 1), Real.exp (xr sc K Q o r i) * W i n) / ∑ i ∈ Finset.range (r + 1), Real.exp (xr sc K Q o r i)

/-- Powers of two of scores divided by `log 2` weigh as exponentials of the scores. -/
theorem att_eq (sc : ℝ) (K Q Q' W : ℕ → ℕ → ℝ) (hQ : ∀ r c, Q' r c = Q r c * sc / Real.log 2) (o r n : ℕ) :
    att K Q' W o r n = attE sc K Q W o r n := by
  have hl : Real.log 2 ≠ 0 := (Real.log_pos (by norm_num)).ne'
  have e : ∀ i, (2 : ℝ) ^ xs K Q' o r i = Real.exp (xr sc K Q o r i) := fun i => by
    rw [Real.rpow_def_of_pos (by norm_num)]
    congr 1
    unfold xs xr
    rw [Finset.mul_sum]
    refine Finset.sum_congr rfl fun d _ => ?_
    rw [hQ]
    field_simp
  unfold att attE
  simp only [e]

variable {x0 x1 x2 : FVec Ideal S2x8192x2048 .f32} {b : Fin 2} {h : Fin 8} {Q K W : ℕ → ℕ → ℝ} {sc : ℝ}

theorem rP_real (hsc : Ideal.ofBits .f32 0x3DB504F3#32 = (sc : EReal))
    (h0 : ∀ (r : Fin 8192) (n : Fin 256), x0 (ix3 b r ⟨h.val * 256 + n.val, by omega⟩) = (Q r.val n.val : EReal))
    (h1 : ∀ (r : Fin 8192) (n : Fin 256), x1 (ix3 b r ⟨h.val * 256 + n.val, by omega⟩) = (K r.val n.val : EReal))
    (p : Fin 2) (r k : Fin 8192) :
    rP x0 x1 (ix5 b h p r k) = (((if k.val ≤ r.val then Real.exp (xr sc K Q (p.val * 128) r.val k.val) else 0)
      / ∑ i ∈ Finset.range (r.val + 1), Real.exp (xr sc K Q (p.val * 128) r.val i) : ℝ) : EReal) := by
  have hs : ∀ k : Fin 8192, rS x0 x1 (ix5 b h p r k) = if k.val ≤ r.val then (xr sc K Q (p.val * 128) r.val k.val : EReal) else ⊥ := fun k => by
    rw [rS_apply]
    refine if_congr Iff.rfl ?_ rfl
    unfold xr
    rw [coe_sum]
    refine Finset.sum_congr rfl fun d _ => ?_
    have e : ∀ (x : FVec Ideal S2x8192x2048 .f32) (r : Fin 8192), x (ix3 b r ⟨h.val * 256 + p.val * 128 + d.val, by omega⟩)
        = x (ix3 b r ⟨h.val * 256 + (⟨p.val * 128 + d.val, by omega⟩ : Fin 256).val, by have := h.isLt; have := p.isLt; have := d.isLt; show _ + (_ + _) < _; omega⟩) := fun x r =>
      congrArg (fun c => x (ix3 b r c)) (Fin.ext (add_assoc _ _ _))
    rw [e x0, e x1, h0, h1, hsc, ← EReal.coe_mul, ← EReal.coe_mul]
  rw [rP_apply]
  simp only [rE_apply]
  rw [softmax_real (fun k : Fin 8192 => k.val ≤ r.val) (fun k => xr sc K Q (p.val * 128) r.val k.val) r le_rfl
    (fun k => rS x0 x1 (ix5 b h p r k)) hs k, sum_upto 8192 r.val r.isLt (fun i => Real.exp (xr sc K Q (p.val * 128) r.val i))]

theorem rO_real (x4 : FVec Ideal S4x128 .f32) (L : ℝ) (hL : lamK x4 = L) (hsc : Ideal.ofBits .f32 0x3DB504F3#32 = (sc : EReal))
    (h0 : ∀ (r : Fin 8192) (n : Fin 256), x0 (ix3 b r ⟨h.val * 256 + n.val, by omega⟩) = (Q r.val n.val : EReal))
    (h1 : ∀ (r : Fin 8192) (n : Fin 256), x1 (ix3 b r ⟨h.val * 256 + n.val, by omega⟩) = (K r.val n.val : EReal))
    (h2 : ∀ (r : Fin 8192) (n : Fin 256), x2 (ix3 b r ⟨h.val * 256 + n.val, by omega⟩) = (W r.val n.val : EReal))
    (r : Fin 8192) (n : Fin 256) :
    rO x0 x1 x2 x4 (ix4 b r h n) = ((attE sc K Q W 0 r.val n.val - L * attE sc K Q W 128 r.val n.val : ℝ) : EReal) := by
  rw [rO_apply]
  simp only [rP_real hsc h0 h1, h2, hL, ← EReal.coe_mul, ← EReal.coe_sub]
  rw [← coe_sum]
  congr 1
  have e : ∀ o : ℕ, attE sc K Q W o r.val n.val = ∑ k : Fin 8192, (if k.val ≤ r.val then Real.exp (xr sc K Q o r.val k.val) else 0)
      / (∑ i ∈ Finset.range (r.val + 1), Real.exp (xr sc K Q o r.val i)) * W k.val n.val := fun o => by
    unfold attE
    rw [← sum_upto 8192 r.val r.isLt (fun i => Real.exp (xr sc K Q o r.val i) * W i n.val), Finset.sum_div]
    refine Finset.sum_congr rfl fun k _ => ?_
    split <;> ring
  rw [e 0, e 128, Finset.mul_sum, ← Finset.sum_sub_distrib]
  refine Finset.sum_congr rfl fun k _ => ?_
  show (_ - L * _) * _ = _
  simp only [Fin.val_zero, Fin.val_one, zero_mul, one_mul]
  ring

end Cert.Proof.ReferenceIdeal
end
-- ==== Proof.VOut.lean ====
module

public import proofs.«01_k».proof.Proof.Run
public import proofs.«01_k».proof.Proof.VArr
public import proofs.«01_k».proof.Proof.VRefReal

@[expose] public section

set_option maxRecDepth 16384

noncomputable section

/-! ## The launch's blocks at an index -/

namespace Cert.Proof.KernelIdeal

open Cert.KernelIdeal Cert.KernelIdeal.Gen
open Idealize.ShloMosaic Idealize.ShloMosaic.TcCoe Idealize.SL.Sem

theorem tr0_eq (i : grid0.Coords) : cc0_transform_0 i = ![0, 0] := rfl
theorem tr1_eq (i : grid0.Coords) : cc0_transform_1 i = ![0, 0] := rfl
theorem tr5_eq (i : grid0.Coords) : cc0_transform_5 i = ![(i 0).val, (i 2).val, 24 + (i 1).val] := by
  show ![(BitVec.ofNat 32 (i 0).val).toNat, (BitVec.ofNat 32 (i 2).val).toNat, (Scalar.addi 24#32 (BitVec.ofNat 32 (i 1).val)).toNat] = _
  rw [ofNat_2 (i 0), ofNat_16 (i 2), add24_8 (i 1)]
theorem tr6_eq (i : grid0.Coords) : cc0_transform_6 i = ![(i 0).val, (i 2).val, (i 1).val] := by
  show ![(BitVec.ofNat 32 (i 0).val).toNat, (BitVec.ofNat 32 (i 2).val).toNat, (BitVec.ofNat 32 (i 1).val).toNat] = _
  rw [ofNat_2 (i 0), ofNat_16 (i 2), ofNat_8 (i 1)]

theorem blk0_eq (t : Fin cfg0.N) (X : S4x128.Idx → Elt Ideal .f32) : ((cfg0.win 0).blk t).view.read (Elt Ideal) X = X := by
  funext y
  show X ((win0_0.rect t).emb y) = _
  refine congrArg X (funext fun a => ?_)
  fin_cases a
  · apply Fin.ext
    refine (Pipeline.Window.rect_emb_val win0_0 t y 0).trans ?_
    show 0 * 4 + (y 0).val = (y 0).val
    omega
  · apply Fin.ext
    refine (Pipeline.Window.rect_emb_val win0_0 t y 1).trans ?_
    show 0 * 128 + (y 1).val = (y 1).val
    omega

theorem blk1_eq (t : Fin cfg0.N) (X : S1x256.Idx → Elt Ideal .f32) : ((cfg0.win 1).blk t).view.read (Elt Ideal) X = X := by
  funext y
  show X ((win0_1.rect t).emb y) = _
  refine congrArg X (funext fun a => ?_)
  fin_cases a
  · apply Fin.ext
    refine (Pipeline.Window.rect_emb_val win0_1 t y 0).trans ?_
    show 0 * 1 + (y 0).val = (y 0).val
    omega
  · apply Fin.ext
    refine (Pipeline.Window.rect_emb_val win0_1 t y 1).trans ?_
    show 0 * 256 + (y 1).val = (y 1).val
    omega

theorem blk5_eq (t : Fin cfg0.N) (X : S2x8192x8192.Idx → Elt Ideal .bf16) (b : Fin 2) (h : Fin 8) (a : Fin 16)
    (hb : (grid0.coords t 0).val = b.val) (hh : (grid0.coords t 1).val = h.val) (ha : (grid0.coords t 2).val = a.val) (y : Fin 512) (n : Fin 256) :
    ((cfg0.win 5).blk t).view.read (Elt Ideal) X (ix3 0 y n)
      = X (ix3 b ⟨512 * a.val + y.val, by omega⟩ ⟨6144 + (⟨h.val * 256 + n.val, by omega⟩ : Fin 2048).val, by show 6144 + (h.val * 256 + n.val) < _; omega⟩) := by
  show X ((win0_5.rect t).emb _) = _
  refine congrArg X (funext fun k => ?_)
  fin_cases k
  · apply Fin.ext
    refine (Pipeline.Window.rect_emb_val win0_5 t _ 0).trans ?_
    show cc0_transform_5 (grid0.coords t) 0 * 1 + 0 = b.val
    rw [tr5_eq, hb, hh, ha]
    show b.val * 1 + 0 = b.val
    omega
  · apply Fin.ext
    refine (Pipeline.Window.rect_emb_val win0_5 t _ 1).trans ?_
    show cc0_transform_5 (grid0.coords t) 1 * 512 + y.val = 512 * a.val + y.val
    rw [tr5_eq, hb, hh, ha]
    show a.val * 512 + y.val = 512 * a.val + y.val
    omega
  · apply Fin.ext
    refine (Pipeline.Window.rect_emb_val win0_5 t _ 2).trans ?_
    show cc0_transform_5 (grid0.coords t) 2 * 256 + n.val = 6144 + (h.val * 256 + n.val)
    rw [tr5_eq, hb, hh, ha]
    show (24 + h.val) * 256 + n.val = 6144 + (h.val * 256 + n.val)
    omega

theorem blk6_eq (t : Fin cfg0.N) (X : S2x8192x2048.Idx → Elt Ideal .bf16) (b : Fin 2) (h : Fin 8) (a : Fin 16)
    (hb : (grid0.coords t 0).val = b.val) (hh : (grid0.coords t 1).val = h.val) (ha : (grid0.coords t 2).val = a.val) (y : Fin 512) (n : Fin 256) :
    ((cfg0.win 6).blk t).view.read (Elt Ideal) X (ix3 0 y n)
      = X (ix3 b ⟨512 * a.val + y.val, by omega⟩ ⟨h.val * 256 + n.val, by omega⟩) := by
  show X ((win0_6.rect t).emb _) = _
  refine congrArg X (funext fun k => ?_)
  fin_cases k
  · apply Fin.ext
    refine (Pipeline.Window.rect_emb_val win0_6 t _ 0).trans ?_
    show cc0_transform_6 (grid0.coords t) 0 * 1 + 0 = b.val
    rw [tr6_eq, hb, hh, ha]
    show b.val * 1 + 0 = b.val
    omega
  · apply Fin.ext
    refine (Pipeline.Window.rect_emb_val win0_6 t _ 1).trans ?_
    show cc0_transform_6 (grid0.coords t) 1 * 512 + y.val = 512 * a.val + y.val
    rw [tr6_eq, hb, hh, ha]
    show a.val * 512 + y.val = 512 * a.val + y.val
    omega
  · apply Fin.ext
    refine (Pipeline.Window.rect_emb_val win0_6 t _ 2).trans ?_
    show cc0_transform_6 (grid0.coords t) 2 * 256 + n.val = h.val * 256 + n.val
    rw [tr6_eq, hb, hh, ha]
    rfl

/-- Every element of the result is in some point's block. -/
theorem cover6 (i : S2x8192x2048.Idx) : ∃ t : Fin cfg0.N, (cfg0.win 6).flush t = true ∧ i ∈ ((cfg0.win 6).blk t).view.set := by
  have h0 : (i 0).val < 2 := (i 0).isLt
  have h1 : (i 1).val < 8192 := (i 1).isLt
  have h2 : (i 2).val < 2048 := (i 2).isLt
  have hN : cfg0.N = 256 := by decide
  let t : Fin cfg0.N := ⟨128 * (i 0).val + 16 * ((i 2).val / 256) + (i 1).val / 512, by rw [hN]; omega⟩
  have ht : t.val = 128 * (i 0).val + 16 * ((i 2).val / 256) + (i 1).val / 512 := rfl
  have e0 := co0 t
  have e1 := co1 t
  have e2 := co2 t
  refine ⟨t, flush0_6 t, ?_⟩
  show i ∈ ((View.whole main_v8).slice (win0_6.rect t)).set
  rw [View.set_slice_whole, Rect.mem_set_unit]
  intro a
  fin_cases a
  · show cc0_transform_6 (grid0.coords t) 0 * 1 ≤ (i 0).val ∧ (i 0).val < cc0_transform_6 (grid0.coords t) 0 * 1 + 1
    rw [tr6_eq]
    show (grid0.coords t 0).val * 1 ≤ (i 0).val ∧ (i 0).val < (grid0.coords t 0).val * 1 + 1
    omega
  · show cc0_transform_6 (grid0.coords t) 1 * 512 ≤ (i 1).val ∧ (i 1).val < cc0_transform_6 (grid0.coords t) 1 * 512 + 512
    rw [tr6_eq]
    show (grid0.coords t 2).val * 512 ≤ (i 1).val ∧ (i 1).val < (grid0.coords t 2).val * 512 + 512
    omega
  · show cc0_transform_6 (grid0.coords t) 2 * 256 ≤ (i 2).val ∧ (i 2).val < cc0_transform_6 (grid0.coords t) 2 * 256 + 256
    rw [tr6_eq]
    show (grid0.coords t 1).val * 256 ≤ (i 2).val ∧ (i 2).val < (grid0.coords t 1).val * 256 + 256
    omega

end Cert.Proof.KernelIdeal
end
-- ==== Proof.VBlock.lean ====
module

public import proofs.«01_k».proof.Proof.VOut

@[expose] public section

set_option maxRecDepth 16384

noncomputable section

/-! ## A block of the kernel's output is a block of the reference's result -/

namespace Cert.Proof.KernelIdeal

open Cert.KernelIdeal Cert.KernelIdeal.Gen
open Idealize.ShloMosaic Idealize.ShloMosaic.TcCoe Idealize.SL.Sem
open Cert.Proof.ReferenceIdeal (attE att_eq rO_real rR rR_apply)

/-- Row `r`, column `n` of head `h` of batch row `b`. -/
def hd (f : S2x8192x2048.Idx → ℝ) (b : Fin 2) (h : Fin 8) (r n : ℕ) : ℝ :=
  f (ix3 b ⟨r % 8192, Nat.mod_lt _ (by decide)⟩ ⟨(h.val * 256 + n) % 2048, Nat.mod_lt _ (by decide)⟩)

theorem hd_apply (f : S2x8192x2048.Idx → ℝ) (b : Fin 2) (h : Fin 8) (r : Fin 8192) (n : Fin 256) :
    hd f b h r.val n.val = f (ix3 b r ⟨h.val * 256 + n.val, by omega⟩) := by
  unfold hd
  have e1 : (⟨r.val % 8192, Nat.mod_lt _ (by decide)⟩ : Fin 8192) = r := Fin.ext (Nat.mod_eq_of_lt r.isLt)
  have e2 : (⟨(h.val * 256 + n.val) % 2048, Nat.mod_lt _ (by decide)⟩ : Fin 2048) = ⟨h.val * 256 + n.val, by omega⟩ :=
    Fin.ext (Nat.mod_eq_of_lt (by omega))
  rw [e1, e2]

theorem two_real : Ideal.ofBits .f32 0x40000000#32 = ((2 : ℝ) : EReal) := by
  simp [Ideal.ofBits, Ideal.ieee, -EReal.coe_mul]; norm_num

theorem sc_real : ∃ sc : ℝ, Ideal.ofBits .f32 0x3DB504F3#32 = (sc : EReal) := by
  refine ⟨11863283 / 134217728, ?_⟩
  simp [Ideal.ofBits, Ideal.ieee, -EReal.coe_mul]; norm_num

theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

section
variable (x0 x1 x2 x3 : FVec Ideal S2x8192x2048 .f32) (b : Fin 2) (h : Fin 8) (r : Fin 8192) (n : Fin 256)

theorem qkv0 (o : Fin 32) (ho : o.val = h.val) : qkv (cat (qs x0) x1 x2 x3) b o (ix3 0 r n) = qs x0 (ix3 b r ⟨h.val * 256 + n.val, by omega⟩) := by
  rw [← cat0 (qs x0) x1 x2 x3]
  show cat (qs x0) x1 x2 x3 (ValueIdx.ix3 b r ⟨256 * o.val + n.val, _⟩) = _
  rw [← ix3_eq_valueIdx]
  refine congrArg (fun c => cat (qs x0) x1 x2 x3 (ix3 b r c)) (Fin.ext ?_)
  show 256 * o.val + n.val = h.val * 256 + n.val
  omega

theorem qkv1 (o : Fin 32) (ho : o.val = 8 + h.val) : qkv (cat (qs x0) x1 x2 x3) b o (ix3 0 r n) = x1 (ix3 b r ⟨h.val * 256 + n.val, by omega⟩) := by
  rw [← cat1 (qs x0) x1 x2 x3]
  show cat (qs x0) x1 x2 x3 (ValueIdx.ix3 b r ⟨256 * o.val + n.val, _⟩) = _
  rw [← ix3_eq_valueIdx]
  refine congrArg (fun c => cat (qs x0) x1 x2 x3 (ix3 b r c)) (Fin.ext ?_)
  show 256 * o.val + n.val = 2048 + (h.val * 256 + n.val)
  omega

theorem qkv2 (o : Fin 32) (ho : o.val = 16 + h.val) : qkv (cat (qs x0) x1 x2 x3) b o (ix3 0 r n) = x2 (ix3 b r ⟨h.val * 256 + n.val, by omega⟩) := by
  rw [← cat2 (qs x0) x1 x2 x3]
  show cat (qs x0) x1 x2 x3 (ValueIdx.ix3 b r ⟨256 * o.val + n.val, _⟩) = _
  rw [← ix3_eq_valueIdx]
  refine congrArg (fun c => cat (qs x0) x1 x2 x3 (ix3 b r c)) (Fin.ext ?_)
  show 256 * o.val + n.val = 4096 + (h.val * 256 + n.val)
  omega
end

/-- The kernel's block at query block `a` of head `h`, of real queries, keys, values and weight. -/
theorem Out_eq (x0 x1 x2 x3 : FVec Ideal S2x8192x2048 .f32) (x4 : FVec Ideal S4x128 .f32) (x5 : FVec Ideal S256 .f32)
    (q k v : S2x8192x2048.Idx → ℝ) (L : ℝ) (h0 : ∀ i, x0 i = (q i : EReal)) (h1 : ∀ i, x1 i = (k i : EReal)) (h2 : ∀ i, x2 i = (v i : EReal))
    (hL : lamK x4 = L) (b : Fin 2) (h : Fin 8) (a : Fin 16) (o0 o1 o2 : Fin 32) (e0 : o0.val = h.val) (e1 : o1.val = 8 + h.val) (e2 : o2.val = 16 + h.val)
    (sg : Vec Ideal S1x256 .f32) (hsg : ∀ n : Fin 256, sg (ix2 0 n) = x5 (ix1 n))
    (g : Vec Ideal S1x512x256 .bf16) (hg : ∀ (y : Fin 512) (n : Fin 256), g (ix3 0 y n) = x3 (ix3 b ⟨512 * a.val + y.val, by omega⟩ ⟨h.val * 256 + n.val, by omega⟩))
    (y : Fin 512) (n : Fin 256) :
    Out (F := Ideal) x4 sg (qkv (cat (qs x0) x1 x2 x3) b o0) (qkv (cat (qs x0) x1 x2 x3) b o1) (qkv (cat (qs x0) x1 x2 x3) b o2) g a.val (ix3 0 y n)
      = rR x0 x1 x2 x3 x4 x5 (ix3 b ⟨512 * a.val + y.val, by omega⟩ ⟨h.val * 256 + n.val, by omega⟩) := by
  obtain ⟨sc, hsc⟩ := sc_real
  have hl : Real.log 2 ≠ 0 := (Real.log_pos (by norm_num)).ne'
  have H0 : ∀ (r : Fin 8192) (n : Fin 256), x0 (ix3 b r ⟨h.val * 256 + n.val, by omega⟩) = (hd q b h r.val n.val : EReal) := fun r n => by rw [h0, hd_apply]
  have H1 : ∀ (r : Fin 8192) (n : Fin 256), x1 (ix3 b r ⟨h.val * 256 + n.val, by omega⟩) = (hd k b h r.val n.val : EReal) := fun r n => by rw [h1, hd_apply]
  have H2 : ∀ (r : Fin 8192) (n : Fin 256), x2 (ix3 b r ⟨h.val * 256 + n.val, by omega⟩) = (hd v b h r.val n.val : EReal) := fun r n => by rw [h2, hd_apply]
  rw [Out_real (Q := fun r n => hd q b h r n * sc / Real.log 2) (K := hd k b h) (W := hd v b h) x4 sg g L hL
    (fun r n => by rw [qkv0 x0 x1 x2 x3 b h r n o0 e0, qs_apply, H0, hsc, two_real, log_two, ← EReal.coe_mul, div_coe _ _ hl])
    (fun r n => by rw [qkv1 x0 x1 x2 x3 b h r n o1 e1, H1]) (fun r n => by rw [qkv2 x0 x1 x2 x3 b h r n o2 e2, H2]) a.val a.isLt y n]
  rw [rR_apply]
  have c1 : (⟨(h.val * 256 + n.val) / 256, by omega⟩ : Fin 8) = h := Fin.ext (by show (h.val * 256 + n.val) / 256 = h.val; omega)
  have c2 : (⟨(h.val * 256 + n.val) % 256, Nat.mod_lt _ (by decide)⟩ : Fin 256) = n := Fin.ext (by show (h.val * 256 + n.val) % 256 = n.val; omega)
  rw [c1, c2, hg y n]
  have f1 : (fun n : Fin 256 => sg (ix2 0 n)) = fun n => x5 (ix1 n) := funext hsg
  have f2 : (fun n' : Fin 256 => ((att (hd k b h) (fun r n => hd q b h r n * sc / Real.log 2) (hd v b h) 0 (512 * a.val + y.val) n'.val
        - L * att (hd k b h) (fun r n => hd q b h r n * sc / Real.log 2) (hd v b h) 128 (512 * a.val + y.val) n'.val : ℝ) : EReal))
      = fun n' => Cert.Proof.ReferenceIdeal.rO x0 x1 x2 x4 (ix4 b (⟨512 * a.val + y.val, by omega⟩ : Fin 8192) h n') := funext fun n' => by
    rw [rO_real x4 L hL hsc H0 H1 H2, att_eq sc _ (hd q b h) _ _ (fun _ _ => rfl), att_eq sc _ (hd q b h) _ _ (fun _ _ => rfl)]
  rw [f1, f2]

end Cert.Proof.KernelIdeal
end
-- ==== Proof.VFin.lean ====
module

public import proofs.«01_k».proof.Proof.VBlock

@[expose] public section

set_option maxRecDepth 16384

noncomputable section

/-! ## The kernel's result array is the reference's result -/

namespace Cert.Proof.KernelIdeal

open Cert.KernelIdeal Cert.KernelIdeal.Gen
open Idealize.ShloMosaic Idealize.ShloMosaic.TcCoe Idealize.SL.Sem
open Cert.Proof.ReferenceIdeal (rR)

/-- Queries, keys, values and the lambda vectors are real numbers. -/
def Fine (x0 x1 x2 : FVec Ideal S2x8192x2048 .f32) (x4 : FVec Ideal S4x128 .f32) : Prop :=
  (∀ i, ∃ r : ℝ, x0 i = (r : EReal)) ∧ (∀ i, ∃ r : ℝ, x1 i = (r : EReal)) ∧ (∀ i, ∃ r : ℝ, x2 i = (r : EReal)) ∧ ∀ i, ∃ r : ℝ, x4 i = (r : EReal)

theorem lam_init_real : Ideal.ofBits .f32 0x3E4CCCCD#32 = ((13421773 / 67108864 : ℝ) : EReal) := by
  simp [Ideal.ofBits, Ideal.ieee, -EReal.coe_mul]; norm_num

/-- The weight of the second attention is real when the vectors it is made of are. -/
theorem lamK_real (x4 : FVec Ideal S4x128 .f32) (h : ∀ i, ∃ r : ℝ, x4 i = (r : EReal)) : ∃ L : ℝ, lamK x4 = (L : EReal) := by
  choose f hf using h
  refine ⟨Real.exp (∑ d : Fin 128, f (ix2 0 d) * f (ix2 1 d)) - Real.exp (∑ d : Fin 128, f (ix2 2 d) * f (ix2 3 d)) + 13421773 / 67108864, ?_⟩
  unfold lamK
  rw [lam_init_real]
  simp only [hf, ← EReal.coe_mul]
  rw [← coe_sum, ← coe_sum]
  rfl

variable (m : (ℓ : Loc nD τ sig) → Buf (Elt Ideal) ℓ) (ρ : Dev nD → PrngReg) (c : Dev nD)

/-- The reference's result of the launch's arguments. -/
def result : S2x8192x2048.Idx → Elt Ideal .bf16 :=
  rR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- Every device's arguments are real where the claim needs them to be. -/
def FineAt : Prop :=
  Fine (m ((c.tc : Thread nD τ).loc main_arg0)) (m ((c.tc : Thread nD τ).loc main_arg1)) (m ((c.tc : Thread nD τ).loc main_arg2)) (m ((c.tc : Thread nD τ).loc main_arg4))

theorem iblk0_eq (t : Fin cfg0.N) : iblk m c 0 t = m ((c.tc : Thread nD τ).loc main_arg4) :=
  (blk0_eq t _).trans (V_main_arg4 m c)

theorem iblk1_eq (t : Fin cfg0.N) : iblk m c 1 t = shapeCast S1x256 (m ((c.tc : Thread nD τ).loc main_arg5)) shapeCasts_S256_S1x256 :=
  (blk1_eq t _).trans (V_main_v7 m c)

/-- A point's block of the kernel's output, at an index. -/
theorem oblk_apply (hf : FineAt m c) (t : Fin cfg0.N) (y : Fin 512) (n : Fin 256) :
    oblk m c t (ix3 0 y n) = ((cfg0.win 6).blk t).view.read (Elt Ideal) (result m c) (ix3 0 y n) := by
  obtain ⟨hq, hk, hv, hl⟩ := hf
  choose q hq using hq
  choose k hk using hk
  choose v hv using hv
  obtain ⟨L, hL⟩ := lamK_real _ hl
  have h0 : (grid0.coords t 0).val < 2 := (grid0.coords t 0).isLt
  have h1 : (grid0.coords t 1).val < 8 := (grid0.coords t 1).isLt
  have h2 : (grid0.coords t 2).val < 16 := (grid0.coords t 2).isLt
  rw [blk6_eq t (result m c) ⟨_, h0⟩ ⟨_, h1⟩ ⟨_, h2⟩ rfl rfl rfl y n]
  have e2 : iblk m c 2 t = _ := (blk2_eq t (V m c main_v6)).trans (congrArg (fun X => qkv X _ _) (V_main_v6 m c))
  have e3 : iblk m c 3 t = _ := (blk3_eq t (V m c main_v6)).trans (congrArg (fun X => qkv X _ _) (V_main_v6 m c))
  have e4 : iblk m c 4 t = _ := (blk4_eq t (V m c main_v6)).trans (congrArg (fun X => qkv X _ _) (V_main_v6 m c))
  unfold oblk
  rw [iblk0_eq, iblk1_eq, e2, e3, e4]
  refine Out_eq _ _ _ _ _ _ q k v L hq hk hv hL ⟨_, h0⟩ ⟨_, h1⟩ ⟨_, h2⟩ _ _ _ rfl rfl rfl _ (fun n => sg_apply _ n) _ (fun y n => ?_) y n
  refine (blk5_eq t (V m c main_v6) ⟨_, h0⟩ ⟨_, h1⟩ ⟨_, h2⟩ rfl rfl rfl y n).trans ?_
  rw [V_main_v6]
  exact cat3 _ _ _ _ _ _ _

theorem flushed_eq (hf : FineAt m c) (t : Fin cfg0.N) (_ : (cfg0.win 6).flush t = true) :
    (dats m 0 c).flushed 6 t = ((cfg0.win 6).blk t).view.read (Elt Ideal) (result m c) := by
  show (cfg0.win 6).cut (grid0.coords t) ((dats m 0 c).after 6 t) = _
  rw [after_6]
  funext i
  have e : i = (ix3 0 (i 1) (i 2) : S1x512x256.Idx) := by
    funext k
    fin_cases k
    · exact Fin.ext (by have h : (i 0).val < 1 := (i 0).isLt; show (i 0).val = 0; omega)
    · rfl
    · rfl
  rw [e]
  exact oblk_apply m c hf t (i 1) (i 2)

theorem final_o (hf : FineAt m c) : (dats m 0 c).arrAt 6 cfg0.N = result m c :=
  (dats m 0 c).arrAt_eq_of_cover 6 (result m c) (flushed_eq m c hf) cover6

/-- The kernel's program ends with the reference's result and the arguments unchanged. -/
theorem run_value (hf : ∀ c, FineAt m c) : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 6).trans (final_o m c (hf c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 0).trans (((dats m 0 c).arrAt_in 0 rfl _).trans ((A_eq m c 0).trans (V_main_arg4 m c))),
      ((h.1 c).2 main_arg5 (Pipeline.mem_restRefs_of main_arg5 (by decide) (by decide))).trans (V_main_arg5 m c)⟩)
    (run_main m ρ)

end Cert.Proof.KernelIdeal
end
-- ==== Proof.VPre.lean ====
module

public import proofs.«01_k».proof.Proof.Gen.Pre_finite
public import proofs.«01_k».proof.Proof.VMath
public import Idealize.ShloMosaic.Lib.Pointwise
public import Idealize.ShloMosaic.Lib.ReduceAll

@[expose] public section

set_option maxRecDepth 16384

noncomputable section

/-! ## What the precondition says -/

namespace Cert.Proof.Pre

open Cert.Pre_finite
open Idealize.ShloMosaic

theorem inf_bits : Ideal.ofBits .f32 0x7F800000#32 = ⊤ := by
  simp [Ideal.ofBits, Ideal.ieee]

theorem band_one : ∀ a b : BitVec 1, a &&& b = 1#1 → a = 1#1 ∧ b = 1#1 := by decide

/-- A number below infinity in absolute value is real. -/
theorem real_of_lt (x : EReal) (h : Ideal.cmp .olt (max x (-x)) ⊤ = 1#1) : ∃ r : ℝ, x = r := by
  apply Cert.Proof.real_of
  by_contra h'
  have : (Ideal.cmp .olt (max x (-x)) ⊤ : BitVec 1) = 0#1 := by
    simp [Ideal.cmp, h']
  rw [this] at h
  exact absurd h (by decide)

theorem big_apply (x : FVec Ideal S2x8192x2048 .f32) (hb : S_.BroadcastsInDim S2x8192x2048 (![] : Fin 0 → Fin S2x8192x2048.rank)) (i : S2x8192x2048.Idx)
    (h : cmpf .olt (Host.absf x) (broadcastInDim S2x8192x2048 ![] hb (constant (F := Ideal) S_ .f32 0x7F800000#32)) i = 1#1) : ∃ r : ℝ, x i = r := by
  apply real_of_lt
  rw [← inf_bits]
  exact h

theorem small_apply (x : FVec Ideal S4x128 .f32) (hb : S_.BroadcastsInDim S4x128 (![] : Fin 0 → Fin S4x128.rank)) (i : S4x128.Idx)
    (h : cmpf .olt (Host.absf x) (broadcastInDim S4x128 ![] hb (constant (F := Ideal) S_ .f32 0x7F800000#32)) i = 1#1) : ∃ r : ℝ, x i = r := by
  apply real_of_lt
  rw [← inf_bits]
  exact h

theorem decode [Facts] (x0 x1 x2 x3 : FVec Ideal S2x8192x2048 .f32) (x4 : FVec Ideal S4x128 .f32) (x5 : FVec Ideal S256 .f32)
    (h : fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal)) ∧ ∀ i, ∃ r : ℝ, x4 i = (r : EReal) := by
  have H := fun i => band_one _ _ (congrFun h i)
  have H1 := fun i => band_one _ _ (H i).1
  have H2 := fun i => band_one _ _ (H1 i).1
  exact ⟨fun i => big_apply x0 Facts.bcast_S_S2x8192x2048 i (H2 i).1, fun i => big_apply x1 Facts.bcast_S_S2x8192x2048 i (H2 i).2,
    fun i => big_apply x2 Facts.bcast_S_S2x8192x2048 i (H1 i).2,
    fun i => small_apply x4 Facts.bcast_S_S4x128 i (Host.reduce_andi_all _ _ _ _ _ (H (ix3 0 0 0)).2 i)⟩

end Cert.Proof.Pre
end
-- ==== Proof.OutFinal.lean ====
module

public import proofs.«01_k».proof.Proof.Gen.Kernel2Ideal.Value
public import proofs.«01_k».proof.Proof.Gen.Reference2Ideal.Run
public import proofs.«01_k».proof.Proof.VMath
public import Idealize.ShloMosaic.Lib.Pointwise

@[expose] public section

set_option maxRecDepth 16384

noncomputable section

/-! ## The last layer's output projection, with the residual sum and the final norm -/

namespace Cert.Proof.OutFinal

open Idealize.ShloMosaic Idealize.ShloMosaic.TcCoe Idealize.SL.Sem

/-- A row divided by the root of its mean square, weighted. -/
def normed (X g : Fin 2048 → EReal) (c : Fin 2048) : EReal :=
  X c * Ideal.rsqrt (Ideal.div (∑ k : Fin 2048, X k * X k) (Ideal.ofBits .f32 0x45000000#32) + Ideal.ofBits .f32 0x358637BD#32) * g c

section Ker
open Cert.Kernel2Ideal Cert.Kernel2Ideal.Gen

theorem pay_apply (o : Vec Ideal S512x2048 .bf16) (w : Vec Ideal S2048x2048 .bf16) (x : Vec Ideal S512x2048 .f32) (g : Vec Ideal S1x2048 .f32) (y : Fin 512) (c : Fin 2048) :
    k0_pay1 (F := Ideal) o w x g (ix2 y c) = normed (fun c => x (ix2 y c) + ∑ k : Fin 2048, o (ix2 y k) * w (ix2 k c)) (fun c => g (ix2 0 c)) c := by
  pointwise [k0_pay1, normed]

end Ker

section Ref
open Cert.Reference2Ideal Cert.Reference2Ideal.Gen Cert.Reference2Ideal.Facts

/-- The residual sum. -/
def rX (x0 : FVec Ideal S2x8192x2048 .f32) (x1 : FVec Ideal S2048x2048 .f32) (x2 : FVec Ideal S2x8192x2048 .f32) : FVec Ideal S2x8192x2048 .f32 :=
  addf x2 (Host.dotGeneral dot_S2x8192x2048_S2048x2048_S2x8192x2048_2_0_01_1_n_n none x0 x1)

/-- The norm of every row. -/
def rN (X : FVec Ideal S2x8192x2048 .f32) (x3 : FVec Ideal S2048 .f32) : FVec Ideal S2x8192x2048 .f32 :=
  mulf (mulf X (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf X X) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 x3))

theorem rX_apply (x0 : FVec Ideal S2x8192x2048 .f32) (x1 : FVec Ideal S2048x2048 .f32) (x2 : FVec Ideal S2x8192x2048 .f32) (b : Fin 2) (r : Fin 8192) (c : Fin 2048) :
    rX x0 x1 x2 (ix3 b r c) = x2 (ix3 b r c) + ∑ k : Fin 2048, x0 (ix3 b r k) * x1 (ix2 k c) := by
  pointwise [rX]

theorem rN_apply (X : FVec Ideal S2x8192x2048 .f32) (x3 : FVec Ideal S2048 .f32) (b : Fin 2) (r : Fin 8192) (c : Fin 2048) :
    rN X x3 (ix3 b r c) = normed (fun c => X (ix3 b r c)) (fun c => x3 (ix1 c)) c := by
  pointwise [rN, normed]

/-- Batch row and sequence position of a row of the flattened array. -/
theorem flat_apply (X : FVec Ideal S2x8192x2048 .f32) (r : Fin 16384) (c : Fin 2048) :
    shapeCast S16384x2048 X shapeCasts_S2x8192x2048_S16384x2048 (ix2 r c) = X (ix3 ⟨r.val / 8192, by omega⟩ ⟨r.val % 8192, Nat.mod_lt _ (by decide)⟩ c) := by
  pointwise []

end Ref

end Cert.Proof.OutFinal
end
-- ==== Proof.OutFinalRun.lean ====
module

public import proofs.«01_k».proof.Proof.OutFinal
public import Idealize.ShloMosaic.Lib.StableHlo.Run
public import Idealize.ShloMosaic.Lib.Pipeline.ValueKit.Basic

@[expose] public section

set_option maxRecDepth 16384

noncomputable section

/-! ## The last output projection's array, block by block, and its reference -/

namespace Cert.Proof.OutFinal

open Idealize.ShloMosaic Idealize.ShloMosaic.TcCoe Idealize.SL.Sem Idealize.ShloMosaic.StableHlo

section Ref
open Cert.Reference2Ideal Cert.Reference2Ideal.Gen

/-- The reference's array. -/
def ref (x0 : FVec Ideal S2x8192x2048 .f32) (x1 : FVec Ideal S2048x2048 .f32) (x2 : FVec Ideal S2x8192x2048 .f32) (x3 : FVec Ideal S2048 .f32) : FVec Ideal S16384x2048 .f32 :=
  shapeCast S16384x2048 (rN (rX x0 x1 x2) x3) Cert.Reference2Ideal.Facts₀.shapeCasts_S2x8192x2048_S16384x2048

theorem ref_apply (x0 : FVec Ideal S2x8192x2048 .f32) (x1 : FVec Ideal S2048x2048 .f32) (x2 : FVec Ideal S2x8192x2048 .f32) (x3 : FVec Ideal S2048 .f32) (r : Fin 16384) (c : Fin 2048) :
    ref x0 x1 x2 x3 (ix2 r c) = normed (fun c => x2 (ix3 ⟨r.val / 8192, by omega⟩ ⟨r.val % 8192, Nat.mod_lt _ (by decide)⟩ c)
      + ∑ k : Fin 2048, x0 (ix3 ⟨r.val / 8192, by omega⟩ ⟨r.val % 8192, Nat.mod_lt _ (by decide)⟩ k) * x1 (ix2 k c)) (fun c => x3 (ix1 c)) c := by
  unfold ref
  rw [flat_apply, rN_apply]
  simp only [rX_apply]
end Ref

section Ker
open Cert.Kernel2Ideal Cert.Kernel2Ideal.Gen

theorem out_eq (o : Vec Ideal S512x2048 .bf16) (w : Vec Ideal S2048x2048 .bf16) (x : Vec Ideal S512x2048 .f32) (g : Vec Ideal S1x2048 .f32) :
    out0_4 o w x g = k0_pay1 (F := Ideal) o w x g := by
  unfold out0_4
  rw [View.canon_cons_unit_lit _ _ _ (by decide)]
  rw [View.ld_unit_lit _ _ (by decide), View.ld_unit_lit _ _ (by decide), View.ld_unit_lit _ _ (by decide), View.ld_unit_lit _ _ (by decide)]

variable (m : (ℓ : Loc nD τ sig) → Buf (Elt Ideal) ℓ) (ρ : Dev nD → PrngReg) (c : Dev nD)

/-- The flattened gated rows. -/
def rows (X : FVec Ideal S2x8192x2048 .f32) : FVec Ideal S16384x2048 .bf16 :=
  truncf .bf16 (shapeCast S16384x2048 X shapeCasts_S2x8192x2048_S16384x2048) bitsLt_bf16_f32

/-- The weights. -/
def wts (X : FVec Ideal S2048x2048 .f32) : FVec Ideal S2048x2048 .bf16 := truncf .bf16 X bitsLt_bf16_f32

theorem V_v1 : V m c main_v1 = rows (m ((c : Thread nD τ).loc main_arg0)) := by
  show StableHlo.after hostOps0 _ (Proc.devRef .tc main_v1) = _
  after_results
  rfl
theorem V_v2 : V m c main_v2 = wts (m ((c : Thread nD τ).loc main_arg1)) := by
  show StableHlo.after hostOps0 _ (Proc.devRef .tc main_v2) = _
  after_results
  rfl
theorem V_v3 : V m c main_v3 = shapeCast S16384x2048 (m ((c : Thread nD τ).loc main_arg2)) shapeCasts_S2x8192x2048_S16384x2048 := by
  show StableHlo.after hostOps0 _ (Proc.devRef .tc main_v3) = _
  after_results
  rfl
theorem V_v4 : V m c main_v4 = shapeCast S1x2048 (m ((c : Thread nD τ).loc main_arg3)) shapeCasts_S2048_S1x2048 := by
  show StableHlo.after hostOps0 _ (Proc.devRef .tc main_v4) = _
  after_results
  rfl

theorem gw_apply (g : Vec Ideal S2048 .f32) (n : Fin 2048) : shapeCast S1x2048 g shapeCasts_S2048_S1x2048 (ix2 0 n) = g (ix1 n) := by
  pointwise []

theorem tr_eq (n : Fin 32) : (BitVec.ofNat 32 n.val).toNat = n.val := by revert n; decide
theorem co (t : Fin cfg0.N) : (grid0.coords t 0).val = t.val := by revert t; decide
theorem tr0 (i : grid0.Coords) : cc0_transform_0 i = ![(i 0).val, 0] := by
  show ![(BitVec.ofNat 32 (i 0).val).toNat, _] = _
  rw [tr_eq (i 0)]; rfl
theorem tr1 (i : grid0.Coords) : cc0_transform_1 i = ![0, 0] := rfl
theorem tr2 (i : grid0.Coords) : cc0_transform_2 i = ![(i 0).val, 0] := by
  show ![(BitVec.ofNat 32 (i 0).val).toNat, _] = _
  rw [tr_eq (i 0)]; rfl
theorem tr3 (i : grid0.Coords) : cc0_transform_3 i = ![0, 0] := rfl
theorem tr4 (i : grid0.Coords) : cc0_transform_4 i = ![(i 0).val, 0] := by
  show ![(BitVec.ofNat 32 (i 0).val).toNat, _] = _
  rw [tr_eq (i 0)]; rfl

theorem row_lt (t : Fin cfg0.N) (y : Fin 512) : 512 * t.val + y.val < 16384 := by
  have : t.val < 32 := lt_of_lt_of_eq t.isLt (by decide)
  omega

theorem blk0 (t : Fin cfg0.N) (X : S16384x2048.Idx → Elt Ideal .bf16) (y : Fin 512) (n : Fin 2048) :
    ((cfg0.win 0).blk t).view.read (Elt Ideal) X (ix2 y n) = X (ix2 ⟨512 * t.val + y.val, row_lt t y⟩ n) := by
  show X ((win0_0.rect t).emb _) = _
  refine congrArg X (funext fun k => ?_)
  fin_cases k
  · apply Fin.ext
    refine (Pipeline.Window.rect_emb_val win0_0 t _ 0).trans ?_
    show cc0_transform_0 (grid0.coords t) 0 * 512 + y.val = 512 * t.val + y.val
    rw [tr0, co, Nat.mul_comm]; rfl
  · apply Fin.ext
    refine (Pipeline.Window.rect_emb_val win0_0 t _ 1).trans ?_
    show 0 * 2048 + n.val = n.val
    omega
theorem blk1 (t : Fin cfg0.N) (X : S2048x2048.Idx → Elt Ideal .bf16) : ((cfg0.win 1).blk t).view.read (Elt Ideal) X = X := by
  funext y
  show X ((win0_1.rect t).emb y) = _
  refine congrArg X (funext fun a => ?_)
  fin_cases a
  · apply Fin.ext
    refine (Pipeline.Window.rect_emb_val win0_1 t y 0).trans ?_
    show 0 * 2048 + (y 0).val = (y 0).val
    omega
  · apply Fin.ext
    refine (Pipeline.Window.rect_emb_val win0_1 t y 1).trans ?_
    show 0 * 2048 + (y 1).val = (y 1).val
    omega
theorem blk2 (t : Fin cfg0.N) (X : S16384x2048.Idx → Elt Ideal .f32) (y : Fin 512) (n : Fin 2048) :
    ((cfg0.win 2).blk t).view.read (Elt Ideal) X (ix2 y n) = X (ix2 ⟨512 * t.val + y.val, row_lt t y⟩ n) := by
  show X ((win0_2.rect t).emb _) = _
  refine congrArg X (funext fun k => ?_)
  fin_cases k
  · apply Fin.ext
    refine (Pipeline.Window.rect_emb_val win0_2 t _ 0).trans ?_
    show cc0_transform_2 (grid0.coords t) 0 * 512 + y.val = 512 * t.val + y.val
    rw [tr2, co, Nat.mul_comm]; rfl
  · apply Fin.ext
    refine (Pipeline.Window.rect_emb_val win0_2 t _ 1).trans ?_
    show 0 * 2048 + n.val = n.val
    omega
theorem blk3 (t : Fin cfg0.N) (X : S1x2048.Idx → Elt Ideal .f32) : ((cfg0.win 3).blk t).view.read (Elt Ideal) X = X := by
  funext y
  show X ((win0_3.rect t).emb y) = _
  refine congrArg X (funext fun a => ?_)
  fin_cases a
  · apply Fin.ext
    refine (Pipeline.Window.rect_emb_val win0_3 t y 0).trans ?_
    show 0 * 1 + (y 0).val = (y 0).val
    omega
  · apply Fin.ext
    refine (Pipeline.Window.rect_emb_val win0_3 t y 1).trans ?_
    show 0 * 2048 + (y 1).val = (y 1).val
    omega
theorem blk4 (t : Fin cfg0.N) (X : S16384x2048.Idx → Elt Ideal .f32) (y : Fin 512) (n : Fin 2048) :
    ((cfg0.win 4).blk t).view.read (Elt Ideal) X (ix2 y n) = X (ix2 ⟨512 * t.val + y.val, row_lt t y⟩ n) := by
  show X ((win0_4.rect t).emb _) = _
  refine congrArg X (funext fun k => ?_)
  fin_cases k
  · apply Fin.ext
    refine (Pipeline.Window.rect_emb_val win0_4 t _ 0).trans ?_
    show cc0_transform_4 (grid0.coords t) 0 * 512 + y.val = 512 * t.val + y.val
    rw [tr4, co, Nat.mul_comm]; rfl
  · apply Fin.ext
    refine (Pipeline.Window.rect_emb_val win0_4 t _ 1).trans ?_
    show 0 * 2048 + n.val = n.val
    omega

theorem cover (i : S16384x2048.Idx) : ∃ t : Fin cfg0.N, (cfg0.win 4).flush t = true ∧ i ∈ ((cfg0.win 4).blk t).view.set := by
  have h0 : (i 0).val < 16384 := (i 0).isLt
  have h1 : (i 1).val < 2048 := (i 1).isLt
  have hN : cfg0.N = 32 := by decide
  let t : Fin cfg0.N := ⟨(i 0).val / 512, by rw [hN]; omega⟩
  have ht : t.val = (i 0).val / 512 := rfl
  have e0 := co t
  refine ⟨t, flush0_4 t, ?_⟩
  show i ∈ ((View.whole main_v5).slice (win0_4.rect t)).set
  rw [View.set_slice_whole, Rect.mem_set_unit]
  intro a
  fin_cases a
  · show cc0_transform_4 (grid0.coords t) 0 * 512 ≤ (i 0).val ∧ (i 0).val < cc0_transform_4 (grid0.coords t) 0 * 512 + 512
    rw [tr4]
    show (grid0.coords t 0).val * 512 ≤ (i 0).val ∧ (i 0).val < (grid0.coords t 0).val * 512 + 512
    omega
  · show 0 * 2048 ≤ (i 1).val ∧ (i 1).val < 0 * 2048 + 2048
    omega

/-- The array both programs end with. -/
def result : FVec Ideal S16384x2048 .f32 :=
  ref (m ((c : Thread nD τ).loc main_arg0)) (m ((c : Thread nD τ).loc main_arg1)) (m ((c : Thread nD τ).loc main_arg2)) (m ((c : Thread nD τ).loc main_arg3))

theorem iblk_0 (t : Fin cfg0.N) (y : Fin 512) (n : Fin 2048) : iblk m c 0 t (ix2 y n)
    = (m ((c : Thread nD τ).loc main_arg0)) (ix3 ⟨(512 * t.val + y.val) / 8192, by have := row_lt t y; omega⟩ ⟨(512 * t.val + y.val) % 8192, Nat.mod_lt _ (by decide)⟩ n) := by
  refine (blk0 t (V m c main_v1) y n).trans ?_
  rw [V_v1]
  exact flat_apply _ _ _
theorem iblk_1 (t : Fin cfg0.N) (k n : Fin 2048) : iblk m c 1 t (ix2 k n) = (m ((c : Thread nD τ).loc main_arg1)) (ix2 k n) := by
  refine (congrFun (blk1 t (V m c main_v2)) _).trans ?_
  rw [V_v2]
  rfl
theorem iblk_2 (t : Fin cfg0.N) (y : Fin 512) (n : Fin 2048) : iblk m c 2 t (ix2 y n)
    = (m ((c : Thread nD τ).loc main_arg2)) (ix3 ⟨(512 * t.val + y.val) / 8192, by have := row_lt t y; omega⟩ ⟨(512 * t.val + y.val) % 8192, Nat.mod_lt _ (by decide)⟩ n) := by
  refine (blk2 t (V m c main_v3) y n).trans ?_
  rw [V_v3]
  exact flat_apply _ _ _
theorem iblk_3 (t : Fin cfg0.N) (n : Fin 2048) : iblk m c 3 t (ix2 0 n) = (m ((c : Thread nD τ).loc main_arg3)) (ix1 n) := by
  refine (congrFun (blk3 t (V m c main_v4)) _).trans ?_
  rw [V_v4]
  exact gw_apply _ _

theorem flushed_at (t : Fin cfg0.N) (y : Fin 512) (n : Fin 2048) :
    out0_4 (iblk m c 0 t) (iblk m c 1 t) (iblk m c 2 t) (iblk m c 3 t) (ix2 y n) = ((cfg0.win 4).blk t).view.read (Elt Ideal) (result m c) (ix2 y n) := by
  rw [blk4 t (result m c), out_eq, pay_apply]
  unfold result
  rw [ref_apply]
  simp only [iblk_0, iblk_1, iblk_2, iblk_3]

theorem flushed_eq (t : Fin cfg0.N) (_ : (cfg0.win 4).flush t = true) :
    (dats m 0 c).flushed 4 t = ((cfg0.win 4).blk t).view.read (Elt Ideal) (result m c) := by
  rw [Value.flushed4]
  funext i
  have e : i = (ix2 (i 0) (i 1) : S512x2048.Idx) := by
    funext k
    fin_cases k <;> rfl
  rw [e]
  exact flushed_at m c t (i 0) (i 1)

theorem run_value : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((dats m 0 c).arrAt_eq_of_cover 4 (result m c) (flushed_eq m c) cover), (h c).2⟩)
    (Value.run_blocks m ρ)

end Ker

end Cert.Proof.OutFinal
end
-- ==== Proof.OutPlain.lean ====
module

public import proofs.«01_k».proof.Proof.Gen.Kernel3Ideal.Value
public import proofs.«01_k».proof.Proof.Gen.Reference3Ideal.Run
public import proofs.«01_k».proof.Proof.VMath
public import Idealize.ShloMosaic.Lib.Pointwise

@[expose] public section

set_option maxRecDepth 16384

noncomputable section

/-! ## An output projection before the last layer, with the residual sum -/

namespace Cert.Proof.OutPlain

open Idealize.ShloMosaic Idealize.ShloMosaic.TcCoe Idealize.SL.Sem

section Ker
open Cert.Kernel3Ideal Cert.Kernel3Ideal.Gen

theorem pay_apply (o : Vec Ideal S512x2048 .bf16) (w : Vec Ideal S2048x2048 .bf16) (x : Vec Ideal S512x2048 .f32) (y : Fin 512) (c : Fin 2048) :
    k0_pay1 (F := Ideal) o w x (ix2 y c) = x (ix2 y c) + ∑ k : Fin 2048, o (ix2 y k) * w (ix2 k c) := by
  pointwise [k0_pay1]

end Ker

section Ref
open Cert.Reference3Ideal Cert.Reference3Ideal.Gen Cert.Reference3Ideal.Facts

/-- The residual sum. -/
def rX (x0 : FVec Ideal S2x8192x2048 .f32) (x1 : FVec Ideal S2048x2048 .f32) (x2 : FVec Ideal S2x8192x2048 .f32) : FVec Ideal S2x8192x2048 .f32 :=
  addf x2 (Host.dotGeneral dot_S2x8192x2048_S2048x2048_S2x8192x2048_2_0_01_1_n_n none x0 x1)

theorem rX_apply (x0 : FVec Ideal S2x8192x2048 .f32) (x1 : FVec Ideal S2048x2048 .f32) (x2 : FVec Ideal S2x8192x2048 .f32) (b : Fin 2) (r : Fin 8192) (c : Fin 2048) :
    rX x0 x1 x2 (ix3 b r c) = x2 (ix3 b r c) + ∑ k : Fin 2048, x0 (ix3 b r k) * x1 (ix2 k c) := by
  pointwise [rX]

/-- Batch row and sequence position of a row of the flattened array. -/
theorem flat_apply (X : FVec Ideal S2x8192x2048 .f32) (r : Fin 16384) (c : Fin 2048) :
    shapeCast S16384x2048 X shapeCasts_S2x8192x2048_S16384x2048 (ix2 r c) = X (ix3 ⟨r.val / 8192, by omega⟩ ⟨r.val % 8192, Nat.mod_lt _ (by decide)⟩ c) := by
  pointwise []

end Ref

end Cert.Proof.OutPlain
end
-- ==== Proof.OutPlainRun.lean ====
module

public import proofs.«01_k».proof.Proof.OutPlain
public import Idealize.ShloMosaic.Lib.StableHlo.Run
public import Idealize.ShloMosaic.Lib.Pipeline.ValueKit.Basic

@[expose] public section

set_option maxRecDepth 16384

noncomputable section

/-! ## The array of an output projection before the last layer, block by block, and its reference -/

namespace Cert.Proof.OutPlain

open Idealize.ShloMosaic Idealize.ShloMosaic.TcCoe Idealize.SL.Sem Idealize.ShloMosaic.StableHlo

section Ref
open Cert.Reference3Ideal Cert.Reference3Ideal.Gen

/-- The reference's array. -/
def ref (x0 : FVec Ideal S2x8192x2048 .f32) (x1 : FVec Ideal S2048x2048 .f32) (x2 : FVec Ideal S2x8192x2048 .f32) : FVec Ideal S16384x2048 .f32 :=
  shapeCast S16384x2048 (rX x0 x1 x2) Cert.Reference3Ideal.Facts₀.shapeCasts_S2x8192x2048_S16384x2048

theorem ref_apply (x0 : FVec Ideal S2x8192x2048 .f32) (x1 : FVec Ideal S2048x2048 .f32) (x2 : FVec Ideal S2x8192x2048 .f32) (r : Fin 16384) (c : Fin 2048) :
    ref x0 x1 x2 (ix2 r c) = x2 (ix3 ⟨r.val / 8192, by omega⟩ ⟨r.val % 8192, Nat.mod_lt _ (by decide)⟩ c)
      + ∑ k : Fin 2048, x0 (ix3 ⟨r.val / 8192, by omega⟩ ⟨r.val % 8192, Nat.mod_lt _ (by decide)⟩ k) * x1 (ix2 k c) := by
  unfold ref
  rw [flat_apply, rX_apply]
end Ref

section Ker
open Cert.Kernel3Ideal Cert.Kernel3Ideal.Gen

theorem out_eq (o : Vec Ideal S512x2048 .bf16) (w : Vec Ideal S2048x2048 .bf16) (x : Vec Ideal S512x2048 .f32) (g : Vec Ideal S1x2048 .f32) :
    out0_4 o w x g = k0_pay1 (F := Ideal) o w x := by
  unfold out0_4
  rw [View.canon_cons_unit_lit _ _ _ (by decide)]
  rw [View.ld_unit_lit _ _ (by decide), View.ld_unit_lit _ _ (by decide), View.ld_unit_lit _ _ (by decide)]

variable (m : (ℓ : Loc nD τ sig) → Buf (Elt Ideal) ℓ) (ρ : Dev nD → PrngReg) (c : Dev nD)

/-- The flattened gated rows. -/
def rows (X : FVec Ideal S2x8192x2048 .f32) : FVec Ideal S16384x2048 .bf16 :=
  truncf .bf16 (shapeCast S16384x2048 X shapeCasts_S2x8192x2048_S16384x2048) bitsLt_bf16_f32

/-- The weights. -/
def wts (X : FVec Ideal S2048x2048 .f32) : FVec Ideal S2048x2048 .bf16 := truncf .bf16 X bitsLt_bf16_f32

theorem V_v1 : V m c main_v1 = rows (m ((c : Thread nD τ).loc main_arg0)) := by
  show StableHlo.after hostOps0 _ (Proc.devRef .tc main_v1) = _
  after_results
  rfl
theorem V_v2 : V m c main_v2 = wts (m ((c : Thread nD τ).loc main_arg1)) := by
  show StableHlo.after hostOps0 _ (Proc.devRef .tc main_v2) = _
  after_results
  rfl
theorem V_v3 : V m c main_v3 = shapeCast S16384x2048 (m ((c : Thread nD τ).loc main_arg2)) shapeCasts_S2x8192x2048_S16384x2048 := by
  show StableHlo.after hostOps0 _ (Proc.devRef .tc main_v3) = _
  after_results
  rfl
theorem tr_eq (n : Fin 32) : (BitVec.ofNat 32 n.val).toNat = n.val := by revert n; decide
theorem co (t : Fin cfg0.N) : (grid0.coords t 0).val = t.val := by revert t; decide
theorem tr0 (i : grid0.Coords) : cc0_transform_0 i = ![(i 0).val, 0] := by
  show ![(BitVec.ofNat 32 (i 0).val).toNat, _] = _
  rw [tr_eq (i 0)]; rfl
theorem tr1 (i : grid0.Coords) : cc0_transform_1 i = ![0, 0] := rfl
theorem tr2 (i : grid0.Coords) : cc0_transform_2 i = ![(i 0).val, 0] := by
  show ![(BitVec.ofNat 32 (i 0).val).toNat, _] = _
  rw [tr_eq (i 0)]; rfl
theorem tr4 (i : grid0.Coords) : cc0_transform_4 i = ![(i 0).val, 0] := by
  show ![(BitVec.ofNat 32 (i 0).val).toNat, _] = _
  rw [tr_eq (i 0)]; rfl

theorem row_lt (t : Fin cfg0.N) (y : Fin 512) : 512 * t.val + y.val < 16384 := by
  have : t.val < 32 := lt_of_lt_of_eq t.isLt (by decide)
  omega

theorem blk0 (t : Fin cfg0.N) (X : S16384x2048.Idx → Elt Ideal .bf16) (y : Fin 512) (n : Fin 2048) :
    ((cfg0.win 0).blk t).view.read (Elt Ideal) X (ix2 y n) = X (ix2 ⟨512 * t.val + y.val, row_lt t y⟩ n) := by
  show X ((win0_0.rect t).emb _) = _
  refine congrArg X (funext fun k => ?_)
  fin_cases k
  · apply Fin.ext
    refine (Pipeline.Window.rect_emb_val win0_0 t _ 0).trans ?_
    show cc0_transform_0 (grid0.coords t) 0 * 512 + y.val = 512 * t.val + y.val
    rw [tr0, co, Nat.mul_comm]; rfl
  · apply Fin.ext
    refine (Pipeline.Window.rect_emb_val win0_0 t _ 1).trans ?_
    show 0 * 2048 + n.val = n.val
    omega
theorem blk1 (t : Fin cfg0.N) (X : S2048x2048.Idx → Elt Ideal .bf16) : ((cfg0.win 1).blk t).view.read (Elt Ideal) X = X := by
  funext y
  show X ((win0_1.rect t).emb y) = _
  refine congrArg X (funext fun a => ?_)
  fin_cases a
  · apply Fin.ext
    refine (Pipeline.Window.rect_emb_val win0_1 t y 0).trans ?_
    show 0 * 2048 + (y 0).val = (y 0).val
    omega
  · apply Fin.ext
    refine (Pipeline.Window.rect_emb_val win0_1 t y 1).trans ?_
    show 0 * 2048 + (y 1).val = (y 1).val
    omega
theorem blk2 (t : Fin cfg0.N) (X : S16384x2048.Idx → Elt Ideal .f32) (y : Fin 512) (n : Fin 2048) :
    ((cfg0.win 2).blk t).view.read (Elt Ideal) X (ix2 y n) = X (ix2 ⟨512 * t.val + y.val, row_lt t y⟩ n) := by
  show X ((win0_2.rect t).emb _) = _
  refine congrArg X (funext fun k => ?_)
  fin_cases k
  · apply Fin.ext
    refine (Pipeline.Window.rect_emb_val win0_2 t _ 0).trans ?_
    show cc0_transform_2 (grid0.coords t) 0 * 512 + y.val = 512 * t.val + y.val
    rw [tr2, co, Nat.mul_comm]; rfl
  · apply Fin.ext
    refine (Pipeline.Window.rect_emb_val win0_2 t _ 1).trans ?_
    show 0 * 2048 + n.val = n.val
    omega
theorem blk4 (t : Fin cfg0.N) (X : S16384x2048.Idx → Elt Ideal .f32) (y : Fin 512) (n : Fin 2048) :
    ((cfg0.win 4).blk t).view.read (Elt Ideal) X (ix2 y n) = X (ix2 ⟨512 * t.val + y.val, row_lt t y⟩ n) := by
  show X ((win0_4.rect t).emb _) = _
  refine congrArg X (funext fun k => ?_)
  fin_cases k
  · apply Fin.ext
    refine (Pipeline.Window.rect_emb_val win0_4 t _ 0).trans ?_
    show cc0_transform_4 (grid0.coords t) 0 * 512 + y.val = 512 * t.val + y.val
    rw [tr4, co, Nat.mul_comm]; rfl
  · apply Fin.ext
    refine (Pipeline.Window.rect_emb_val win0_4 t _ 1).trans ?_
    show 0 * 2048 + n.val = n.val
    omega

theorem cover (i : S16384x2048.Idx) : ∃ t : Fin cfg0.N, (cfg0.win 4).flush t = true ∧ i ∈ ((cfg0.win 4).blk t).view.set := by
  have h0 : (i 0).val < 16384 := (i 0).isLt
  have h1 : (i 1).val < 2048 := (i 1).isLt
  have hN : cfg0.N = 32 := by decide
  let t : Fin cfg0.N := ⟨(i 0).val / 512, by rw [hN]; omega⟩
  have ht : t.val = (i 0).val / 512 := rfl
  have e0 := co t
  refine ⟨t, flush0_4 t, ?_⟩
  show i ∈ ((View.whole main_v5).slice (win0_4.rect t)).set
  rw [View.set_slice_whole, Rect.mem_set_unit]
  intro a
  fin_cases a
  · show cc0_transform_4 (grid0.coords t) 0 * 512 ≤ (i 0).val ∧ (i 0).val < cc0_transform_4 (grid0.coords t) 0 * 512 + 512
    rw [tr4]
    show (grid0.coords t 0).val * 512 ≤ (i 0).val ∧ (i 0).val < (grid0.coords t 0).val * 512 + 512
    omega
  · show 0 * 2048 ≤ (i 1).val ∧ (i 1).val < 0 * 2048 + 2048
    omega

/-- The array both programs end with. -/
def result : FVec Ideal S16384x2048 .f32 :=
  ref (m ((c : Thread nD τ).loc main_arg0)) (m ((c : Thread nD τ).loc main_arg1)) (m ((c : Thread nD τ).loc main_arg2))

theorem iblk_0 (t : Fin cfg0.N) (y : Fin 512) (n : Fin 2048) : iblk m c 0 t (ix2 y n)
    = (m ((c : Thread nD τ).loc main_arg0)) (ix3 ⟨(512 * t.val + y.val) / 8192, by have := row_lt t y; omega⟩ ⟨(512 * t.val + y.val) % 8192, Nat.mod_lt _ (by decide)⟩ n) := by
  refine (blk0 t (V m c main_v1) y n).trans ?_
  rw [V_v1]
  exact flat_apply _ _ _
theorem iblk_1 (t : Fin cfg0.N) (k n : Fin 2048) : iblk m c 1 t (ix2 k n) = (m ((c : Thread nD τ).loc main_arg1)) (ix2 k n) := by
  refine (congrFun (blk1 t (V m c main_v2)) _).trans ?_
  rw [V_v2]
  rfl
theorem iblk_2 (t : Fin cfg0.N) (y : Fin 512) (n : Fin 2048) : iblk m c 2 t (ix2 y n)
    = (m ((c : Thread nD τ).loc main_arg2)) (ix3 ⟨(512 * t.val + y.val) / 8192, by have := row_lt t y; omega⟩ ⟨(512 * t.val + y.val) % 8192, Nat.mod_lt _ (by decide)⟩ n) := by
  refine (blk2 t (V m c main_v3) y n).trans ?_
  rw [V_v3]
  exact flat_apply _ _ _
theorem flushed_at (t : Fin cfg0.N) (y : Fin 512) (n : Fin 2048) :
    out0_4 (iblk m c 0 t) (iblk m c 1 t) (iblk m c 2 t) (iblk m c 3 t) (ix2 y n) = ((cfg0.win 4).blk t).view.read (Elt Ideal) (result m c) (ix2 y n) := by
  rw [blk4 t (result m c), out_eq, pay_apply]
  unfold result
  rw [ref_apply]
  simp only [iblk_0, iblk_1, iblk_2]

theorem flushed_eq (t : Fin cfg0.N) (_ : (cfg0.win 4).flush t = true) :
    (dats m 0 c).flushed 4 t = ((cfg0.win 4).blk t).view.read (Elt Ideal) (result m c) := by
  rw [Value.flushed4]
  funext i
  have e : i = (ix2 (i 0) (i 1) : S512x2048.Idx) := by
    funext k
    fin_cases k <;> rfl
  rw [e]
  exact flushed_at m c t (i 0) (i 1)

theorem run_value : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((dats m 0 c).arrAt_eq_of_cover 4 (result m c) (flushed_eq m c) cover), (h c).2⟩)
    (Value.run_blocks m ρ)

end Ker

end Cert.Proof.OutPlain
end
-- ==== Proof.ProjPay.lean ====
module

public import proofs.«01_k».proof.Proof.Gen.Kernel4Ideal.Value
public import proofs.«01_k».proof.Proof.OutFinal
public import Idealize.ShloMosaic.Lib.Pipeline.ValueKit.Basic
public import Idealize.ShloMosaic.Lib.WholeRead

@[expose] public section

set_option maxRecDepth 16384

noncomputable section

/-! ## The payloads of the input projection: normed rows, products and rotated products -/

namespace Cert.Proof.ProjIn

open Idealize.ShloMosaic Idealize.ShloMosaic.TcCoe Idealize.SL.Sem
open Cert.Kernel4Ideal Cert.Kernel4Ideal.Gen

/-- The other lane of the rotation. -/
def other (n : Fin 128) : Fin 128 := ⟨(n.val + 128 - 64) % 128, Nat.mod_lt _ (by decide)⟩

theorem norm_apply (x : Vec Ideal S1024x2048 .f32) (g : Vec Ideal S1x2048 .f32) (y : Fin 1024) (c : Fin 2048) :
    k0_pay1 (F := Ideal) x g (ix2 y c) = OutFinal.normed (fun c => x (ix2 y c)) (fun c => g (ix2 0 c)) c := by
  pointwise [k0_pay1, OutFinal.normed]

theorem mm_apply (h : Vec Ideal S1024x2048 .bf16) (w : Vec Ideal S2048x256 .bf16) (y : Fin 1024) (n : Fin 256) :
    k0_pay2 (F := Ideal) h w (ix2 y n) = ∑ k : Fin 2048, h (ix2 y k) * w (ix2 k n) := by
  pointwise [k0_pay2]

/-- The first and the second half of a product's columns. -/
def lo (h : Vec Ideal S1024x2048 .bf16) (w : Vec Ideal S2048x256 .bf16) : FVec Ideal S1024x128 .f32 :=
  extractStridedSlice S1024x128 ![0, 0] (k0_pay2 h w) slices_S1024x256_o0_0_S1024x128
def hi (h : Vec Ideal S1024x2048 .bf16) (w : Vec Ideal S2048x256 .bf16) : FVec Ideal S1024x128 .f32 :=
  extractStridedSlice S1024x128 ![0, 128] (k0_pay2 h w) slices_S1024x256_o0_128_S1024x128

/-- A rotated half. -/
def turn (u : FVec Ideal S1024x128 .f32) (c s : FVec Ideal S1024x128 .f32) : FVec Ideal S1024x128 .bf16 :=
  truncf .bf16 (addf (mulf u c) (mulf (dynamicRotate 1 64#32 none u rotates_S1024x128_d1) s)) bitsLt_bf16_f32

theorem slice_lo (U : FVec Ideal S1024x256 .f32) (y : Fin 1024) (n : Fin 128) :
    extractStridedSlice S1024x128 ![0, 0] U slices_S1024x256_o0_0_S1024x128 (ix2 y n) = U (ix2 y ⟨n.val, by omega⟩) := by
  pointwise []
theorem slice_hi (U : FVec Ideal S1024x256 .f32) (y : Fin 1024) (n : Fin 128) :
    extractStridedSlice S1024x128 ![0, 128] U slices_S1024x256_o0_128_S1024x128 (ix2 y n) = U (ix2 y ⟨128 + n.val, by omega⟩) := by
  pointwise []
theorem turn_apply (u c s : FVec Ideal S1024x128 .f32) (y : Fin 1024) (n : Fin 128) :
    turn u c s (ix2 y n) = u (ix2 y n) * c (ix2 y n) + u (ix2 y (other n)) * s (ix2 y n) := by
  pointwise [turn, other]

/-- A row's product with a column of the weights. -/
def prod (h : Vec Ideal S1024x2048 .bf16) (w : Vec Ideal S2048x2048 .bf16) : FVec Ideal S1024x2048 .bf16 :=
  fun i => ∑ k : Fin 2048, h (ix2 (i 0) k) * w (ix2 k (i 1))

/-- The column that the rotation brings to a column: the other half of its group of 128. -/
def mate (n : Fin 2048) : Fin 2048 := ⟨n.val / 128 * 128 + (n.val % 128 + 128 - 64) % 128, by have := n.isLt; omega⟩

def lane (n : Fin 2048) : Fin 128 := ⟨n.val % 128, Nat.mod_lt _ (by decide)⟩

/-- The rotated products. -/
def turned (h : Vec Ideal S1024x2048 .bf16) (w : Vec Ideal S2048x2048 .bf16) (c s : FVec Ideal S1024x128 .f32) : FVec Ideal S1024x2048 .bf16 :=
  fun i => prod h w i * c (ix2 (i 0) (lane (i 1))) + prod h w (ix2 (i 0) (mate (i 1))) * s (ix2 (i 0) (lane (i 1)))

/-- A load of 256 columns of the weights. -/
def cols (w : Vec Ideal S2048x2048 .bf16) (b : Nat) (hb : b + 256 ≤ 2048) : Vec Ideal S2048x256 .bf16 :=
  fun i => w (ix2 (i 0) ⟨b + (i 1).val, by have : (i 1).val < 256 := (i 1).isLt; omega⟩)

theorem lo_apply (h : Vec Ideal S1024x2048 .bf16) (w : Vec Ideal S2048x2048 .bf16) (b : Nat) (hb : b + 256 ≤ 2048) (y : Fin 1024) (n : Fin 128) :
    lo h (cols w b hb) (ix2 y n) = prod h w (ix2 y ⟨b + n.val, by omega⟩) := by
  unfold lo
  rw [slice_lo, mm_apply]
  rfl
theorem hi_apply (h : Vec Ideal S1024x2048 .bf16) (w : Vec Ideal S2048x2048 .bf16) (b : Nat) (hb : b + 256 ≤ 2048) (y : Fin 1024) (n : Fin 128) :
    hi h (cols w b hb) (ix2 y n) = prod h w (ix2 y ⟨b + 128 + n.val, by omega⟩) := by
  unfold hi
  rw [slice_hi, mm_apply]
  refine Finset.sum_congr rfl fun k _ => congrArg _ (congrArg w (congrArg (ix2 k) (Fin.ext ?_)))
  show b + (128 + n.val) = b + 128 + n.val
  omega

theorem at_emb (e : Nat) (inb : ∀ a, (![0, e] : Fin 2 → Nat) a + S1024x128.size a ≤ S1024x2048.size a) (x : S1024x128.Idx) :
    (Rect.unit (s := S1024x2048) ![0, e] S1024x128.size inb).emb x
      = (ix2 (x 0) ⟨e + (x 1).val, by have h : (x 1).val < 128 := (x 1).isLt; have := inb 1; change e + 128 ≤ 2048 at this; omega⟩ : S1024x2048.Idx) := by
  funext a
  fin_cases a
  · apply Fin.ext
    show 0 + 1 * (x 0).val = (x 0).val
    omega
  · apply Fin.ext
    show e + 1 * (x 1).val = e + (x 1).val
    omega

theorem idx_eta (x : S1024x128.Idx) : x = (ix2 (x 0) (x 1) : S1024x128.Idx) := by
  funext k
  fin_cases k <;> rfl

theorem piece_lo (h : Vec Ideal S1024x2048 .bf16) (w : Vec Ideal S2048x2048 .bf16) (b : Nat) (hb : b + 256 ≤ 2048)
    (inb : ∀ a, (![0, b] : Fin 2 → Nat) a + S1024x128.size a ≤ S1024x2048.size a) (x : S1024x128.Idx) :
    truncf .bf16 (lo h (cols w b hb)) bitsLt_bf16_f32 x = prod h w ((Rect.unit (s := S1024x2048) ![0, b] S1024x128.size inb).emb x) := by
  rw [at_emb]
  conv_lhs => rw [idx_eta x]
  exact lo_apply h w b hb (x 0) (x 1)
theorem piece_hi (h : Vec Ideal S1024x2048 .bf16) (w : Vec Ideal S2048x2048 .bf16) (b : Nat) (hb : b + 256 ≤ 2048)
    (inb : ∀ a, (![0, b + 128] : Fin 2 → Nat) a + S1024x128.size a ≤ S1024x2048.size a) (x : S1024x128.Idx) :
    truncf .bf16 (hi h (cols w b hb)) bitsLt_bf16_f32 x = prod h w ((Rect.unit (s := S1024x2048) ![0, b + 128] S1024x128.size inb).emb x) := by
  rw [at_emb]
  conv_lhs => rw [idx_eta x]
  exact hi_apply h w b hb (x 0) (x 1)

theorem turn_ix (h : Vec Ideal S1024x2048 .bf16) (w : Vec Ideal S2048x2048 .bf16) (c s : FVec Ideal S1024x128 .f32) (u : FVec Ideal S1024x128 .f32)
    (e : Nat) (he : e % 128 = 0) (hl : e + 128 ≤ 2048) (hu : ∀ (y : Fin 1024) (n : Fin 128), u (ix2 y n) = prod h w (ix2 y ⟨e + n.val, by omega⟩))
    (y : Fin 1024) (n : Fin 128) : turn u c s (ix2 y n) = turned h w c s (ix2 y ⟨e + n.val, by omega⟩) := by
  rw [turn_apply, hu, hu]
  have e1 : lane ⟨e + n.val, by omega⟩ = n := Fin.ext (by show (e + n.val) % 128 = n.val; omega)
  have e2 : mate ⟨e + n.val, by omega⟩ = ⟨e + (other n).val, by have := (other n).isLt; omega⟩ := Fin.ext (by
    show (e + n.val) / 128 * 128 + ((e + n.val) % 128 + 128 - 64) % 128 = e + (n.val + 128 - 64) % 128
    omega)
  show _ = prod h w (ix2 y ⟨e + n.val, _⟩) * c (ix2 y (lane ⟨e + n.val, _⟩)) + prod h w (ix2 y (mate ⟨e + n.val, _⟩)) * s (ix2 y (lane ⟨e + n.val, _⟩))
  rw [e1, e2]

theorem turn_lo (h : Vec Ideal S1024x2048 .bf16) (w : Vec Ideal S2048x2048 .bf16) (c s : FVec Ideal S1024x128 .f32)
    (b : Nat) (hb : b + 256 ≤ 2048) (he : b % 128 = 0)
    (inb : ∀ a, (![0, b] : Fin 2 → Nat) a + S1024x128.size a ≤ S1024x2048.size a) (x : S1024x128.Idx) :
    turn (lo h (cols w b hb)) c s x = turned h w c s ((Rect.unit (s := S1024x2048) ![0, b] S1024x128.size inb).emb x) := by
  rw [at_emb]
  conv_lhs => rw [idx_eta x]
  exact turn_ix h w c s _ b he (by omega) (lo_apply h w b hb) (x 0) (x 1)
theorem turn_hi (h : Vec Ideal S1024x2048 .bf16) (w : Vec Ideal S2048x2048 .bf16) (c s : FVec Ideal S1024x128 .f32)
    (b : Nat) (hb : b + 256 ≤ 2048) (he : b % 128 = 0)
    (inb : ∀ a, (![0, b + 128] : Fin 2 → Nat) a + S1024x128.size a ≤ S1024x2048.size a) (x : S1024x128.Idx) :
    turn (hi h (cols w b hb)) c s x = turned h w c s ((Rect.unit (s := S1024x2048) ![0, b + 128] S1024x128.size inb).emb x) := by
  rw [at_emb]
  conv_lhs => rw [idx_eta x]
  exact turn_ix h w c s _ (b + 128) (by omega) (by omega) (hi_apply h w b hb) (x 0) (x 1)

theorem whole_rows {r : Memref sig .tc .vmem S1024x2048 .bf16} (hr : r.IsWhole) (X : Vec Ideal S1024x2048 .bf16) (inb : ∀ a, (![0, 0] : Fin 2 → Nat) a + S1024x2048.size a ≤ S1024x2048.size a) :
    View.readAt (Elt Ideal) r.view (Rect.unit (s := S1024x2048) ![0, 0] S1024x2048.size inb).toLoadRect (hr.unread X) = X := by
  funext i
  refine (hr.readAt_unread X _ i).trans (congrArg X (funext fun a => ?_))
  fin_cases a
  · exact Fin.ext (by show 0 + 1 * (i 0).val = (i 0).val; omega)
  · exact Fin.ext (by show 0 + 1 * (i 1).val = (i 1).val; omega)

theorem whole_x {r : Memref sig .tc .vmem S1024x2048 .f32} (hr : r.IsWhole) (X : Vec Ideal S1024x2048 .f32) (inb : ∀ a, (![0, 0] : Fin 2 → Nat) a + S1024x2048.size a ≤ S1024x2048.size a) :
    View.readAt (Elt Ideal) r.view (Rect.unit (s := S1024x2048) ![0, 0] S1024x2048.size inb).toLoadRect (hr.unread X) = X := by
  funext i
  refine (hr.readAt_unread X _ i).trans (congrArg X (funext fun a => ?_))
  fin_cases a
  · exact Fin.ext (by show 0 + 1 * (i 0).val = (i 0).val; omega)
  · exact Fin.ext (by show 0 + 1 * (i 1).val = (i 1).val; omega)

theorem whole_g {r : Memref sig .tc .vmem S1x2048 .f32} (hr : r.IsWhole) (X : Vec Ideal S1x2048 .f32) (inb : ∀ a, (![0, 0] : Fin 2 → Nat) a + S1x2048.size a ≤ S1x2048.size a) :
    View.readAt (Elt Ideal) r.view (Rect.unit (s := S1x2048) ![0, 0] S1x2048.size inb).toLoadRect (hr.unread X) = X := by
  funext i
  refine (hr.readAt_unread X _ i).trans (congrArg X (funext fun a => ?_))
  fin_cases a
  · exact Fin.ext (by show 0 + 1 * (i 0).val = (i 0).val; omega)
  · exact Fin.ext (by show 0 + 1 * (i 1).val = (i 1).val; omega)

theorem whole_t {r : Memref sig .tc .vmem S1024x128 .f32} (hr : r.IsWhole) (X : Vec Ideal S1024x128 .f32) (inb : ∀ a, (![0, 0] : Fin 2 → Nat) a + S1024x128.size a ≤ S1024x128.size a) :
    View.readAt (Elt Ideal) r.view (Rect.unit (s := S1024x128) ![0, 0] S1024x128.size inb).toLoadRect (hr.unread X) = X := by
  funext i
  refine (hr.readAt_unread X _ i).trans (congrArg X (funext fun a => ?_))
  fin_cases a
  · exact Fin.ext (by show 0 + 1 * (i 0).val = (i 0).val; omega)
  · exact Fin.ext (by show 0 + 1 * (i 1).val = (i 1).val; omega)

theorem cols_read {r : Memref sig .tc .vmem S2048x2048 .bf16} (hr : r.IsWhole) (X : Vec Ideal S2048x2048 .bf16) (b : Nat) (hb : b + 256 ≤ 2048)
    (inb : ∀ a, (![0, b] : Fin 2 → Nat) a + S2048x256.size a ≤ S2048x2048.size a) :
    View.readAt (Elt Ideal) r.view (Rect.unit (s := S2048x2048) ![0, b] S2048x256.size inb).toLoadRect (hr.unread X) = cols X b hb := by
  funext i
  refine (hr.readAt_unread X _ i).trans (congrArg X (funext fun a => ?_))
  fin_cases a
  · exact Fin.ext (by show 0 + 1 * (i 0).val = (i 0).val; omega)
  · exact Fin.ext (by show b + 1 * (i 1).val = b + (i 1).val; omega)

end Cert.Proof.ProjIn
end
-- ==== Proof.ProjTab.lean ====
module

public import proofs.«01_k».proof.Proof.Gen.Kernel4Ideal.Value
public import proofs.«01_k».proof.Proof.Gen.Reference4Ideal.Run
public import proofs.«01_k».proof.Proof.ProjPay
public import Idealize.ShloMosaic.Lib.Pointwise

@[expose] public section

set_option maxRecDepth 16384

noncomputable section

/-! ## The rotation's tables and the reference's rotated projections -/

namespace Cert.Proof.ProjIn

open Idealize.ShloMosaic Idealize.ShloMosaic.TcCoe Idealize.SL.Sem

section Ref
open Cert.Reference4Ideal Cert.Reference4Ideal.Gen Cert.Reference4Ideal.Facts

/-- The frequencies. -/
def freq : FVec Ideal S64 .f32 :=
  Host.powf (broadcastInDim S64 ![] bcast_S_S64 (constant S_ .f32 0x461C4000#32)) (Host.divf (Host.negf (addf (broadcastInDim S64 ![] bcast_S_S64 (constant S_ .f32 0x00000000#32)) (mulf (broadcastInDim S64 ![] bcast_S_S64 (constant S_ .f32 0x40000000#32)) (sitofp .f32 (iotaInDim S64 32 0))))) (broadcastInDim S64 ![] bcast_S_S64 (constant S_ .f32 0x43000000#32)))

/-- The angles. -/
def rAng (p : FVec Ideal S2x8192 .f32) (f : FVec Ideal S64 .f32) : FVec Ideal S2x8192x64 .f32 :=
  mulf (broadcastInDim S2x8192x64 ![0, 1, 2] bcast_S2x8192x1_S2x8192x64_0_1_2 (broadcastInDim S2x8192x1 ![0, 1] bcast_S2x8192_S2x8192x1_0_1 p)) (broadcastInDim S2x8192x64 ![0, 1, 2] bcast_S1x1x64_S2x8192x64_0_1_2 (broadcastInDim S1x1x64 ![2] bcast_S64_S1x1x64_2 f))

theorem rAng_apply (p : FVec Ideal S2x8192 .f32) (f : FVec Ideal S64 .f32) (b : Fin 2) (s : Fin 8192) (k : Fin 64) :
    rAng p f (ix3 b s k) = p (ix2 b s) * f (ix1 k) := by
  pointwise [rAng]

/-- A table given to every head. -/
def wide (c : FVec Ideal S2x8192x64 .f32) : FVec Ideal S2x8192x16x64 .f32 :=
  broadcastInDim S2x8192x16x64 ![0, 1, 2, 3] bcast_S2x8192x1x64_S2x8192x16x64_0_1_2_3 (broadcastInDim S2x8192x1x64 ![0, 1, 3] bcast_S2x8192x64_S2x8192x1x64_0_1_3 c)

theorem wide_apply (c : FVec Ideal S2x8192x64 .f32) (b : Fin 2) (s : Fin 8192) (h : Fin 16) (k : Fin 64) :
    wide c (ix4 b s h k) = c (ix3 b s k) := by
  pointwise [wide]

/-- The heads of a projection. -/
def heads (U : FVec Ideal S2x8192x2048 .f32) : FVec Ideal S2x8192x16x128 .f32 := shapeCast _ U shapeCasts_S2x8192x2048_S2x8192x16x128

theorem heads_apply (U : FVec Ideal S2x8192x2048 .f32) (b : Fin 2) (s : Fin 8192) (h : Fin 16) (k : Fin 128) :
    heads U (ix4 b s h k) = U (ix3 b s ⟨h.val * 128 + k.val, by omega⟩) := by
  pointwise [heads]

def low (U : FVec Ideal S2x8192x16x128 .f32) : FVec Ideal S2x8192x16x64 .f32 := extractStridedSlice S2x8192x16x64 ![0, 0, 0, 0] U slices_S2x8192x16x128_S2x8192x16x64_0_0_0_0
def high (U : FVec Ideal S2x8192x16x128 .f32) : FVec Ideal S2x8192x16x64 .f32 := extractStridedSlice S2x8192x16x64 ![0, 0, 0, 64] U slices_S2x8192x16x128_S2x8192x16x64_0_0_0_64

theorem low_apply (U : FVec Ideal S2x8192x16x128 .f32) (b : Fin 2) (s : Fin 8192) (h : Fin 16) (k : Fin 64) :
    low U (ix4 b s h k) = U (ix4 b s h ⟨k.val, by omega⟩) := by
  pointwise [low]
theorem high_apply (U : FVec Ideal S2x8192x16x128 .f32) (b : Fin 2) (s : Fin 8192) (h : Fin 16) (k : Fin 64) :
    high U (ix4 b s h k) = U (ix4 b s h ⟨64 + k.val, by omega⟩) := by
  pointwise [high]

/-- Two halves of every head side by side. -/
def both (a b : FVec Ideal S2x8192x16x64 .f32) : FVec Ideal S2x8192x16x128 .f32 :=
  concatenate S2x8192x16x128 3 [⟨S2x8192x16x64, a⟩, ⟨S2x8192x16x64, b⟩] concatenates_S2x8192x16x64_S2x8192x16x64_S2x8192x16x128_d3

theorem both_apply (x y : FVec Ideal S2x8192x16x64 .f32) (b : Fin 2) (s : Fin 8192) (h : Fin 16) (k : Fin 128) :
    both x y (ix4 b s h k) = if hk : k.val < 64 then x (ix4 b s h ⟨k.val, hk⟩) else y (ix4 b s h ⟨k.val - 64, by omega⟩) := by
  pointwise [both]

/-- The rotated heads. -/
def rope (U : FVec Ideal S2x8192x16x128 .f32) (c s : FVec Ideal S2x8192x16x64 .f32) : FVec Ideal S2x8192x16x128 .f32 :=
  both (subf (mulf (low U) c) (mulf (high U) s)) (addf (mulf (high U) c) (mulf (low U) s))

/-- The heads side by side again. -/
def flat (U : FVec Ideal S2x8192x16x128 .f32) : FVec Ideal S2x8192x2048 .f32 := shapeCast _ U shapeCasts_S2x8192x16x128_S2x8192x2048

theorem flat_at (U : FVec Ideal S2x8192x16x128 .f32) (b : Fin 2) (s : Fin 8192) (n : Fin 2048) :
    flat U (ix3 b s n) = U (ix4 b s ⟨n.val / 128, by omega⟩ (lane n)) := by
  pointwise [flat, lane]

/-- A column turned with the other half of its group of 128. -/
def spun (P : Fin 2048 → EReal) (C S : Fin 64 → EReal) (n : Fin 2048) : EReal :=
  P n * C ⟨n.val % 64, Nat.mod_lt _ (by decide)⟩ + P (mate n) * (if n.val % 128 < 64 then - S ⟨n.val % 64, Nat.mod_lt _ (by decide)⟩ else S ⟨n.val % 64, Nat.mod_lt _ (by decide)⟩)

theorem rope_apply (U : FVec Ideal S2x8192x2048 .f32) (c s : FVec Ideal S2x8192x64 .f32) (b : Fin 2) (q : Fin 8192) (n : Fin 2048) :
    rope (heads U) (wide c) (wide s) (ix4 b q ⟨n.val / 128, by omega⟩ (lane n))
      = spun (fun n => U (ix3 b q n)) (fun k => c (ix3 b q k)) (fun k => s (ix3 b q k)) n := by
  unfold rope spun
  rw [both_apply]
  by_cases hk : n.val % 128 < 64
  · rw [dif_pos (show (lane n).val < 64 from hk), if_pos hk]
    show low (heads U) _ * wide c _ - high (heads U) _ * wide s _ = _
    rw [low_apply, high_apply, wide_apply, wide_apply, heads_apply, heads_apply, sub_eq_add_neg, mul_neg]
    have e1 : (⟨n.val / 128 * 128 + n.val % 128, by omega⟩ : Fin 2048) = n := Fin.ext (by show n.val / 128 * 128 + n.val % 128 = n.val; omega)
    have e2 : (⟨n.val / 128 * 128 + (64 + n.val % 128), by omega⟩ : Fin 2048) = mate n := Fin.ext (by show n.val / 128 * 128 + (64 + n.val % 128) = n.val / 128 * 128 + (n.val % 128 + 128 - 64) % 128; omega)
    have e3 : (⟨n.val % 128, hk⟩ : Fin 64) = ⟨n.val % 64, Nat.mod_lt _ (by decide)⟩ := Fin.ext (by show n.val % 128 = n.val % 64; omega)
    simp only [lane, e1, e2, e3]
  · rw [dif_neg (show ¬(lane n).val < 64 from hk), if_neg hk]
    show high (heads U) _ * wide c _ + low (heads U) _ * wide s _ = _
    rw [low_apply, high_apply, wide_apply, wide_apply, heads_apply, heads_apply]
    have e1 : (⟨n.val / 128 * 128 + (64 + (n.val % 128 - 64)), by omega⟩ : Fin 2048) = n := Fin.ext (by show n.val / 128 * 128 + (64 + (n.val % 128 - 64)) = n.val; omega)
    have e2 : (⟨n.val / 128 * 128 + (n.val % 128 - 64), by omega⟩ : Fin 2048) = mate n := Fin.ext (by show n.val / 128 * 128 + (n.val % 128 - 64) = n.val / 128 * 128 + (n.val % 128 + 128 - 64) % 128; omega)
    have e3 : (⟨n.val % 128 - 64, by omega⟩ : Fin 64) = ⟨n.val % 64, Nat.mod_lt _ (by decide)⟩ := Fin.ext (by show n.val % 128 - 64 = n.val % 64; omega)
    simp only [lane, e1, e2, e3]

/-- The queries' factor. -/
def kap : EReal := Ideal.ofBits .f32 0x3E0293EE#32

theorem kap_eq : kap = ((8557550 / 67108864 : ℝ) : EReal) := by
  unfold kap
  simp [Ideal.ofBits, Ideal.ieee, -EReal.coe_mul]
  norm_num

theorem add_kap (a b : EReal) : (a + b) * kap = a * kap + b * kap := by
  rw [kap_eq]
  exact EReal.right_distrib_of_nonneg_of_ne_top (by exact_mod_cast (by norm_num : (0 : ℝ) ≤ 8557550 / 67108864)) (EReal.coe_ne_top _) a b

theorem spun_kap (P : Fin 2048 → EReal) (C S : Fin 64 → EReal) (n : Fin 2048) :
    spun P C S n * kap = P n * (C ⟨n.val % 64, Nat.mod_lt _ (by decide)⟩ * kap)
      + P (mate n) * ((if n.val % 128 < 64 then - S ⟨n.val % 64, Nat.mod_lt _ (by decide)⟩ else S ⟨n.val % 64, Nat.mod_lt _ (by decide)⟩) * kap) := by
  unfold spun
  rw [add_kap, mul_assoc, mul_assoc]

/-- Scaled heads. -/
def scaled (U : FVec Ideal S2x8192x16x128 .f32) : FVec Ideal S2x8192x16x128 .f32 :=
  mulf U (broadcastInDim S2x8192x16x128 ![] bcast_S_S2x8192x16x128 (constant S_ .f32 0x3E0293EE#32))

theorem scaled_apply (U : FVec Ideal S2x8192x16x128 .f32) (b : Fin 2) (s : Fin 8192) (h : Fin 16) (k : Fin 128) :
    scaled U (ix4 b s h k) = U (ix4 b s h k) * kap := by
  pointwise [scaled, kap]

/-- The projections. -/
def rP (X : FVec Ideal S2x8192x2048 .f32) (w : FVec Ideal S2048x8192 .f32) : FVec Ideal S2x8192x8192 .f32 :=
  Host.dotGeneral dot_S2x8192x2048_S2048x8192_S2x8192x8192_2_0_01_1_n_n none X w

theorem rP_apply (X : FVec Ideal S2x8192x2048 .f32) (w : FVec Ideal S2048x8192 .f32) (b : Fin 2) (r : Fin 8192) (n : Fin 8192) :
    rP X w (ix3 b r n) = ∑ k : Fin 2048, X (ix3 b r k) * w (ix2 k n) := by
  pointwise [rP]

def part0 (P : FVec Ideal S2x8192x8192 .f32) : FVec Ideal S2x8192x2048 .f32 := extractStridedSlice S2x8192x2048 ![0, 0, 0] P slices_S2x8192x8192_S2x8192x2048_0_0_0
def part1 (P : FVec Ideal S2x8192x8192 .f32) : FVec Ideal S2x8192x2048 .f32 := extractStridedSlice S2x8192x2048 ![0, 0, 2048] P slices_S2x8192x8192_S2x8192x2048_0_0_2048
def part2 (P : FVec Ideal S2x8192x8192 .f32) : FVec Ideal S2x8192x2048 .f32 := extractStridedSlice S2x8192x2048 ![0, 0, 4096] P slices_S2x8192x8192_S2x8192x2048_0_0_4096
def part3 (P : FVec Ideal S2x8192x8192 .f32) : FVec Ideal S2x8192x2048 .f32 := extractStridedSlice S2x8192x2048 ![0, 0, 6144] P slices_S2x8192x8192_S2x8192x2048_0_0_6144

theorem part0_apply (P : FVec Ideal S2x8192x8192 .f32) (b : Fin 2) (s : Fin 8192) (n : Fin 2048) : part0 P (ix3 b s n) = P (ix3 b s ⟨n.val, by omega⟩) := by
  pointwise [part0]
theorem part1_apply (P : FVec Ideal S2x8192x8192 .f32) (b : Fin 2) (s : Fin 8192) (n : Fin 2048) : part1 P (ix3 b s n) = P (ix3 b s ⟨2048 + n.val, by omega⟩) := by
  pointwise [part1]
theorem part2_apply (P : FVec Ideal S2x8192x8192 .f32) (b : Fin 2) (s : Fin 8192) (n : Fin 2048) : part2 P (ix3 b s n) = P (ix3 b s ⟨4096 + n.val, by omega⟩) := by
  pointwise [part2]
theorem part3_apply (P : FVec Ideal S2x8192x8192 .f32) (b : Fin 2) (s : Fin 8192) (n : Fin 2048) : part3 P (ix3 b s n) = P (ix3 b s ⟨6144 + n.val, by omega⟩) := by
  pointwise [part3]

/-- Four arrays side by side. -/
def four (A B C D : FVec Ideal S2x8192x2048 .f32) : FVec Ideal S2x8192x8192 .f32 :=
  concatenate S2x8192x8192 2 [⟨S2x8192x2048, A⟩, ⟨S2x8192x2048, B⟩, ⟨S2x8192x2048, C⟩, ⟨S2x8192x2048, D⟩] concatenates_S2x8192x2048_S2x8192x2048_S2x8192x2048_S2x8192x2048_S2x8192x8192_d2

theorem four_apply (A B C D : FVec Ideal S2x8192x2048 .f32) (b : Fin 2) (s : Fin 8192) (n : Fin 8192) :
    four A B C D (ix3 b s n) = if h : n.val < 2048 then A (ix3 b s ⟨n.val, h⟩) else if h : n.val - 2048 < 2048 then B (ix3 b s ⟨n.val - 2048, h⟩)
      else if h : n.val - 2048 - 2048 < 2048 then C (ix3 b s ⟨n.val - 2048 - 2048, h⟩) else D (ix3 b s ⟨n.val - 2048 - 2048 - 2048, by omega⟩) := by
  pointwise [four]

/-- The rows of both batches one under the other. -/
def tall (P : FVec Ideal S2x8192x8192 .f32) : FVec Ideal S16384x8192 .bf16 :=
  truncf .bf16 (shapeCast S16384x8192 P shapeCasts_S2x8192x8192_S16384x8192) bitsLt_bf16_f32

theorem tall_apply (P : FVec Ideal S2x8192x8192 .f32) (r : Fin 16384) (n : Fin 8192) :
    tall P (ix2 r n) = P (ix3 ⟨r.val / 8192, by omega⟩ ⟨r.val % 8192, Nat.mod_lt _ (by decide)⟩ n) := by
  pointwise [tall]

end Ref

end Cert.Proof.ProjIn
end
-- ==== Proof.ProjRef.lean ====
module

public import proofs.«01_k».proof.Proof.ProjTab

@[expose] public section

set_option maxRecDepth 16384

noncomputable section

/-! ## The reference's array, and the tables that the kernel is given -/

namespace Cert.Proof.ProjIn

open Idealize.ShloMosaic Idealize.ShloMosaic.TcCoe Idealize.SL.Sem

section Ref
open Cert.Reference4Ideal Cert.Reference4Ideal.Gen Cert.Reference4Ideal.Facts

/-- Cosines and sines of the angles. -/
def rCos (p : IVec S2x8192 32) : FVec Ideal S2x8192x64 .f32 := Host.cos (rAng (sitofp .f32 p) freq)
def rSin (p : IVec S2x8192 32) : FVec Ideal S2x8192x64 .f32 := Host.sin (rAng (sitofp .f32 p) freq)

/-- The reference's array from its projections. -/
def refOf (P : FVec Ideal S2x8192x8192 .f32) (c s : FVec Ideal S2x8192x64 .f32) : FVec Ideal S16384x8192 .bf16 :=
  tall (four (flat (scaled (rope (heads (part0 P)) (wide c) (wide s)))) (flat (rope (heads (part1 P)) (wide c) (wide s))) (part2 P) (part3 P))

/-- The reference's array. -/
def ref (x : FVec Ideal S2x8192x2048 .f32) (p : IVec S2x8192 32) (g : FVec Ideal S2048 .f32) (w : FVec Ideal S2048x8192 .f32) : FVec Ideal S16384x8192 .bf16 :=
  refOf (rP (OutFinal.rN x g) w) (rCos p) (rSin p)

theorem ref_is (m : (ℓ : Loc nD τ sig) → Buf (Elt Ideal) ℓ) (c : Dev nD) : Cert.Reference4Ideal.Value.res_main_v72 m c
    = ref (m ((c.tc : Thread nD τ).loc main_arg0)) (m ((c.tc : Thread nD τ).loc main_arg1)) (m ((c.tc : Thread nD τ).loc main_arg2)) (m ((c.tc : Thread nD τ).loc main_arg3)) := rfl

theorem refOf_0 (P : FVec Ideal S2x8192x8192 .f32) (c s : FVec Ideal S2x8192x64 .f32) (r : Fin 16384) (n : Fin 2048) (k : Fin 8192) (hk : k.val = n.val) :
    refOf P c s (ix2 r k) = spun (fun n => P (ix3 ⟨r.val / 8192, by omega⟩ ⟨r.val % 8192, Nat.mod_lt _ (by decide)⟩ ⟨n.val, by omega⟩))
      (fun k => c (ix3 ⟨r.val / 8192, by omega⟩ ⟨r.val % 8192, Nat.mod_lt _ (by decide)⟩ k)) (fun k => s (ix3 ⟨r.val / 8192, by omega⟩ ⟨r.val % 8192, Nat.mod_lt _ (by decide)⟩ k)) n * kap := by
  unfold refOf
  rw [tall_apply, four_apply, dif_pos (by omega)]
  have e : (⟨k.val, by omega⟩ : Fin 2048) = n := Fin.ext hk
  rw [e, flat_at, scaled_apply, rope_apply]
  simp only [part0_apply]

theorem refOf_1 (P : FVec Ideal S2x8192x8192 .f32) (c s : FVec Ideal S2x8192x64 .f32) (r : Fin 16384) (n : Fin 2048) (k : Fin 8192) (hk : k.val = 2048 + n.val) :
    refOf P c s (ix2 r k) = spun (fun n => P (ix3 ⟨r.val / 8192, by omega⟩ ⟨r.val % 8192, Nat.mod_lt _ (by decide)⟩ ⟨2048 + n.val, by omega⟩))
      (fun k => c (ix3 ⟨r.val / 8192, by omega⟩ ⟨r.val % 8192, Nat.mod_lt _ (by decide)⟩ k)) (fun k => s (ix3 ⟨r.val / 8192, by omega⟩ ⟨r.val % 8192, Nat.mod_lt _ (by decide)⟩ k)) n := by
  unfold refOf
  rw [tall_apply, four_apply, dif_neg (by omega), dif_pos (by omega)]
  have e : (⟨k.val - 2048, by omega⟩ : Fin 2048) = n := Fin.ext (by show k.val - 2048 = n.val; omega)
  rw [e, flat_at, rope_apply]
  simp only [part1_apply]

theorem refOf_2 (P : FVec Ideal S2x8192x8192 .f32) (c s : FVec Ideal S2x8192x64 .f32) (r : Fin 16384) (k : Fin 8192) (hk : 4096 ≤ k.val) :
    refOf P c s (ix2 r k) = P (ix3 ⟨r.val / 8192, by omega⟩ ⟨r.val % 8192, Nat.mod_lt _ (by decide)⟩ k) := by
  unfold refOf
  rw [tall_apply, four_apply, dif_neg (by omega), dif_neg (by omega)]
  by_cases h : k.val - 2048 - 2048 < 2048
  · rw [dif_pos h, part2_apply]
    refine congrArg P (congrArg (ix3 _ _) (Fin.ext ?_))
    show 4096 + (k.val - 2048 - 2048) = k.val
    omega
  · rw [dif_neg h, part3_apply]
    refine congrArg P (congrArg (ix3 _ _) (Fin.ext ?_))
    show 6144 + (k.val - 2048 - 2048 - 2048) = k.val
    omega

theorem proj_apply (x : FVec Ideal S2x8192x2048 .f32) (g : FVec Ideal S2048 .f32) (w : FVec Ideal S2048x8192 .f32) (b : Fin 2) (s : Fin 8192) (n : Fin 8192) :
    rP (OutFinal.rN x g) w (ix3 b s n) = ∑ k : Fin 2048, OutFinal.normed (fun c => x (ix3 b s c)) (fun c => g (ix1 c)) k * w (ix2 k n) := by
  rw [rP_apply]
  exact Finset.sum_congr rfl fun k _ => congrArg (· * _) (OutFinal.rN_apply x g b s k)

end Ref

section Ker
open Cert.Kernel4Ideal Cert.Kernel4Ideal.Gen

/-- The angles of all rows. -/
def kAng (p : FVec Ideal S2x8192 .f32) (f : FVec Ideal S64 .f32) : FVec Ideal S16384x64 .f32 :=
  mulf (broadcastInDim S16384x64 ![0, 1] bcast_S16384x1_S16384x64_0_1 (broadcastInDim S16384x1 ![0] bcast_S16384_S16384x1_0 (shapeCast S16384 p shapeCasts_S2x8192_S16384)))
    (broadcastInDim S16384x64 ![0, 1] bcast_S1x64_S16384x64_0_1 (broadcastInDim S1x64 ![1] bcast_S64_S1x64_1 f))

theorem kAng_apply (p : FVec Ideal S2x8192 .f32) (f : FVec Ideal S64 .f32) (r : Fin 16384) (k : Fin 64) :
    kAng p f (ix2 r k) = p (ix2 ⟨r.val / 8192, by omega⟩ ⟨r.val % 8192, Nat.mod_lt _ (by decide)⟩) * f (ix1 k) := by
  pointwise [kAng]

/-- Two tables side by side. -/
def pair (a b : FVec Ideal S16384x64 .f32) : FVec Ideal S16384x128 .f32 :=
  concatenate S16384x128 1 [⟨S16384x64, a⟩, ⟨S16384x64, b⟩] concatenates_S16384x64_S16384x64_S16384x128_d1

theorem pair_apply (a b : FVec Ideal S16384x64 .f32) (r : Fin 16384) (k : Fin 128) :
    pair a b (ix2 r k) = if h : k.val < 64 then a (ix2 r ⟨k.val, h⟩) else b (ix2 r ⟨k.val - 64, by omega⟩) := by
  pointwise [pair]

/-- A table as the kernel's window takes it. -/
def once (a : FVec Ideal S16384x128 .f32) : FVec Ideal S16384x128 .f32 :=
  shapeCast S16384x128 (broadcastInDim S1x16384x1x128 ![0, 1, 2, 3] bcast_S1x16384x1x128_S1x16384x1x128_0_1_2_3 (shapeCast S1x16384x1x128 a shapeCasts_S16384x128_S1x16384x1x128)) shapeCasts_S1x16384x1x128_S16384x128

theorem once_apply (a : FVec Ideal S16384x128 .f32) (r : Fin 16384) (k : Fin 128) : once a (ix2 r k) = a (ix2 r k) := by
  pointwise [once]

def kCos (p : IVec S2x8192 32) : FVec Ideal S16384x128 .f32 :=
  once (pair (Host.cos (kAng (sitofp .f32 p) freq)) (Host.cos (kAng (sitofp .f32 p) freq)))
def kSin (p : IVec S2x8192 32) : FVec Ideal S16384x128 .f32 :=
  once (pair (Host.negf (Host.sin (kAng (sitofp .f32 p) freq))) (Host.sin (kAng (sitofp .f32 p) freq)))

theorem ang_eq (p : IVec S2x8192 32) (r : Fin 16384) (k : Fin 64) :
    kAng (sitofp .f32 p) freq (ix2 r k) = rAng (sitofp .f32 p) freq (ix3 ⟨r.val / 8192, by omega⟩ ⟨r.val % 8192, Nat.mod_lt _ (by decide)⟩ k) := by
  rw [kAng_apply, rAng_apply]

theorem cos_eq (p : IVec S2x8192 32) (r : Fin 16384) (k : Fin 64) :
    Host.cos (kAng (sitofp .f32 p) freq) (ix2 r k) = rCos p (ix3 ⟨r.val / 8192, by omega⟩ ⟨r.val % 8192, Nat.mod_lt _ (by decide)⟩ k) := by
  unfold Host.cos rCos
  show FloatOps.hostUnary .cos (kAng _ freq (ix2 r k)) = FloatOps.hostUnary .cos _
  rw [ang_eq]
theorem sin_eq (p : IVec S2x8192 32) (r : Fin 16384) (k : Fin 64) :
    Host.sin (kAng (sitofp .f32 p) freq) (ix2 r k) = rSin p (ix3 ⟨r.val / 8192, by omega⟩ ⟨r.val % 8192, Nat.mod_lt _ (by decide)⟩ k) := by
  unfold Host.sin rSin
  show FloatOps.hostUnary .sin (kAng _ freq (ix2 r k)) = FloatOps.hostUnary .sin _
  rw [ang_eq]

theorem kCos_apply (p : IVec S2x8192 32) (r : Fin 16384) (n : Fin 2048) :
    kCos p (ix2 r (lane n)) = rCos p (ix3 ⟨r.val / 8192, by omega⟩ ⟨r.val % 8192, Nat.mod_lt _ (by decide)⟩ ⟨n.val % 64, Nat.mod_lt _ (by decide)⟩) := by
  unfold kCos
  rw [once_apply, pair_apply]
  by_cases hk : n.val % 128 < 64
  · rw [dif_pos (show (lane n).val < 64 from hk), cos_eq]
    have e3 : (⟨n.val % 128, hk⟩ : Fin 64) = ⟨n.val % 64, Nat.mod_lt _ (by decide)⟩ := Fin.ext (by show n.val % 128 = n.val % 64; omega)
    exact congrArg (fun z => rCos p (ix3 _ _ z)) e3
  · rw [dif_neg (show ¬(lane n).val < 64 from hk), cos_eq]
    have e3 : (⟨n.val % 128 - 64, by omega⟩ : Fin 64) = ⟨n.val % 64, Nat.mod_lt _ (by decide)⟩ := Fin.ext (by show n.val % 128 - 64 = n.val % 64; omega)
    exact congrArg (fun z => rCos p (ix3 _ _ z)) e3

theorem kSin_apply (p : IVec S2x8192 32) (r : Fin 16384) (n : Fin 2048) :
    kSin p (ix2 r (lane n)) = if n.val % 128 < 64 then - rSin p (ix3 ⟨r.val / 8192, by omega⟩ ⟨r.val % 8192, Nat.mod_lt _ (by decide)⟩ ⟨n.val % 64, Nat.mod_lt _ (by decide)⟩)
      else rSin p (ix3 ⟨r.val / 8192, by omega⟩ ⟨r.val % 8192, Nat.mod_lt _ (by decide)⟩ ⟨n.val % 64, Nat.mod_lt _ (by decide)⟩) := by
  unfold kSin
  rw [once_apply, pair_apply]
  by_cases hk : n.val % 128 < 64
  · rw [dif_pos (show (lane n).val < 64 from hk), if_pos hk]
    have e3 : (⟨n.val % 128, hk⟩ : Fin 64) = ⟨n.val % 64, Nat.mod_lt _ (by decide)⟩ := Fin.ext (by show n.val % 128 = n.val % 64; omega)
    show - (Host.sin (kAng (sitofp .f32 p) freq) (ix2 r ⟨n.val % 128, hk⟩)) = _
    rw [sin_eq, e3]
  · rw [dif_neg (show ¬(lane n).val < 64 from hk), if_neg hk, sin_eq]
    have e3 : (⟨n.val % 128 - 64, by omega⟩ : Fin 64) = ⟨n.val % 64, Nat.mod_lt _ (by decide)⟩ := Fin.ext (by show n.val % 128 - 64 = n.val % 64; omega)
    exact congrArg (fun z => rSin p (ix3 _ _ z)) e3

end Ker

end Cert.Proof.ProjIn
end
-- ==== Proof.ProjC.lean ====
module

public import proofs.«01_k».proof.Proof.ProjPay

@[expose] public section

set_option maxRecDepth 65536

noncomputable section

/-! ## A point that keeps the products -/

namespace Cert.Proof.ProjIn

open Idealize.ShloMosaic Idealize.ShloMosaic.TcCoe Idealize.SL.Sem
open Cert.Kernel4Ideal Cert.Kernel4Ideal.Gen

variable (cc : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S2048x2048 .bf16) (harg4 : arg4.IsWhole)
  (arg5 : Memref sig .tc .vmem S1024x128 .f32) (harg5 : arg5.IsWhole) (arg6 : Memref sig .tc .vmem S1024x128 .f32) (harg6 : arg6.IsWhole)
  (arg7 : Memref sig .tc .vmem S1024x2048 .bf16) (harg7 : arg7.IsWhole) (arg8 : Memref sig .tc .vmem S1024x2048 .bf16) (harg8 : arg8.IsWhole)
  (x0 : Vec Ideal S1024x2048 .f32) (x1 : Vec Ideal S1x2048 .f32) (x2 : Vec Ideal S2048x2048 .bf16) (x3 : Vec Ideal S1024x128 .f32) (x4 : Vec Ideal S1024x128 .f32)

/-- The rows that an earlier point left. -/
abbrev rows (xs0 : Vec Ideal S1024x2048 .bf16) : Vec Ideal S1024x2048 .bf16 :=
  View.readAt (Elt Ideal) arg8.view (Rect.unit (s := S1024x2048) ![0, 0] S1024x2048.size inb_S1024x2048_S1024x2048_0_0).toLoadRect (harg8.unread xs0)

theorem c_lo (xs0 : Vec Ideal S1024x2048 .bf16) (b : Nat) (hb : b + 256 ≤ 2048) (inbW : ∀ a, (![0, b] : Fin 2 → Nat) a + S2048x256.size a ≤ S2048x2048.size a)
    (inb : ∀ a, (![0, b] : Fin 2 → Nat) a + S1024x128.size a ≤ S1024x2048.size a) (P : S1024x128.Idx → Elt Ideal .bf16)
    (hP : P = truncf (F := Ideal) .bf16 (lo (rows arg8 harg8 xs0) (View.readAt (Elt Ideal) arg4.view (Rect.unit (s := S2048x2048) ![0, b] S2048x256.size inbW).toLoadRect (harg4.unread x2))) bitsLt_bf16_f32) (x : S1024x128.Idx) :
    P x = prod xs0 x2 ((Rect.unit (s := S1024x2048) ![0, b] S1024x128.size inb).emb x) := by
  rw [hP]
  unfold rows
  rw [whole_rows harg8 xs0, cols_read harg4 x2 b hb]
  exact piece_lo xs0 x2 b hb inb x
theorem c_hi (xs0 : Vec Ideal S1024x2048 .bf16) (b : Nat) (hb : b + 256 ≤ 2048) (inbW : ∀ a, (![0, b] : Fin 2 → Nat) a + S2048x256.size a ≤ S2048x2048.size a)
    (inb : ∀ a, (![0, b + 128] : Fin 2 → Nat) a + S1024x128.size a ≤ S1024x2048.size a) (P : S1024x128.Idx → Elt Ideal .bf16)
    (hP : P = truncf (F := Ideal) .bf16 (hi (rows arg8 harg8 xs0) (View.readAt (Elt Ideal) arg4.view (Rect.unit (s := S2048x2048) ![0, b] S2048x256.size inbW).toLoadRect (harg4.unread x2))) bitsLt_bf16_f32) (x : S1024x128.Idx) :
    P x = prod xs0 x2 ((Rect.unit (s := S1024x2048) ![0, b + 128] S1024x128.size inb).emb x) := by
  rw [hP]
  unfold rows
  rw [whole_rows harg8 xs0, cols_read harg4 x2 b hb]
  exact piece_hi xs0 x2 b hb inb x

set_option maxHeartbeats 1000000 in
theorem pieces_c (hc0 : ¬cond0_0 i) (hc1 : ¬cond0_1 i) (hc2 : ¬cond0_2 i) (hc3 : cond0_3 i) (xs0 : Vec Ideal S1024x2048 .bf16) :
    ∀ p ∈ (kernelRun0_C (F := Ideal) cc i arg2 harg2 arg3 harg3 arg4 harg4 arg5 harg5 arg6 harg6 arg7 harg7 arg8 harg8 hc0 hc1 hc2 hc3 x0 x1 x2 x3 x4 xs0).1,
      ∀ x : p.1.shape.Idx, p.2 x = prod xs0 x2 (p.1.emb x) := by
  unfold kernelRun0_C
  dsimp only
  refine List.forall_mem_cons.mpr ⟨fun x => c_hi arg4 harg4 arg8 harg8 x2 xs0 1792 (by decide) inb_S2048x2048_S2048x256_0_1792 inb_S1024x2048_S1024x128_0_1920 _ rfl x, ?_⟩
  refine List.forall_mem_cons.mpr ⟨fun x => c_lo arg4 harg4 arg8 harg8 x2 xs0 1792 (by decide) inb_S2048x2048_S2048x256_0_1792 inb_S1024x2048_S1024x128_0_1792 _ rfl x, ?_⟩
  refine List.forall_mem_cons.mpr ⟨fun x => c_hi arg4 harg4 arg8 harg8 x2 xs0 1536 (by decide) inb_S2048x2048_S2048x256_0_1536 inb_S1024x2048_S1024x128_0_1664 _ rfl x, ?_⟩
  refine List.forall_mem_cons.mpr ⟨fun x => c_lo arg4 harg4 arg8 harg8 x2 xs0 1536 (by decide) inb_S2048x2048_S2048x256_0_1536 inb_S1024x2048_S1024x128_0_1536 _ rfl x, ?_⟩
  refine List.forall_mem_cons.mpr ⟨fun x => c_hi arg4 harg4 arg8 harg8 x2 xs0 1280 (by decide) inb_S2048x2048_S2048x256_0_1280 inb_S1024x2048_S1024x128_0_1408 _ rfl x, ?_⟩
  refine List.forall_mem_cons.mpr ⟨fun x => c_lo arg4 harg4 arg8 harg8 x2 xs0 1280 (by decide) inb_S2048x2048_S2048x256_0_1280 inb_S1024x2048_S1024x128_0_1280 _ rfl x, ?_⟩
  refine List.forall_mem_cons.mpr ⟨fun x => c_hi arg4 harg4 arg8 harg8 x2 xs0 1024 (by decide) inb_S2048x2048_S2048x256_0_1024 inb_S1024x2048_S1024x128_0_1152 _ rfl x, ?_⟩
  refine List.forall_mem_cons.mpr ⟨fun x => c_lo arg4 harg4 arg8 harg8 x2 xs0 1024 (by decide) inb_S2048x2048_S2048x256_0_1024 inb_S1024x2048_S1024x128_0_1024 _ rfl x, ?_⟩
  refine List.forall_mem_cons.mpr ⟨fun x => c_hi arg4 harg4 arg8 harg8 x2 xs0 768 (by decide) inb_S2048x2048_S2048x256_0_768 inb_S1024x2048_S1024x128_0_896 _ rfl x, ?_⟩
  refine List.forall_mem_cons.mpr ⟨fun x => c_lo arg4 harg4 arg8 harg8 x2 xs0 768 (by decide) inb_S2048x2048_S2048x256_0_768 inb_S1024x2048_S1024x128_0_768 _ rfl x, ?_⟩
  refine List.forall_mem_cons.mpr ⟨fun x => c_hi arg4 harg4 arg8 harg8 x2 xs0 512 (by decide) inb_S2048x2048_S2048x256_0_512 inb_S1024x2048_S1024x128_0_640 _ rfl x, ?_⟩
  refine List.forall_mem_cons.mpr ⟨fun x => c_lo arg4 harg4 arg8 harg8 x2 xs0 512 (by decide) inb_S2048x2048_S2048x256_0_512 inb_S1024x2048_S1024x128_0_512 _ rfl x, ?_⟩
  refine List.forall_mem_cons.mpr ⟨fun x => c_hi arg4 harg4 arg8 harg8 x2 xs0 256 (by decide) inb_S2048x2048_S2048x256_0_256 inb_S1024x2048_S1024x128_0_384 _ rfl x, ?_⟩
  refine List.forall_mem_cons.mpr ⟨fun x => c_lo arg4 harg4 arg8 harg8 x2 xs0 256 (by decide) inb_S2048x2048_S2048x256_0_256 inb_S1024x2048_S1024x128_0_256 _ rfl x, ?_⟩
  refine List.forall_mem_cons.mpr ⟨fun x => c_hi arg4 harg4 arg8 harg8 x2 xs0 0 (by decide) inb_S2048x2048_S2048x256_0_0 inb_S1024x2048_S1024x128_0_128 _ rfl x, ?_⟩
  refine List.forall_mem_cons.mpr ⟨fun x => c_lo arg4 harg4 arg8 harg8 x2 xs0 0 (by decide) inb_S2048x2048_S2048x256_0_0 inb_S1024x2048_S1024x128_0_0 _ rfl x, ?_⟩
  exact fun p hp => absurd hp List.not_mem_nil

theorem out_c (hc0 : ¬cond0_0 i) (hc1 : ¬cond0_1 i) (hc2 : ¬cond0_2 i) (hc3 : cond0_3 i) (xs0 : Vec Ideal S1024x2048 .bf16) :
    out0_C_5 (F := Ideal) cc i arg2 harg2 arg3 harg3 arg4 harg4 arg5 harg5 arg6 harg6 arg7 harg7 arg8 harg8 hc0 hc1 hc2 hc3 x0 x1 x2 x3 x4 xs0 = prod xs0 x2 := by
  unfold out0_C_5
  rw [View.read_writes_junk_eq_canon]
  funext y
  exact View.canon_apply_of_pieces _ _ (pieces_c cc i arg2 harg2 arg3 harg3 arg4 harg4 arg5 harg5 arg6 harg6 arg7 harg7 arg8 harg8 x0 x1 x2 x3 x4 hc0 hc1 hc2 hc3 xs0) y
    (cover0_C_5 cc i arg2 harg2 arg3 harg3 arg4 harg4 arg5 harg5 arg6 harg6 arg7 harg7 arg8 harg8 hc0 hc1 hc2 hc3 x0 x1 x2 x3 x4 xs0 y)

end Cert.Proof.ProjIn
end
-- ==== Proof.ProjA.lean ====
module

public import proofs.«01_k».proof.Proof.ProjC

@[expose] public section

set_option maxRecDepth 65536

noncomputable section

/-! ## A point that norms the rows and rotates the queries' products -/

namespace Cert.Proof.ProjIn

open Idealize.ShloMosaic Idealize.ShloMosaic.TcCoe Idealize.SL.Sem
open Cert.Kernel4Ideal Cert.Kernel4Ideal.Gen

variable (cc : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S2048x2048 .bf16) (harg4 : arg4.IsWhole)
  (arg5 : Memref sig .tc .vmem S1024x128 .f32) (harg5 : arg5.IsWhole) (arg6 : Memref sig .tc .vmem S1024x128 .f32) (harg6 : arg6.IsWhole)
  (arg7 : Memref sig .tc .vmem S1024x2048 .bf16) (harg7 : arg7.IsWhole) (arg8 : Memref sig .tc .vmem S1024x2048 .bf16) (harg8 : arg8.IsWhole)
  (x0 : Vec Ideal S1024x2048 .f32) (x1 : Vec Ideal S1x2048 .f32) (x2 : Vec Ideal S2048x2048 .bf16) (x3 : Vec Ideal S1024x128 .f32) (x4 : Vec Ideal S1024x128 .f32)

/-- The two tables as this point reads them. -/
abbrev cos_a : FVec Ideal S1024x128 .f32 :=
  k0_pay12 (View.readAt (Elt Ideal) arg5.view (Rect.unit (s := S1024x128) ![0, 0] S1024x128.size inb_S1024x128_S1024x128_0_0).toLoadRect (harg5.unread x3))
abbrev sin_a : FVec Ideal S1024x128 .f32 :=
  k0_pay13 (View.readAt (Elt Ideal) arg6.view (Rect.unit (s := S1024x128) ![0, 0] S1024x128.size inb_S1024x128_S1024x128_0_0).toLoadRect (harg6.unread x4))

theorem rows_a : kernelRun0_A.sl.v18 (F := Ideal) cc arg2 harg2 arg3 harg3 arg8 x0 x1 = k0_pay1 x0 x1 := by
  unfold kernelRun0_A.sl.v18 kernelRun0_A.sl.HS0_1
  rw [View.readCov_cons_toLoadRect]
  exact congrArg₂ k0_pay1 (whole_x harg2 x0 _) (whole_g harg3 x1 _)

theorem a_lo (b : Nat) (hb : b + 256 ≤ 2048) (he : b % 128 = 0) (inbW : ∀ a, (![0, b] : Fin 2 → Nat) a + S2048x256.size a ≤ S2048x2048.size a)
    (inb : ∀ a, (![0, b] : Fin 2 → Nat) a + S1024x128.size a ≤ S1024x2048.size a) (P : S1024x128.Idx → Elt Ideal .bf16)
    (hP : P = turn (lo (kernelRun0_A.sl.v18 (F := Ideal) cc arg2 harg2 arg3 harg3 arg8 x0 x1) (View.readAt (Elt Ideal) arg4.view (Rect.unit (s := S2048x2048) ![0, b] S2048x256.size inbW).toLoadRect (harg4.unread x2))) (cos_a arg5 harg5 x3) (sin_a arg6 harg6 x4)) (x : S1024x128.Idx) :
    P x = turned (k0_pay1 x0 x1) x2 (k0_pay12 x3) (k0_pay13 x4) ((Rect.unit (s := S1024x2048) ![0, b] S1024x128.size inb).emb x) := by
  rw [hP]
  unfold cos_a sin_a
  rw [rows_a, cols_read harg4 x2 b hb, whole_t harg5 x3, whole_t harg6 x4]
  exact turn_lo (k0_pay1 x0 x1) x2 _ _ b hb he inb x

theorem a_hi (b : Nat) (hb : b + 256 ≤ 2048) (he : b % 128 = 0) (inbW : ∀ a, (![0, b] : Fin 2 → Nat) a + S2048x256.size a ≤ S2048x2048.size a)
    (inb : ∀ a, (![0, b + 128] : Fin 2 → Nat) a + S1024x128.size a ≤ S1024x2048.size a) (P : S1024x128.Idx → Elt Ideal .bf16)
    (hP : P = turn (hi (kernelRun0_A.sl.v18 (F := Ideal) cc arg2 harg2 arg3 harg3 arg8 x0 x1) (View.readAt (Elt Ideal) arg4.view (Rect.unit (s := S2048x2048) ![0, b] S2048x256.size inbW).toLoadRect (harg4.unread x2))) (cos_a arg5 harg5 x3) (sin_a arg6 harg6 x4)) (x : S1024x128.Idx) :
    P x = turned (k0_pay1 x0 x1) x2 (k0_pay12 x3) (k0_pay13 x4) ((Rect.unit (s := S1024x2048) ![0, b + 128] S1024x128.size inb).emb x) := by
  rw [hP]
  unfold cos_a sin_a
  rw [rows_a, cols_read harg4 x2 b hb, whole_t harg5 x3, whole_t harg6 x4]
  exact turn_hi (k0_pay1 x0 x1) x2 _ _ b hb he inb x

set_option maxHeartbeats 1000000 in
theorem pieces_a (hc0 : cond0_0 i) (hc1 : cond0_1 i) (hc2 : ¬cond0_2 i) (hc3 : ¬cond0_3 i) :
    ∀ p ∈ (kernelRun0_A (F := Ideal) cc i arg2 harg2 arg3 harg3 arg4 harg4 arg5 harg5 arg6 harg6 arg7 harg7 arg8 harg8 hc0 hc1 hc2 hc3 x0 x1 x2 x3 x4).1, ∀ x : p.1.shape.Idx, p.2 x = turned (k0_pay1 x0 x1) x2 (k0_pay12 x3) (k0_pay13 x4) (p.1.emb x) := by
  unfold kernelRun0_A
  dsimp only
  refine List.forall_mem_cons.mpr ⟨fun x => a_hi cc arg2 harg2 arg3 harg3 arg4 harg4 arg5 harg5 arg6 harg6 arg8 x0 x1 x2 x3 x4 1792 (by decide) (by decide) inb_S2048x2048_S2048x256_0_1792 inb_S1024x2048_S1024x128_0_1920 _ rfl x, ?_⟩
  refine List.forall_mem_cons.mpr ⟨fun x => a_lo cc arg2 harg2 arg3 harg3 arg4 harg4 arg5 harg5 arg6 harg6 arg8 x0 x1 x2 x3 x4 1792 (by decide) (by decide) inb_S2048x2048_S2048x256_0_1792 inb_S1024x2048_S1024x128_0_1792 _ rfl x, ?_⟩
  refine List.forall_mem_cons.mpr ⟨fun x => a_hi cc arg2 harg2 arg3 harg3 arg4 harg4 arg5 harg5 arg6 harg6 arg8 x0 x1 x2 x3 x4 1536 (by decide) (by decide) inb_S2048x2048_S2048x256_0_1536 inb_S1024x2048_S1024x128_0_1664 _ rfl x, ?_⟩
  refine List.forall_mem_cons.mpr ⟨fun x => a_lo cc arg2 harg2 arg3 harg3 arg4 harg4 arg5 harg5 arg6 harg6 arg8 x0 x1 x2 x3 x4 1536 (by decide) (by decide) inb_S2048x2048_S2048x256_0_1536 inb_S1024x2048_S1024x128_0_1536 _ rfl x, ?_⟩
  refine List.forall_mem_cons.mpr ⟨fun x => a_hi cc arg2 harg2 arg3 harg3 arg4 harg4 arg5 harg5 arg6 harg6 arg8 x0 x1 x2 x3 x4 1280 (by decide) (by decide) inb_S2048x2048_S2048x256_0_1280 inb_S1024x2048_S1024x128_0_1408 _ rfl x, ?_⟩
  refine List.forall_mem_cons.mpr ⟨fun x => a_lo cc arg2 harg2 arg3 harg3 arg4 harg4 arg5 harg5 arg6 harg6 arg8 x0 x1 x2 x3 x4 1280 (by decide) (by decide) inb_S2048x2048_S2048x256_0_1280 inb_S1024x2048_S1024x128_0_1280 _ rfl x, ?_⟩
  refine List.forall_mem_cons.mpr ⟨fun x => a_hi cc arg2 harg2 arg3 harg3 arg4 harg4 arg5 harg5 arg6 harg6 arg8 x0 x1 x2 x3 x4 1024 (by decide) (by decide) inb_S2048x2048_S2048x256_0_1024 inb_S1024x2048_S1024x128_0_1152 _ rfl x, ?_⟩
  refine List.forall_mem_cons.mpr ⟨fun x => a_lo cc arg2 harg2 arg3 harg3 arg4 harg4 arg5 harg5 arg6 harg6 arg8 x0 x1 x2 x3 x4 1024 (by decide) (by decide) inb_S2048x2048_S2048x256_0_1024 inb_S1024x2048_S1024x128_0_1024 _ rfl x, ?_⟩
  refine List.forall_mem_cons.mpr ⟨fun x => a_hi cc arg2 harg2 arg3 harg3 arg4 harg4 arg5 harg5 arg6 harg6 arg8 x0 x1 x2 x3 x4 768 (by decide) (by decide) inb_S2048x2048_S2048x256_0_768 inb_S1024x2048_S1024x128_0_896 _ rfl x, ?_⟩
  refine List.forall_mem_cons.mpr ⟨fun x => a_lo cc arg2 harg2 arg3 harg3 arg4 harg4 arg5 harg5 arg6 harg6 arg8 x0 x1 x2 x3 x4 768 (by decide) (by decide) inb_S2048x2048_S2048x256_0_768 inb_S1024x2048_S1024x128_0_768 _ rfl x, ?_⟩
  refine List.forall_mem_cons.mpr ⟨fun x => a_hi cc arg2 harg2 arg3 harg3 arg4 harg4 arg5 harg5 arg6 harg6 arg8 x0 x1 x2 x3 x4 512 (by decide) (by decide) inb_S2048x2048_S2048x256_0_512 inb_S1024x2048_S1024x128_0_640 _ rfl x, ?_⟩
  refine List.forall_mem_cons.mpr ⟨fun x => a_lo cc arg2 harg2 arg3 harg3 arg4 harg4 arg5 harg5 arg6 harg6 arg8 x0 x1 x2 x3 x4 512 (by decide) (by decide) inb_S2048x2048_S2048x256_0_512 inb_S1024x2048_S1024x128_0_512 _ rfl x, ?_⟩
  refine List.forall_mem_cons.mpr ⟨fun x => a_hi cc arg2 harg2 arg3 harg3 arg4 harg4 arg5 harg5 arg6 harg6 arg8 x0 x1 x2 x3 x4 256 (by decide) (by decide) inb_S2048x2048_S2048x256_0_256 inb_S1024x2048_S1024x128_0_384 _ rfl x, ?_⟩
  refine List.forall_mem_cons.mpr ⟨fun x => a_lo cc arg2 harg2 arg3 harg3 arg4 harg4 arg5 harg5 arg6 harg6 arg8 x0 x1 x2 x3 x4 256 (by decide) (by decide) inb_S2048x2048_S2048x256_0_256 inb_S1024x2048_S1024x128_0_256 _ rfl x, ?_⟩
  refine List.forall_mem_cons.mpr ⟨fun x => a_hi cc arg2 harg2 arg3 harg3 arg4 harg4 arg5 harg5 arg6 harg6 arg8 x0 x1 x2 x3 x4 0 (by decide) (by decide) inb_S2048x2048_S2048x256_0_0 inb_S1024x2048_S1024x128_0_128 _ rfl x, ?_⟩
  refine List.forall_mem_cons.mpr ⟨fun x => a_lo cc arg2 harg2 arg3 harg3 arg4 harg4 arg5 harg5 arg6 harg6 arg8 x0 x1 x2 x3 x4 0 (by decide) (by decide) inb_S2048x2048_S2048x256_0_0 inb_S1024x2048_S1024x128_0_0 _ rfl x, ?_⟩
  exact fun p hp => absurd hp List.not_mem_nil

theorem out_a (hc0 : cond0_0 i) (hc1 : cond0_1 i) (hc2 : ¬cond0_2 i) (hc3 : ¬cond0_3 i) :
    out0_A_5 (F := Ideal) cc i arg2 harg2 arg3 harg3 arg4 harg4 arg5 harg5 arg6 harg6 arg7 harg7 arg8 harg8 hc0 hc1 hc2 hc3 x0 x1 x2 x3 x4 = turned (k0_pay1 x0 x1) x2 (k0_pay12 x3) (k0_pay13 x4) := by
  unfold out0_A_5
  rw [View.read_writes_junk_eq_canon]
  funext y
  exact View.canon_apply_of_pieces _ _ (pieces_a cc i arg2 harg2 arg3 harg3 arg4 harg4 arg5 harg5 arg6 harg6 arg7 harg7 arg8 harg8 x0 x1 x2 x3 x4 hc0 hc1 hc2 hc3) y
    (cover0_A_5 cc i arg2 harg2 arg3 harg3 arg4 harg4 arg5 harg5 arg6 harg6 arg7 harg7 arg8 harg8 hc0 hc1 hc2 hc3 x0 x1 x2 x3 x4 y)

theorem left_a (hc0 : cond0_0 i) (hc1 : cond0_1 i) (hc2 : ¬cond0_2 i) (hc3 : ¬cond0_3 i) :
    sout0_A_0 (F := Ideal) cc i arg2 harg2 arg3 harg3 arg4 harg4 arg5 harg5 arg6 harg6 arg7 harg7 arg8 harg8 hc0 hc1 hc2 hc3 x0 x1 x2 x3 x4 = k0_pay1 x0 x1 := by
  unfold sout0_A_0
  rw [View.read_writes_junk_eq_canon]
  unfold kernelRun0_A
  dsimp only
  unfold kernelRun0_A.sl.HS0_1
  rw [View.canon_cons_unit_lit _ _ _ (by decide)]
  exact congrArg₂ k0_pay1 (whole_x harg2 x0 _) (whole_g harg3 x1 _)

end Cert.Proof.ProjIn
end
-- ==== Proof.ProjB.lean ====
module

public import proofs.«01_k».proof.Proof.ProjC

@[expose] public section

set_option maxRecDepth 65536

noncomputable section

/-! ## A point that rotates the keys' products -/

namespace Cert.Proof.ProjIn

open Idealize.ShloMosaic Idealize.ShloMosaic.TcCoe Idealize.SL.Sem
open Cert.Kernel4Ideal Cert.Kernel4Ideal.Gen

variable (cc : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S2048x2048 .bf16) (harg4 : arg4.IsWhole)
  (arg5 : Memref sig .tc .vmem S1024x128 .f32) (harg5 : arg5.IsWhole) (arg6 : Memref sig .tc .vmem S1024x128 .f32) (harg6 : arg6.IsWhole)
  (arg7 : Memref sig .tc .vmem S1024x2048 .bf16) (harg7 : arg7.IsWhole) (arg8 : Memref sig .tc .vmem S1024x2048 .bf16) (harg8 : arg8.IsWhole)
  (x0 : Vec Ideal S1024x2048 .f32) (x1 : Vec Ideal S1x2048 .f32) (x2 : Vec Ideal S2048x2048 .bf16) (x3 : Vec Ideal S1024x128 .f32) (x4 : Vec Ideal S1024x128 .f32)

/-- The two tables as this point reads them. -/
abbrev cos_b : FVec Ideal S1024x128 .f32 :=
  k0_pay40 (View.readAt (Elt Ideal) arg5.view (Rect.unit (s := S1024x128) ![0, 0] S1024x128.size inb_S1024x128_S1024x128_0_0).toLoadRect (harg5.unread x3))
abbrev sin_b : FVec Ideal S1024x128 .f32 :=
  k0_pay41 (View.readAt (Elt Ideal) arg6.view (Rect.unit (s := S1024x128) ![0, 0] S1024x128.size inb_S1024x128_S1024x128_0_0).toLoadRect (harg6.unread x4))

theorem b_lo (xs0 : Vec Ideal S1024x2048 .bf16) (b : Nat) (hb : b + 256 ≤ 2048) (he : b % 128 = 0) (inbW : ∀ a, (![0, b] : Fin 2 → Nat) a + S2048x256.size a ≤ S2048x2048.size a)
    (inb : ∀ a, (![0, b] : Fin 2 → Nat) a + S1024x128.size a ≤ S1024x2048.size a) (P : S1024x128.Idx → Elt Ideal .bf16)
    (hP : P = turn (lo (rows arg8 harg8 xs0) (View.readAt (Elt Ideal) arg4.view (Rect.unit (s := S2048x2048) ![0, b] S2048x256.size inbW).toLoadRect (harg4.unread x2))) (cos_b arg5 harg5 x3) (sin_b arg6 harg6 x4)) (x : S1024x128.Idx) :
    P x = turned xs0 x2 (k0_pay40 x3) (k0_pay41 x4) ((Rect.unit (s := S1024x2048) ![0, b] S1024x128.size inb).emb x) := by
  rw [hP]
  unfold cos_b sin_b
  unfold rows
  rw [whole_rows harg8 xs0, cols_read harg4 x2 b hb, whole_t harg5 x3, whole_t harg6 x4]
  exact turn_lo xs0 x2 _ _ b hb he inb x

theorem b_hi (xs0 : Vec Ideal S1024x2048 .bf16) (b : Nat) (hb : b + 256 ≤ 2048) (he : b % 128 = 0) (inbW : ∀ a, (![0, b] : Fin 2 → Nat) a + S2048x256.size a ≤ S2048x2048.size a)
    (inb : ∀ a, (![0, b + 128] : Fin 2 → Nat) a + S1024x128.size a ≤ S1024x2048.size a) (P : S1024x128.Idx → Elt Ideal .bf16)
    (hP : P = turn (hi (rows arg8 harg8 xs0) (View.readAt (Elt Ideal) arg4.view (Rect.unit (s := S2048x2048) ![0, b] S2048x256.size inbW).toLoadRect (harg4.unread x2))) (cos_b arg5 harg5 x3) (sin_b arg6 harg6 x4)) (x : S1024x128.Idx) :
    P x = turned xs0 x2 (k0_pay40 x3) (k0_pay41 x4) ((Rect.unit (s := S1024x2048) ![0, b + 128] S1024x128.size inb).emb x) := by
  rw [hP]
  unfold cos_b sin_b
  unfold rows
  rw [whole_rows harg8 xs0, cols_read harg4 x2 b hb, whole_t harg5 x3, whole_t harg6 x4]
  exact turn_hi xs0 x2 _ _ b hb he inb x

set_option maxHeartbeats 1000000 in
theorem pieces_b (hc0 : ¬cond0_0 i) (hc1 : ¬cond0_1 i) (hc2 : cond0_2 i) (hc3 : ¬cond0_3 i) (xs0 : Vec Ideal S1024x2048 .bf16) :
    ∀ p ∈ (kernelRun0_B (F := Ideal) cc i arg2 harg2 arg3 harg3 arg4 harg4 arg5 harg5 arg6 harg6 arg7 harg7 arg8 harg8 hc0 hc1 hc2 hc3 x0 x1 x2 x3 x4 xs0).1, ∀ x : p.1.shape.Idx, p.2 x = turned xs0 x2 (k0_pay40 x3) (k0_pay41 x4) (p.1.emb x) := by
  unfold kernelRun0_B
  dsimp only
  refine List.forall_mem_cons.mpr ⟨fun x => b_hi arg4 harg4 arg5 harg5 arg6 harg6 arg8 harg8 x2 x3 x4 xs0 1792 (by decide) (by decide) inb_S2048x2048_S2048x256_0_1792 inb_S1024x2048_S1024x128_0_1920 _ rfl x, ?_⟩
  refine List.forall_mem_cons.mpr ⟨fun x => b_lo arg4 harg4 arg5 harg5 arg6 harg6 arg8 harg8 x2 x3 x4 xs0 1792 (by decide) (by decide) inb_S2048x2048_S2048x256_0_1792 inb_S1024x2048_S1024x128_0_1792 _ rfl x, ?_⟩
  refine List.forall_mem_cons.mpr ⟨fun x => b_hi arg4 harg4 arg5 harg5 arg6 harg6 arg8 harg8 x2 x3 x4 xs0 1536 (by decide) (by decide) inb_S2048x2048_S2048x256_0_1536 inb_S1024x2048_S1024x128_0_1664 _ rfl x, ?_⟩
  refine List.forall_mem_cons.mpr ⟨fun x => b_lo arg4 harg4 arg5 harg5 arg6 harg6 arg8 harg8 x2 x3 x4 xs0 1536 (by decide) (by decide) inb_S2048x2048_S2048x256_0_1536 inb_S1024x2048_S1024x128_0_1536 _ rfl x, ?_⟩
  refine List.forall_mem_cons.mpr ⟨fun x => b_hi arg4 harg4 arg5 harg5 arg6 harg6 arg8 harg8 x2 x3 x4 xs0 1280 (by decide) (by decide) inb_S2048x2048_S2048x256_0_1280 inb_S1024x2048_S1024x128_0_1408 _ rfl x, ?_⟩
  refine List.forall_mem_cons.mpr ⟨fun x => b_lo arg4 harg4 arg5 harg5 arg6 harg6 arg8 harg8 x2 x3 x4 xs0 1280 (by decide) (by decide) inb_S2048x2048_S2048x256_0_1280 inb_S1024x2048_S1024x128_0_1280 _ rfl x, ?_⟩
  refine List.forall_mem_cons.mpr ⟨fun x => b_hi arg4 harg4 arg5 harg5 arg6 harg6 arg8 harg8 x2 x3 x4 xs0 1024 (by decide) (by decide) inb_S2048x2048_S2048x256_0_1024 inb_S1024x2048_S1024x128_0_1152 _ rfl x, ?_⟩
  refine List.forall_mem_cons.mpr ⟨fun x => b_lo arg4 harg4 arg5 harg5 arg6 harg6 arg8 harg8 x2 x3 x4 xs0 1024 (by decide) (by decide) inb_S2048x2048_S2048x256_0_1024 inb_S1024x2048_S1024x128_0_1024 _ rfl x, ?_⟩
  refine List.forall_mem_cons.mpr ⟨fun x => b_hi arg4 harg4 arg5 harg5 arg6 harg6 arg8 harg8 x2 x3 x4 xs0 768 (by decide) (by decide) inb_S2048x2048_S2048x256_0_768 inb_S1024x2048_S1024x128_0_896 _ rfl x, ?_⟩
  refine List.forall_mem_cons.mpr ⟨fun x => b_lo arg4 harg4 arg5 harg5 arg6 harg6 arg8 harg8 x2 x3 x4 xs0 768 (by decide) (by decide) inb_S2048x2048_S2048x256_0_768 inb_S1024x2048_S1024x128_0_768 _ rfl x, ?_⟩
  refine List.forall_mem_cons.mpr ⟨fun x => b_hi arg4 harg4 arg5 harg5 arg6 harg6 arg8 harg8 x2 x3 x4 xs0 512 (by decide) (by decide) inb_S2048x2048_S2048x256_0_512 inb_S1024x2048_S1024x128_0_640 _ rfl x, ?_⟩
  refine List.forall_mem_cons.mpr ⟨fun x => b_lo arg4 harg4 arg5 harg5 arg6 harg6 arg8 harg8 x2 x3 x4 xs0 512 (by decide) (by decide) inb_S2048x2048_S2048x256_0_512 inb_S1024x2048_S1024x128_0_512 _ rfl x, ?_⟩
  refine List.forall_mem_cons.mpr ⟨fun x => b_hi arg4 harg4 arg5 harg5 arg6 harg6 arg8 harg8 x2 x3 x4 xs0 256 (by decide) (by decide) inb_S2048x2048_S2048x256_0_256 inb_S1024x2048_S1024x128_0_384 _ rfl x, ?_⟩
  refine List.forall_mem_cons.mpr ⟨fun x => b_lo arg4 harg4 arg5 harg5 arg6 harg6 arg8 harg8 x2 x3 x4 xs0 256 (by decide) (by decide) inb_S2048x2048_S2048x256_0_256 inb_S1024x2048_S1024x128_0_256 _ rfl x, ?_⟩
  refine List.forall_mem_cons.mpr ⟨fun x => b_hi arg4 harg4 arg5 harg5 arg6 harg6 arg8 harg8 x2 x3 x4 xs0 0 (by decide) (by decide) inb_S2048x2048_S2048x256_0_0 inb_S1024x2048_S1024x128_0_128 _ rfl x, ?_⟩
  refine List.forall_mem_cons.mpr ⟨fun x => b_lo arg4 harg4 arg5 harg5 arg6 harg6 arg8 harg8 x2 x3 x4 xs0 0 (by decide) (by decide) inb_S2048x2048_S2048x256_0_0 inb_S1024x2048_S1024x128_0_0 _ rfl x, ?_⟩
  exact fun p hp => absurd hp List.not_mem_nil

theorem out_b (hc0 : ¬cond0_0 i) (hc1 : ¬cond0_1 i) (hc2 : cond0_2 i) (hc3 : ¬cond0_3 i) (xs0 : Vec Ideal S1024x2048 .bf16) :
    out0_B_5 (F := Ideal) cc i arg2 harg2 arg3 harg3 arg4 harg4 arg5 harg5 arg6 harg6 arg7 harg7 arg8 harg8 hc0 hc1 hc2 hc3 x0 x1 x2 x3 x4 xs0 = turned xs0 x2 (k0_pay40 x3) (k0_pay41 x4) := by
  unfold out0_B_5
  rw [View.read_writes_junk_eq_canon]
  funext y
  exact View.canon_apply_of_pieces _ _ (pieces_b cc i arg2 harg2 arg3 harg3 arg4 harg4 arg5 harg5 arg6 harg6 arg7 harg7 arg8 harg8 x0 x1 x2 x3 x4 hc0 hc1 hc2 hc3 xs0) y
    (cover0_B_5 cc i arg2 harg2 arg3 harg3 arg4 harg4 arg5 harg5 arg6 harg6 arg7 harg7 arg8 harg8 hc0 hc1 hc2 hc3 x0 x1 x2 x3 x4 xs0 y)

end Cert.Proof.ProjIn
end
-- ==== Proof.ProjRun.lean ====
module

public import proofs.«01_k».proof.Proof.ProjRef
public import proofs.«01_k».proof.Proof.ProjA
public import proofs.«01_k».proof.Proof.ProjB
public import proofs.«01_k».proof.Proof.ProjC
public import Idealize.ShloMosaic.Lib.StableHlo.Run

@[expose] public section

set_option maxRecDepth 16384

noncomputable section

/-! ## The input projection's array, block by block -/

namespace Cert.Proof.ProjIn

open Idealize.ShloMosaic Idealize.ShloMosaic.TcCoe Idealize.SL.Sem Idealize.ShloMosaic.StableHlo
open Cert.Kernel4Ideal Cert.Kernel4Ideal.Gen

variable (m : (ℓ : Loc nD τ sig) → Buf (Elt Ideal) ℓ) (ρ : Dev nD → PrngReg) (c : Dev nD)

/-- The weights. -/
def wts (X : FVec Ideal S2048x8192 .f32) : FVec Ideal S2048x8192 .bf16 := truncf .bf16 X bitsLt_bf16_f32

theorem V_x : V m c main_v28 = shapeCast S16384x2048 (m ((c : Thread nD τ).loc main_arg0)) shapeCasts_S2x8192x2048_S16384x2048 := by
  show StableHlo.after hostOps0 _ (Proc.devRef .tc main_v28) = _
  after_results
  rfl
theorem V_g : V m c main_v30 = shapeCast S1x2048 (m ((c : Thread nD τ).loc main_arg2)) shapeCasts_S2048_S1x2048 := by
  show StableHlo.after hostOps0 _ (Proc.devRef .tc main_v30) = _
  after_results
  rfl
theorem V_w : V m c main_v29 = wts (m ((c : Thread nD τ).loc main_arg3)) := by
  show StableHlo.after hostOps0 _ (Proc.devRef .tc main_v29) = _
  after_results
  rfl
theorem V_c : V m c main_v22 = kCos (m ((c : Thread nD τ).loc main_arg1)) := by
  show StableHlo.after hostOps0 _ (Proc.devRef .tc main_v22) = _
  after_results
  rfl
theorem V_s : V m c main_v27 = kSin (m ((c : Thread nD τ).loc main_arg1)) := by
  show StableHlo.after hostOps0 _ (Proc.devRef .tc main_v27) = _
  after_results
  rfl

theorem gw_apply (g : Vec Ideal S2048 .f32) (n : Fin 2048) : shapeCast S1x2048 g shapeCasts_S2048_S1x2048 (ix2 0 n) = g (ix1 n) := by
  pointwise []

theorem tr_q (n : Fin 16) : (BitVec.ofNat 32 n.val).toNat = n.val := by revert n; decide
theorem tr_j (n : Fin 4) : (BitVec.ofNat 32 n.val).toNat = n.val := by revert n; decide
theorem co0 (t : Fin cfg0.N) : (grid0.coords t 0).val = t.val / 4 := by revert t; decide
theorem co1 (t : Fin cfg0.N) : (grid0.coords t 1).val = t.val % 4 := by revert t; decide
theorem tr0 (i : grid0.Coords) : cc0_transform_0 i = ![(i 0).val, 0] := by
  show ![(BitVec.ofNat 32 (i 0).val).toNat, _] = _
  rw [tr_q (i 0)]; rfl
theorem tr2 (i : grid0.Coords) : cc0_transform_2 i = ![0, (i 1).val] := by
  show ![_, (BitVec.ofNat 32 (i 1).val).toNat] = _
  rw [tr_j (i 1)]; rfl
theorem tr3 (i : grid0.Coords) : cc0_transform_3 i = ![(i 0).val, 0] := by
  show ![(BitVec.ofNat 32 (i 0).val).toNat, _] = _
  rw [tr_q (i 0)]; rfl
theorem tr4 (i : grid0.Coords) : cc0_transform_4 i = ![(i 0).val, 0] := by
  show ![(BitVec.ofNat 32 (i 0).val).toNat, _] = _
  rw [tr_q (i 0)]; rfl
theorem tr5 (i : grid0.Coords) : cc0_transform_5 i = ![(i 0).val, (i 1).val] := by
  show ![(BitVec.ofNat 32 (i 0).val).toNat, (BitVec.ofNat 32 (i 1).val).toNat] = _
  rw [tr_q (i 0), tr_j (i 1)]

theorem pt_lt (t : Fin cfg0.N) : t.val < 64 := lt_of_lt_of_eq t.isLt (by decide)

/-- The row and the column of the whole array at a block's place. -/
def row (t : Fin cfg0.N) (y : Fin 1024) : Fin 16384 := ⟨1024 * (t.val / 4) + y.val, by have := pt_lt t; omega⟩
def col (t : Fin cfg0.N) (n : Fin 2048) : Fin 8192 := ⟨2048 * (t.val % 4) + n.val, by omega⟩

theorem blk0 (t : Fin cfg0.N) (X : S16384x2048.Idx → Elt Ideal .f32) (y : Fin 1024) (n : Fin 2048) :
    ((cfg0.win 0).blk t).view.read (Elt Ideal) X (ix2 y n) = X (ix2 (row t y) n) := by
  show X ((win0_0.rect t).emb _) = _
  refine congrArg X (funext fun k => ?_)
  fin_cases k
  · apply Fin.ext
    refine (Pipeline.Window.rect_emb_val win0_0 t _ 0).trans ?_
    show cc0_transform_0 (grid0.coords t) 0 * 1024 + y.val = 1024 * (t.val / 4) + y.val
    rw [tr0, ← co0, Nat.mul_comm]; rfl
  · apply Fin.ext
    refine (Pipeline.Window.rect_emb_val win0_0 t _ 1).trans ?_
    show 0 * 2048 + n.val = n.val
    omega
theorem blk1 (t : Fin cfg0.N) (X : S1x2048.Idx → Elt Ideal .f32) : ((cfg0.win 1).blk t).view.read (Elt Ideal) X = X := by
  funext y
  show X ((win0_1.rect t).emb y) = _
  refine congrArg X (funext fun a => ?_)
  fin_cases a
  · apply Fin.ext
    refine (Pipeline.Window.rect_emb_val win0_1 t y 0).trans ?_
    show 0 * 1 + (y 0).val = (y 0).val
    omega
  · apply Fin.ext
    refine (Pipeline.Window.rect_emb_val win0_1 t y 1).trans ?_
    show 0 * 2048 + (y 1).val = (y 1).val
    omega
theorem blk2 (t : Fin cfg0.N) (X : S2048x8192.Idx → Elt Ideal .bf16) (k n : Fin 2048) :
    ((cfg0.win 2).blk t).view.read (Elt Ideal) X (ix2 k n) = X (ix2 k (col t n)) := by
  show X ((win0_2.rect t).emb _) = _
  refine congrArg X (funext fun a => ?_)
  fin_cases a
  · apply Fin.ext
    refine (Pipeline.Window.rect_emb_val win0_2 t _ 0).trans ?_
    show 0 * 2048 + k.val = k.val
    omega
  · apply Fin.ext
    refine (Pipeline.Window.rect_emb_val win0_2 t _ 1).trans ?_
    show cc0_transform_2 (grid0.coords t) 1 * 2048 + n.val = 2048 * (t.val % 4) + n.val
    rw [tr2, ← co1, Nat.mul_comm]; rfl
theorem blk3 (t : Fin cfg0.N) (X : S16384x128.Idx → Elt Ideal .f32) (y : Fin 1024) (n : Fin 128) :
    ((cfg0.win 3).blk t).view.read (Elt Ideal) X (ix2 y n) = X (ix2 (row t y) n) := by
  show X ((win0_3.rect t).emb _) = _
  refine congrArg X (funext fun k => ?_)
  fin_cases k
  · apply Fin.ext
    refine (Pipeline.Window.rect_emb_val win0_3 t _ 0).trans ?_
    show cc0_transform_3 (grid0.coords t) 0 * 1024 + y.val = 1024 * (t.val / 4) + y.val
    rw [tr3, ← co0, Nat.mul_comm]; rfl
  · apply Fin.ext
    refine (Pipeline.Window.rect_emb_val win0_3 t _ 1).trans ?_
    show 0 * 128 + n.val = n.val
    omega
theorem blk4 (t : Fin cfg0.N) (X : S16384x128.Idx → Elt Ideal .f32) (y : Fin 1024) (n : Fin 128) :
    ((cfg0.win 4).blk t).view.read (Elt Ideal) X (ix2 y n) = X (ix2 (row t y) n) := by
  show X ((win0_4.rect t).emb _) = _
  refine congrArg X (funext fun k => ?_)
  fin_cases k
  · apply Fin.ext
    refine (Pipeline.Window.rect_emb_val win0_4 t _ 0).trans ?_
    show cc0_transform_4 (grid0.coords t) 0 * 1024 + y.val = 1024 * (t.val / 4) + y.val
    rw [tr4, ← co0, Nat.mul_comm]; rfl
  · apply Fin.ext
    refine (Pipeline.Window.rect_emb_val win0_4 t _ 1).trans ?_
    show 0 * 128 + n.val = n.val
    omega
theorem blk5 (t : Fin cfg0.N) (X : S16384x8192.Idx → Elt Ideal .bf16) (y : Fin 1024) (n : Fin 2048) :
    ((cfg0.win 5).blk t).view.read (Elt Ideal) X (ix2 y n) = X (ix2 (row t y) (col t n)) := by
  show X ((win0_5.rect t).emb _) = _
  refine congrArg X (funext fun k => ?_)
  fin_cases k
  · apply Fin.ext
    refine (Pipeline.Window.rect_emb_val win0_5 t _ 0).trans ?_
    show cc0_transform_5 (grid0.coords t) 0 * 1024 + y.val = 1024 * (t.val / 4) + y.val
    rw [tr5, ← co0, Nat.mul_comm]; rfl
  · apply Fin.ext
    refine (Pipeline.Window.rect_emb_val win0_5 t _ 1).trans ?_
    show cc0_transform_5 (grid0.coords t) 1 * 2048 + n.val = 2048 * (t.val % 4) + n.val
    rw [tr5, ← co1, Nat.mul_comm]; rfl

theorem cover (i : S16384x8192.Idx) : ∃ t : Fin cfg0.N, (cfg0.win 5).flush t = true ∧ i ∈ ((cfg0.win 5).blk t).view.set :=
  (Value.covered_iff5 i).mpr ⟨Nat.zero_le _, (i 0).isLt, Nat.zero_le _, (i 1).isLt⟩

theorem iblk_0 (t : Fin cfg0.N) (y : Fin 1024) (n : Fin 2048) : iblk m c 0 t (ix2 y n)
    = (m ((c : Thread nD τ).loc main_arg0)) (ix3 ⟨(row t y).val / 8192, by have := (row t y).isLt; omega⟩ ⟨(row t y).val % 8192, Nat.mod_lt _ (by decide)⟩ n) := by
  refine (blk0 t (V m c main_v28) y n).trans ?_
  rw [V_x]
  exact OutFinal.flat_apply _ _ _
theorem iblk_1 (t : Fin cfg0.N) (n : Fin 2048) : iblk m c 1 t (ix2 0 n) = (m ((c : Thread nD τ).loc main_arg2)) (ix1 n) := by
  refine (congrFun (blk1 t (V m c main_v30)) _).trans ?_
  rw [V_g]
  exact gw_apply _ _
theorem iblk_2 (t : Fin cfg0.N) (k n : Fin 2048) : iblk m c 2 t (ix2 k n) = (m ((c : Thread nD τ).loc main_arg3)) (ix2 k (col t n)) := by
  refine (blk2 t (V m c main_v29) k n).trans ?_
  rw [V_w]
  rfl
theorem iblk_3 (t : Fin cfg0.N) (y : Fin 1024) (n : Fin 128) : iblk m c 3 t (ix2 y n) = kCos (m ((c : Thread nD τ).loc main_arg1)) (ix2 (row t y) n) := by
  refine (blk3 t (V m c main_v22) y n).trans ?_
  rw [V_c]
theorem iblk_4 (t : Fin cfg0.N) (y : Fin 1024) (n : Fin 128) : iblk m c 4 t (ix2 y n) = kSin (m ((c : Thread nD τ).loc main_arg1)) (ix2 (row t y) n) := by
  refine (blk4 t (V m c main_v27) y n).trans ?_
  rw [V_s]

/-- A row of the input, normed. -/
def nrow (r : Fin 16384) (k : Fin 2048) : EReal :=
  OutFinal.normed (fun n => (m ((c : Thread nD τ).loc main_arg0)) (ix3 ⟨r.val / 8192, by omega⟩ ⟨r.val % 8192, Nat.mod_lt _ (by decide)⟩ n))
    (fun n => (m ((c : Thread nD τ).loc main_arg2)) (ix1 n)) k

theorem rows_at (t : Fin cfg0.N) (y : Fin 1024) (k : Fin 2048) : k0_pay1 (F := Ideal) (iblk m c 0 t) (iblk m c 1 t) (ix2 y k) = nrow m c (row t y) k := by
  rw [norm_apply]
  simp only [iblk_0, iblk_1]
  rfl

/-- What the scratch rows hold after a point. -/
theorem left (n : Nat) : ∀ (hn : n < cfg0.N) (y : Fin 1024) (k : Fin 2048),
    (outsAt0 m c n hn).2 (ix2 y k) = nrow m c (row ⟨n, hn⟩ y) k := by
  induction n with
  | zero =>
    intro hn y k
    have e := outsAt0_A m c ⟨0, hn⟩ rfl rfl (by show ¬0 % 4 = 1; omega) (by show ¬2 ≤ 0 % 4; omega)
    refine (congrFun (congrArg Prod.snd e) _).trans ?_
    dsimp only
    rw [left_a]
    exact rows_at m c ⟨0, hn⟩ y k
  | succ n ih =>
    intro hn y k
    have hr : (n + 1) % 4 ≠ 0 → row ⟨n, Nat.lt_of_succ_lt hn⟩ y = row ⟨n + 1, hn⟩ y := fun h => Fin.ext (by
      show 1024 * (n / 4) + y.val = 1024 * ((n + 1) / 4) + y.val
      omega)
    by_cases h0 : (n + 1) % 4 = 0
    · have e := outsAt0_A m c ⟨n + 1, hn⟩ h0 h0 (by show ¬(n + 1) % 4 = 1; omega) (by show ¬2 ≤ (n + 1) % 4; omega)
      refine (congrFun (congrArg Prod.snd e) _).trans ?_
      dsimp only
      rw [left_a]
      exact rows_at m c ⟨n + 1, hn⟩ y k
    · by_cases h1 : (n + 1) % 4 = 1
      · have e := outsAt0_B m c ⟨n + 1, hn⟩ h0 h0 h1 (by show ¬2 ≤ (n + 1) % 4; omega)
        refine (congrFun (congrArg Prod.snd e) _).trans ?_
        rw [← hr h0]
        exact ih _ y k
      · have e := outsAt0_C m c ⟨n + 1, hn⟩ h0 h0 h1 (by show 2 ≤ (n + 1) % 4; omega)
        refine (congrFun (congrArg Prod.snd e) _).trans ?_
        rw [← hr h0]
        exact ih _ y k

/-- The array both programs end with. -/
def result : FVec Ideal S16384x8192 .bf16 :=
  ref (m ((c : Thread nD τ).loc main_arg0)) (m ((c : Thread nD τ).loc main_arg1)) (m ((c : Thread nD τ).loc main_arg2)) (m ((c : Thread nD τ).loc main_arg3))

theorem cut_at (t : Fin cfg0.N) (X : S1024x2048.Idx → Elt Ideal .bf16) : (cfg0.win 5).cut (grid0.coords t) X = X := by
  rfl

end Cert.Proof.ProjIn
end
-- ==== Proof.ProjOut.lean ====
module

public import proofs.«01_k».proof.Proof.ProjRun

@[expose] public section

set_option maxRecDepth 16384

noncomputable section

/-! ## The input projection: what is written back, and the run -/

namespace Cert.Proof.ProjIn

open Idealize.ShloMosaic Idealize.ShloMosaic.TcCoe Idealize.SL.Sem Idealize.ShloMosaic.StableHlo
open Cert.Kernel4Ideal Cert.Kernel4Ideal.Gen

variable (m : (ℓ : Loc nD τ sig) → Buf (Elt Ideal) ℓ) (ρ : Dev nD → PrngReg) (c : Dev nD)

theorem plain_cos (X : Vec Ideal S1024x128 .f32) (y : Fin 1024) (n : Fin 128) : k0_pay40 (F := Ideal) X (ix2 y n) = X (ix2 y n) := by
  pointwise [k0_pay40]
theorem plain_sin (X : Vec Ideal S1024x128 .f32) (y : Fin 1024) (n : Fin 128) : k0_pay41 (F := Ideal) X (ix2 y n) = X (ix2 y n) := by
  pointwise [k0_pay41]
theorem scaled_cos (X : Vec Ideal S1024x128 .f32) (y : Fin 1024) (n : Fin 128) : k0_pay12 (F := Ideal) X (ix2 y n) = X (ix2 y n) * kap := by
  pointwise [k0_pay12, kap]
theorem scaled_sin (X : Vec Ideal S1024x128 .f32) (y : Fin 1024) (n : Fin 128) : k0_pay13 (F := Ideal) X (ix2 y n) = X (ix2 y n) * kap := by
  pointwise [k0_pay13, kap]

/-- A product of the normed rows with a column of the weights. -/
def entry (r : Fin 16384) (k : Fin 8192) : EReal := ∑ i : Fin 2048, nrow m c r i * (m ((c : Thread nD τ).loc main_arg3)) (ix2 i k)

theorem prod_at (h : Vec Ideal S1024x2048 .bf16) (t : Fin cfg0.N) (y : Fin 1024) (hh : ∀ k : Fin 2048, h (ix2 y k) = nrow m c (row t y) k) (n : Fin 2048) :
    prod h (iblk m c 2 t) (ix2 y n) = entry m c (row t y) (col t n) := by
  show (∑ k : Fin 2048, h (ix2 y k) * iblk m c 2 t (ix2 k n)) = _
  simp only [iblk_2, hh]
  rfl

theorem ref_entry (r : Fin 16384) (k : Fin 8192) :
    rP (OutFinal.rN (m ((c : Thread nD τ).loc main_arg0)) (m ((c : Thread nD τ).loc main_arg2))) (m ((c : Thread nD τ).loc main_arg3)) (ix3 ⟨r.val / 8192, by omega⟩ ⟨r.val % 8192, Nat.mod_lt _ (by decide)⟩ k) = entry m c r k :=
  proj_apply _ _ _ _ _ _

/-- The tables' entries at a row. -/
def cosRow (r : Fin 16384) (k : Fin 64) : EReal := rCos (m ((c : Thread nD τ).loc main_arg1)) (ix3 ⟨r.val / 8192, by omega⟩ ⟨r.val % 8192, Nat.mod_lt _ (by decide)⟩ k)
def sinRow (r : Fin 16384) (k : Fin 64) : EReal := rSin (m ((c : Thread nD τ).loc main_arg1)) (ix3 ⟨r.val / 8192, by omega⟩ ⟨r.val % 8192, Nat.mod_lt _ (by decide)⟩ k)

theorem result_0 (t : Fin cfg0.N) (ht : t.val % 4 = 0) (y : Fin 1024) (n : Fin 2048) :
    result m c (ix2 (row t y) (col t n)) = spun (fun n => entry m c (row t y) (col t n)) (cosRow m c (row t y)) (sinRow m c (row t y)) n * kap := by
  unfold result ref
  rw [refOf_0 _ _ _ (row t y) n (col t n) (by show 2048 * (t.val % 4) + n.val = n.val; omega)]
  have e : ∀ n : Fin 2048, (⟨n.val, by omega⟩ : Fin 8192) = col t n := fun n => Fin.ext (by show n.val = 2048 * (t.val % 4) + n.val; omega)
  simp only [ref_entry, e]
  rfl

theorem result_1 (t : Fin cfg0.N) (ht : t.val % 4 = 1) (y : Fin 1024) (n : Fin 2048) :
    result m c (ix2 (row t y) (col t n)) = spun (fun n => entry m c (row t y) (col t n)) (cosRow m c (row t y)) (sinRow m c (row t y)) n := by
  unfold result ref
  rw [refOf_1 _ _ _ (row t y) n (col t n) (by show 2048 * (t.val % 4) + n.val = 2048 + n.val; omega)]
  have e : ∀ n : Fin 2048, (⟨2048 + n.val, by omega⟩ : Fin 8192) = col t n := fun n => Fin.ext (by show 2048 + n.val = 2048 * (t.val % 4) + n.val; omega)
  simp only [ref_entry, e]
  rfl

theorem result_2 (t : Fin cfg0.N) (ht : 2 ≤ t.val % 4) (y : Fin 1024) (n : Fin 2048) :
    result m c (ix2 (row t y) (col t n)) = entry m c (row t y) (col t n) := by
  unfold result ref
  rw [refOf_2 _ _ _ (row t y) (col t n) (by show 4096 ≤ 2048 * (t.val % 4) + n.val; omega)]
  exact ref_entry m c _ _

theorem turned_scaled (h : Vec Ideal S1024x2048 .bf16) (t : Fin cfg0.N) (y : Fin 1024) (hh : ∀ k : Fin 2048, h (ix2 y k) = nrow m c (row t y) k) (n : Fin 2048) :
    turned h (iblk m c 2 t) (k0_pay12 (iblk m c 3 t)) (k0_pay13 (iblk m c 4 t)) (ix2 y n)
      = spun (fun n => entry m c (row t y) (col t n)) (cosRow m c (row t y)) (sinRow m c (row t y)) n * kap := by
  show prod h (iblk m c 2 t) (ix2 y n) * k0_pay12 (F := Ideal) (iblk m c 3 t) (ix2 y (lane n)) + prod h (iblk m c 2 t) (ix2 y (mate n)) * k0_pay13 (F := Ideal) (iblk m c 4 t) (ix2 y (lane n)) = _
  rw [prod_at m c h t y hh, prod_at m c h t y hh, scaled_cos, scaled_sin, iblk_3, iblk_4, kCos_apply, kSin_apply, spun_kap]
  rfl

theorem turned_plain (h : Vec Ideal S1024x2048 .bf16) (t : Fin cfg0.N) (y : Fin 1024) (hh : ∀ k : Fin 2048, h (ix2 y k) = nrow m c (row t y) k) (n : Fin 2048) :
    turned h (iblk m c 2 t) (k0_pay40 (iblk m c 3 t)) (k0_pay41 (iblk m c 4 t)) (ix2 y n)
      = spun (fun n => entry m c (row t y) (col t n)) (cosRow m c (row t y)) (sinRow m c (row t y)) n := by
  show prod h (iblk m c 2 t) (ix2 y n) * k0_pay40 (F := Ideal) (iblk m c 3 t) (ix2 y (lane n)) + prod h (iblk m c 2 t) (ix2 y (mate n)) * k0_pay41 (F := Ideal) (iblk m c 4 t) (ix2 y (lane n)) = _
  rw [prod_at m c h t y hh, prod_at m c h t y hh, plain_cos, plain_sin, iblk_3, iblk_4, kCos_apply, kSin_apply]
  rfl

theorem left_before (t : Fin cfg0.N) (ht : t.val % 4 ≠ 0) (hn : t.val - 1 < cfg0.N) (y : Fin 1024) (k : Fin 2048) :
    (outsAt0 m c (t.val - 1) hn).2 (ix2 y k) = nrow m c (row t y) k := by
  rw [left m c (t.val - 1) hn y k]
  refine congrArg (fun r => nrow m c r k) (Fin.ext ?_)
  show 1024 * ((t.val - 1) / 4) + y.val = 1024 * (t.val / 4) + y.val
  omega

theorem flushed_at (t : Fin cfg0.N) (y : Fin 1024) (n : Fin 2048) :
    ((dats m 0 c).flushed 5 t : S1024x2048.Idx → Elt Ideal .bf16) (ix2 y n) = result m c (ix2 (row t y) (col t n)) := by
  by_cases h0 : t.val % 4 = 0
  · have e := Value.flushed5_A m c t h0 h0 (by omega) (by omega)
    refine (congrFun (e.trans (cut_at t _)) (ix2 y n)).trans ?_
    rw [out_a, result_0 m c t h0]
    exact turned_scaled m c _ t y (rows_at m c t y) n
  · by_cases h1 : t.val % 4 = 1
    · have e := Value.flushed5_B m c t h0 h0 h1 (by omega)
      refine (congrFun (e.trans (cut_at t _)) (ix2 y n)).trans ?_
      rw [out_b, result_1 m c t h1]
      exact turned_plain m c _ t y (left_before m c t h0 _ y) n
    · have e := Value.flushed5_C m c t h0 h0 h1 (by omega)
      refine (congrFun (e.trans (cut_at t _)) (ix2 y n)).trans ?_
      rw [out_c, result_2 m c t (by omega)]
      exact prod_at m c _ t y (left_before m c t h0 _ y) n

theorem flushed_eq (t : Fin cfg0.N) (_ : (cfg0.win 5).flush t = true) :
    (dats m 0 c).flushed 5 t = ((cfg0.win 5).blk t).view.read (Elt Ideal) (result m c) := by
  funext i
  have e : i = (ix2 (i 0) (i 1) : S1024x2048.Idx) := by
    funext k
    fin_cases k <;> rfl
  rw [e]
  exact (flushed_at m c t (i 0) (i 1)).trans (blk5 t (result m c) (i 0) (i 1)).symm

theorem run_value : θ_run defs (onTc (τ := τ) (main (F := Ideal))) ⟨m, fun _ => 0, ρ⟩ fun r => ∀ c : Dev nD,
      r.2.mem ((c.tc : Thread nD τ).loc main_v31) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((dats m 0 c).arrAt_eq_of_cover 5 (result m c) (flushed_eq m c) cover), (h c).2⟩)
    (Value.run_blocks m ρ)

end Cert.Proof.ProjIn
end
-- ==== Proof.lean ====
/- The proof of the certificate's claim: the parts are proved in the modules under Proof/ and put together here. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.KRun
public import proofs.«01_k».proof.Proof.Run
public import proofs.«01_k».proof.Proof.VFin
public import proofs.«01_k».proof.Proof.VPre
public import proofs.«01_k».proof.Proof.OutFinalRun
public import proofs.«01_k».proof.Proof.OutPlainRun
public import proofs.«01_k».proof.Proof.ProjOut
public import Idealize.ShloMosaic.Adequacy
public import Idealize.ShloMosaic.Init

@[expose] public section

noncomputable section

namespace Cert.Proof

open Idealize.ShloMosaic Idealize.SL Idealize.SL.Sem

theorem frame_p : Cert.quiescent_Kernel := fun m ρ _ => Cert.Proof.Kernel.quiescent (F := Bits) m ρ

theorem frame_pi : Cert.quiescent_KernelIdeal := fun m ρ _ => Cert.Proof.KernelIdeal.quiescent (F := Ideal) m ρ

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

theorem fine_of (m : (ℓ : Loc Cert.KernelIdeal.nD Cert.KernelIdeal.τ Cert.KernelIdeal.sig) → Buf (Elt Ideal) ℓ)
    (h : Cert.Pre_KernelIdeal_finite m) (c : Dev Cert.KernelIdeal.nD) : Cert.Proof.KernelIdeal.FineAt m c :=
  Cert.Proof.Pre.decode _ _ _ _ _ _ (h c)

/-- Over real queries, keys, values and lambda vectors, with any gate and any norm weight, both programs end with one array. -/
theorem algebraic : Cert.algebraic_KernelIdeal_ReferenceIdeal_pre_finite := by
  intro m g m' g' hpre hagree
  refine ⟨fun c => Cert.Proof.KernelIdeal.result m c, Cert.Proof.KernelIdeal.run_value m g (fine_of m hpre), ?_⟩
  refine (θ_run Cert.ReferenceIdeal.defs _ _).mono (fun _ h c => ⟨(h c).1.trans ?_, (h c).2⟩) (Cert.ReferenceIdeal.Value.run (F := Ideal) m' g')
  obtain ⟨a0, a1, a2, a3, a4, a5⟩ := hagree c
  rw [Cert.Proof.ReferenceIdeal.res_eq, a0, a1, a2, a3, a4, a5]
  rfl

theorem frame_p2 : Cert.quiescent_Kernel2 := fun m ρ _ => Cert.Kernel2.Gen.frame m ρ

theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem preserves2 : Cert.preserves_Kernel2_Kernel2Ideal := trivial

/-- The last layer's output projection, residual sum and norm. -/
theorem algebraic2 : Cert.algebraic_Kernel2Ideal_Reference2Ideal := by
  intro m g m' g' _ hagree
  refine ⟨fun c => Cert.Proof.OutFinal.result m c, Cert.Proof.OutFinal.run_value m g, ?_⟩
  refine (θ_run Cert.Reference2Ideal.defs _ _).mono (fun _ h c => ⟨(h c).1.trans ?_, (h c).2⟩) (Cert.Reference2Ideal.Value.run (F := Ideal) m' g')
  obtain ⟨a0, a1, a2, a3⟩ := hagree c
  rw [a0, a1, a2, a3]
  rfl

theorem frame_p3 : Cert.quiescent_Kernel3 := fun m ρ _ => Cert.Kernel3.Gen.frame m ρ

theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem preserves3 : Cert.preserves_Kernel3_Kernel3Ideal := trivial

/-- An output projection before the last layer, and the residual sum. -/
theorem algebraic3 : Cert.algebraic_Kernel3Ideal_Reference3Ideal := by
  intro m g m' g' _ hagree
  refine ⟨fun c => Cert.Proof.OutPlain.result m c, Cert.Proof.OutPlain.run_value m g, ?_⟩
  refine (θ_run Cert.Reference3Ideal.defs _ _).mono (fun _ h c => ⟨(h c).1.trans ?_, (h c).2⟩) (Cert.Reference3Ideal.Value.run (F := Ideal) m' g')
  obtain ⟨a0, a1, a2, a3⟩ := hagree c
  rw [a0, a1, a2]
  rfl

theorem frame_p4 : Cert.quiescent_Kernel4 := fun m ρ _ => Cert.Kernel4.Gen.frame m ρ

theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem preserves4 : Cert.preserves_Kernel4_Kernel4Ideal := trivial

/-- The differential attention's norm and input projection, with the rotation of queries and keys. -/
theorem algebraic4 : Cert.algebraic_Kernel4Ideal_Reference4Ideal := by
  intro m g m' g' _ hagree
  refine ⟨fun c => Cert.Proof.ProjIn.result m c, Cert.Proof.ProjIn.run_value m g, ?_⟩
  refine (θ_run Cert.Reference4Ideal.defs _ _).mono (fun _ h c => ⟨(h c).1.trans ?_, (h c).2⟩) (Cert.Reference4Ideal.Value.run (F := Ideal) m' g')
  obtain ⟨a0, a1, a2, a3⟩ := hagree c
  rw [Cert.Proof.ProjIn.ref_is, a0, a1, a2, a3]
  rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  frame_p, frame_pi, fun m ρ _ => frame_pi m ρ trivial, frame_ri, fun m ρ _ => frame_ri m ρ trivial,
  frame_p2, frame_pi2, frame_ri2, frame_p3, frame_pi3, frame_ri3, frame_p4, frame_pi4, frame_ri4,
  preserves, algebraic, preserves2, algebraic2, preserves3, algebraic3, preserves4, algebraic4⟩

end Cert.Proof

end
